-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Codes (m : (ℓ : Loc Cert.Codes.nD Cert.Codes.τ Cert.Codes.sig) → Buf (Elt Bits) ℓ) : Prop :=
  True

def Pre_CodesIdeal (m : (ℓ : Loc Cert.CodesIdeal.nD Cert.CodesIdeal.τ Cert.CodesIdeal.sig) → Buf (Elt Ideal) ℓ) : Prop :=
  True

def Pre_CodesIdeal_finite_tokens [hPre_finite_tokens : Cert.Pre_finite_tokens.Facts] (m : (ℓ : Loc Cert.CodesIdeal.nD Cert.CodesIdeal.τ Cert.CodesIdeal.sig) → Buf (Elt Ideal) ℓ) : Prop :=
  ∀ c : Dev Cert.CodesIdeal.nD,
    (Cert.Pre_finite_tokens.fn (F := Ideal) (m ((c.tc : Thread Cert.CodesIdeal.nD Cert.CodesIdeal.τ).loc Cert.CodesIdeal.main_arg0)) (m ((c.tc : Thread Cert.CodesIdeal.nD Cert.CodesIdeal.τ).loc Cert.CodesIdeal.main_arg1))) = (fun _ => 1#1)

def Pre_CodesReferenceIdeal (m : (ℓ : Loc Cert.CodesReferenceIdeal.nD Cert.CodesReferenceIdeal.τ Cert.CodesReferenceIdeal.sig) → Buf (Elt Ideal) ℓ) : Prop :=
  True

def Pre_CodesReferenceIdeal_finite_tokens [hPre_finite_tokens : Cert.Pre_finite_tokens.Facts] (m : (ℓ : Loc Cert.CodesReferenceIdeal.nD Cert.CodesReferenceIdeal.τ Cert.CodesReferenceIdeal.sig) → Buf (Elt Ideal) ℓ) : Prop :=
  ∀ c : Dev Cert.CodesReferenceIdeal.nD,
    (Cert.Pre_finite_tokens.fn (F := Ideal) (m ((c.tc : Thread Cert.CodesReferenceIdeal.nD Cert.CodesReferenceIdeal.τ).loc Cert.CodesReferenceIdeal.main_arg0)) (m ((c.tc : Thread Cert.CodesReferenceIdeal.nD Cert.CodesReferenceIdeal.τ).loc Cert.CodesReferenceIdeal.main_arg1))) = (fun _ => 1#1)

def Pre_Lookup [hPre_in_rows : Cert.Pre_in_rows.Facts] (m : (ℓ : Loc Cert.Lookup.nD Cert.Lookup.τ Cert.Lookup.sig) → Buf (Elt Bits) ℓ) : Prop :=
  ∀ c : Dev Cert.Lookup.nD,
    (Cert.Pre_in_rows.fn (F := Bits) (m ((c.tc : Thread Cert.Lookup.nD Cert.Lookup.τ).loc Cert.Lookup.main_arg0)) (m ((c.tc : Thread Cert.Lookup.nD Cert.Lookup.τ).loc Cert.Lookup.main_arg1))) = (fun _ => 1#1)

def Pre_LookupIdeal [hPre_in_rows : Cert.Pre_in_rows.Facts] (m : (ℓ : Loc Cert.LookupIdeal.nD Cert.LookupIdeal.τ Cert.LookupIdeal.sig) → Buf (Elt Ideal) ℓ) : Prop :=
  ∀ c : Dev Cert.LookupIdeal.nD,
    (Cert.Pre_in_rows.fn (F := Ideal) (m ((c.tc : Thread Cert.LookupIdeal.nD Cert.LookupIdeal.τ).loc Cert.LookupIdeal.main_arg0)) (m ((c.tc : Thread Cert.LookupIdeal.nD Cert.LookupIdeal.τ).loc Cert.LookupIdeal.main_arg1))) = (fun _ => 1#1)

def Pre_LookupReferenceIdeal (m : (ℓ : Loc Cert.LookupReferenceIdeal.nD Cert.LookupReferenceIdeal.τ Cert.LookupReferenceIdeal.sig) → Buf (Elt Ideal) ℓ) : Prop :=
  True

def Pre_LookupReferenceIdeal_in_rows [hPre_in_rows : Cert.Pre_in_rows.Facts] (m : (ℓ : Loc Cert.LookupReferenceIdeal.nD Cert.LookupReferenceIdeal.τ Cert.LookupReferenceIdeal.sig) → Buf (Elt Ideal) ℓ) : Prop :=
  ∀ c : Dev Cert.LookupReferenceIdeal.nD,
    (Cert.Pre_in_rows.fn (F := Ideal) (m ((c.tc : Thread Cert.LookupReferenceIdeal.nD Cert.LookupReferenceIdeal.τ).loc Cert.LookupReferenceIdeal.main_arg0)) (m ((c.tc : Thread Cert.LookupReferenceIdeal.nD Cert.LookupReferenceIdeal.τ).loc Cert.LookupReferenceIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Codes [hCodes : Cert.Codes.Facts] : Prop :=
  ∀ (m : (ℓ : Loc Cert.Codes.nD Cert.Codes.τ Cert.Codes.sig) → Buf (Elt Bits) ℓ) (g : Dev Cert.Codes.nD → PrngReg), Pre_Codes m →
    θ_run (Cert.Codes.defs (F := Bits)) (onTc (τ := Cert.Codes.τ) (Cert.Codes.main (F := Bits))) ⟨m, fun _ => 0, g⟩ (fun r => (∀ c : Dev Cert.Codes.nD,
      r.2.mem ((c.tc : Thread Cert.Codes.nD Cert.Codes.τ).loc Cert.Codes.main_arg0) = m ((c.tc : Thread Cert.Codes.nD Cert.Codes.τ).loc Cert.Codes.main_arg0)
      ∧ r.2.mem ((c.tc : Thread Cert.Codes.nD Cert.Codes.τ).loc Cert.Codes.main_arg1) = m ((c.tc : Thread Cert.Codes.nD Cert.Codes.τ).loc Cert.Codes.main_arg1))
      ∧ r.2.sem = fun _ => 0)

def quiescent_CodesIdeal [hCodesIdeal : Cert.CodesIdeal.Facts] : Prop :=
  ∀ (m : (ℓ : Loc Cert.CodesIdeal.nD Cert.CodesIdeal.τ Cert.CodesIdeal.sig) → Buf (Elt Ideal) ℓ) (g : Dev Cert.CodesIdeal.nD → PrngReg), Pre_CodesIdeal m →
    θ_run (Cert.CodesIdeal.defs (F := Ideal)) (onTc (τ := Cert.CodesIdeal.τ) (Cert.CodesIdeal.main (F := Ideal))) ⟨m, fun _ => 0, g⟩ (fun r => (∀ c : Dev Cert.CodesIdeal.nD,
      r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
      ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1))
      ∧ r.2.sem = fun _ => 0)

def quiescent_CodesIdeal_pre_finite_tokens [hCodesIdeal : Cert.CodesIdeal.Facts] [hPre_finite_tokens : Cert.Pre_finite_tokens.Facts] : Prop :=
  ∀ (m : (ℓ : Loc Cert.CodesIdeal.nD Cert.CodesIdeal.τ Cert.CodesIdeal.sig) → Buf (Elt Ideal) ℓ) (g : Dev Cert.CodesIdeal.nD → PrngReg), Pre_CodesIdeal_finite_tokens m →
    θ_run (Cert.CodesIdeal.defs (F := Ideal)) (onTc (τ := Cert.CodesIdeal.τ) (Cert.CodesIdeal.main (F := Ideal))) ⟨m, fun _ => 0, g⟩ (fun r => (∀ c : Dev Cert.CodesIdeal.nD,
      r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
      ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1))
      ∧ r.2.sem = fun _ => 0)

def quiescent_CodesReferenceIdeal [hCodesReferenceIdeal : Cert.CodesReferenceIdeal.Facts] : Prop :=
  ∀ (m : (ℓ : Loc Cert.CodesReferenceIdeal.nD Cert.CodesReferenceIdeal.τ Cert.CodesReferenceIdeal.sig) → Buf (Elt Ideal) ℓ) (g : Dev Cert.CodesReferenceIdeal.nD → PrngReg), Pre_CodesReferenceIdeal m →
    θ_run (Cert.CodesReferenceIdeal.defs (F := Ideal)) (onTc (τ := Cert.CodesReferenceIdeal.τ) (Cert.CodesReferenceIdeal.main (F := Ideal))) ⟨m, fun _ => 0, g⟩ (fun r => (∀ c : Dev Cert.CodesReferenceIdeal.nD,
      r.2.mem ((c.tc : Thread Cert.CodesReferenceIdeal.nD Cert.CodesReferenceIdeal.τ).loc Cert.CodesReferenceIdeal.main_arg0) = m ((c.tc : Thread Cert.CodesReferenceIdeal.nD Cert.CodesReferenceIdeal.τ).loc Cert.CodesReferenceIdeal.main_arg0)
      ∧ r.2.mem ((c.tc : Thread Cert.CodesReferenceIdeal.nD Cert.CodesReferenceIdeal.τ).loc Cert.CodesReferenceIdeal.main_arg1) = m ((c.tc : Thread Cert.CodesReferenceIdeal.nD Cert.CodesReferenceIdeal.τ).loc Cert.CodesReferenceIdeal.main_arg1))
      ∧ r.2.sem = fun _ => 0)

def quiescent_CodesReferenceIdeal_pre_finite_tokens [hCodesReferenceIdeal : Cert.CodesReferenceIdeal.Facts] [hPre_finite_tokens : Cert.Pre_finite_tokens.Facts] : Prop :=
  ∀ (m : (ℓ : Loc Cert.CodesReferenceIdeal.nD Cert.CodesReferenceIdeal.τ Cert.CodesReferenceIdeal.sig) → Buf (Elt Ideal) ℓ) (g : Dev Cert.CodesReferenceIdeal.nD → PrngReg), Pre_CodesReferenceIdeal_finite_tokens m →
    θ_run (Cert.CodesReferenceIdeal.defs (F := Ideal)) (onTc (τ := Cert.CodesReferenceIdeal.τ) (Cert.CodesReferenceIdeal.main (F := Ideal))) ⟨m, fun _ => 0, g⟩ (fun r => (∀ c : Dev Cert.CodesReferenceIdeal.nD,
      r.2.mem ((c.tc : Thread Cert.CodesReferenceIdeal.nD Cert.CodesReferenceIdeal.τ).loc Cert.CodesReferenceIdeal.main_arg0) = m ((c.tc : Thread Cert.CodesReferenceIdeal.nD Cert.CodesReferenceIdeal.τ).loc Cert.CodesReferenceIdeal.main_arg0)
      ∧ r.2.mem ((c.tc : Thread Cert.CodesReferenceIdeal.nD Cert.CodesReferenceIdeal.τ).loc Cert.CodesReferenceIdeal.main_arg1) = m ((c.tc : Thread Cert.CodesReferenceIdeal.nD Cert.CodesReferenceIdeal.τ).loc Cert.CodesReferenceIdeal.main_arg1))
      ∧ r.2.sem = fun _ => 0)

def quiescent_Lookup [hLookup : Cert.Lookup.Facts] [hPre_in_rows : Cert.Pre_in_rows.Facts] : Prop :=
  ∀ (m : (ℓ : Loc Cert.Lookup.nD Cert.Lookup.τ Cert.Lookup.sig) → Buf (Elt Bits) ℓ) (g : Dev Cert.Lookup.nD → PrngReg), Pre_Lookup m →
    θ_run (Cert.Lookup.defs (F := Bits)) (Cert.Lookup.threads (F := Bits)) ⟨m, fun _ => 0, g⟩ (fun r => (∀ c : Dev Cert.Lookup.nD,
      r.2.mem ((c.tc : Thread Cert.Lookup.nD Cert.Lookup.τ).loc Cert.Lookup.main_arg0) = m ((c.tc : Thread Cert.Lookup.nD Cert.Lookup.τ).loc Cert.Lookup.main_arg0)
      ∧ r.2.mem ((c.tc : Thread Cert.Lookup.nD Cert.Lookup.τ).loc Cert.Lookup.main_arg1) = m ((c.tc : Thread Cert.Lookup.nD Cert.Lookup.τ).loc Cert.Lookup.main_arg1))
      ∧ r.2.sem = fun _ => 0)

def quiescent_LookupIdeal [hLookupIdeal : Cert.LookupIdeal.Facts] [hPre_in_rows : Cert.Pre_in_rows.Facts] : Prop :=
  ∀ (m : (ℓ : Loc Cert.LookupIdeal.nD Cert.LookupIdeal.τ Cert.LookupIdeal.sig) → Buf (Elt Ideal) ℓ) (g : Dev Cert.LookupIdeal.nD → PrngReg), Pre_LookupIdeal m →
    θ_run (Cert.LookupIdeal.defs (F := Ideal)) (Cert.LookupIdeal.threads (F := Ideal)) ⟨m, fun _ => 0, g⟩ (fun r => (∀ c : Dev Cert.LookupIdeal.nD,
      r.2.mem ((c.tc : Thread Cert.LookupIdeal.nD Cert.LookupIdeal.τ).loc Cert.LookupIdeal.main_arg0) = m ((c.tc : Thread Cert.LookupIdeal.nD Cert.LookupIdeal.τ).loc Cert.LookupIdeal.main_arg0)
      ∧ r.2.mem ((c.tc : Thread Cert.LookupIdeal.nD Cert.LookupIdeal.τ).loc Cert.LookupIdeal.main_arg1) = m ((c.tc : Thread Cert.LookupIdeal.nD Cert.LookupIdeal.τ).loc Cert.LookupIdeal.main_arg1))
      ∧ r.2.sem = fun _ => 0)

def quiescent_LookupReferenceIdeal [hLookupReferenceIdeal : Cert.LookupReferenceIdeal.Facts] : Prop :=
  ∀ (m : (ℓ : Loc Cert.LookupReferenceIdeal.nD Cert.LookupReferenceIdeal.τ Cert.LookupReferenceIdeal.sig) → Buf (Elt Ideal) ℓ) (g : Dev Cert.LookupReferenceIdeal.nD → PrngReg), Pre_LookupReferenceIdeal m →
    θ_run (Cert.LookupReferenceIdeal.defs (F := Ideal)) (onTc (τ := Cert.LookupReferenceIdeal.τ) (Cert.LookupReferenceIdeal.main (F := Ideal))) ⟨m, fun _ => 0, g⟩ (fun r => (∀ c : Dev Cert.LookupReferenceIdeal.nD,
      r.2.mem ((c.tc : Thread Cert.LookupReferenceIdeal.nD Cert.LookupReferenceIdeal.τ).loc Cert.LookupReferenceIdeal.main_arg0) = m ((c.tc : Thread Cert.LookupReferenceIdeal.nD Cert.LookupReferenceIdeal.τ).loc Cert.LookupReferenceIdeal.main_arg0)
      ∧ r.2.mem ((c.tc : Thread Cert.LookupReferenceIdeal.nD Cert.LookupReferenceIdeal.τ).loc Cert.LookupReferenceIdeal.main_arg1) = m ((c.tc : Thread Cert.LookupReferenceIdeal.nD Cert.LookupReferenceIdeal.τ).loc Cert.LookupReferenceIdeal.main_arg1))
      ∧ r.2.sem = fun _ => 0)

def quiescent_LookupReferenceIdeal_pre_in_rows [hLookupReferenceIdeal : Cert.LookupReferenceIdeal.Facts] [hPre_in_rows : Cert.Pre_in_rows.Facts] : Prop :=
  ∀ (m : (ℓ : Loc Cert.LookupReferenceIdeal.nD Cert.LookupReferenceIdeal.τ Cert.LookupReferenceIdeal.sig) → Buf (Elt Ideal) ℓ) (g : Dev Cert.LookupReferenceIdeal.nD → PrngReg), Pre_LookupReferenceIdeal_in_rows m →
    θ_run (Cert.LookupReferenceIdeal.defs (F := Ideal)) (onTc (τ := Cert.LookupReferenceIdeal.τ) (Cert.LookupReferenceIdeal.main (F := Ideal))) ⟨m, fun _ => 0, g⟩ (fun r => (∀ c : Dev Cert.LookupReferenceIdeal.nD,
      r.2.mem ((c.tc : Thread Cert.LookupReferenceIdeal.nD Cert.LookupReferenceIdeal.τ).loc Cert.LookupReferenceIdeal.main_arg0) = m ((c.tc : Thread Cert.LookupReferenceIdeal.nD Cert.LookupReferenceIdeal.τ).loc Cert.LookupReferenceIdeal.main_arg0)
      ∧ r.2.mem ((c.tc : Thread Cert.LookupReferenceIdeal.nD Cert.LookupReferenceIdeal.τ).loc Cert.LookupReferenceIdeal.main_arg1) = m ((c.tc : Thread Cert.LookupReferenceIdeal.nD Cert.LookupReferenceIdeal.τ).loc Cert.LookupReferenceIdeal.main_arg1))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Codes_CodesIdeal : Prop :=
  True

def algebraic_CodesIdeal_CodesReferenceIdeal_pre_finite_tokens [hCodesIdeal : Cert.CodesIdeal.Facts] [hCodesReferenceIdeal : Cert.CodesReferenceIdeal.Facts] [hPre_finite_tokens : Cert.Pre_finite_tokens.Facts] : Prop :=
  ∀ (m : (ℓ : Loc Cert.CodesIdeal.nD Cert.CodesIdeal.τ Cert.CodesIdeal.sig) → Buf (Elt Ideal) ℓ) (g : Dev Cert.CodesIdeal.nD → PrngReg)
    (m' : (ℓ : Loc Cert.CodesReferenceIdeal.nD Cert.CodesReferenceIdeal.τ Cert.CodesReferenceIdeal.sig) → Buf (Elt Ideal) ℓ) (g' : Dev Cert.CodesReferenceIdeal.nD → PrngReg), Pre_CodesIdeal_finite_tokens m →
    (∀ c : Dev Cert.CodesIdeal.nD,
      m' ((c.tc : Thread Cert.CodesReferenceIdeal.nD Cert.CodesReferenceIdeal.τ).loc Cert.CodesReferenceIdeal.main_arg0) = m ((c.tc : Thread Cert.CodesIdeal.nD Cert.CodesIdeal.τ).loc Cert.CodesIdeal.main_arg0)
      ∧ m' ((c.tc : Thread Cert.CodesReferenceIdeal.nD Cert.CodesReferenceIdeal.τ).loc Cert.CodesReferenceIdeal.main_arg1) = m ((c.tc : Thread Cert.CodesIdeal.nD Cert.CodesIdeal.τ).loc Cert.CodesIdeal.main_arg1)) →
    ∃ (v0 : (c : Dev Cert.CodesIdeal.nD) → Buf (Elt Ideal) ((c.tc : Thread Cert.CodesIdeal.nD Cert.CodesIdeal.τ).loc Cert.CodesIdeal.main_v0_0)) (v1 : (c : Dev Cert.CodesIdeal.nD) → Buf (Elt Ideal) ((c.tc : Thread Cert.CodesIdeal.nD Cert.CodesIdeal.τ).loc Cert.CodesIdeal.main_v0_1)) (v2 : (c : Dev Cert.CodesIdeal.nD) → Buf (Elt Ideal) ((c.tc : Thread Cert.CodesIdeal.nD Cert.CodesIdeal.τ).loc Cert.CodesIdeal.main_v0_2)),
      θ_run (Cert.CodesIdeal.defs (F := Ideal)) (onTc (τ := Cert.CodesIdeal.τ) (Cert.CodesIdeal.main (F := Ideal))) ⟨m, fun _ => 0, g⟩ (fun r => ∀ c : Dev Cert.CodesIdeal.nD,
          r.2.mem ((c.tc : Thread Cert.CodesIdeal.nD Cert.CodesIdeal.τ).loc Cert.CodesIdeal.main_v0_0) = v0 c
          ∧ r.2.mem ((c.tc : Thread Cert.CodesIdeal.nD Cert.CodesIdeal.τ).loc Cert.CodesIdeal.main_v0_1) = v1 c
          ∧ r.2.mem ((c.tc : Thread Cert.CodesIdeal.nD Cert.CodesIdeal.τ).loc Cert.CodesIdeal.main_v0_2) = v2 c
          ∧ r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
          ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1))
      ∧ θ_run (Cert.CodesReferenceIdeal.defs (F := Ideal)) (onTc (τ := Cert.CodesReferenceIdeal.τ) (Cert.CodesReferenceIdeal.main (F := Ideal))) ⟨m', fun _ => 0, g'⟩ (fun r => ∀ c : Dev Cert.CodesReferenceIdeal.nD,
          r.2.mem ((c.tc : Thread Cert.CodesReferenceIdeal.nD Cert.CodesReferenceIdeal.τ).loc Cert.CodesReferenceIdeal.main_v20) = v0 c
          ∧ r.2.mem ((c.tc : Thread Cert.CodesReferenceIdeal.nD Cert.CodesReferenceIdeal.τ).loc Cert.CodesReferenceIdeal.main_v21) = v1 c
          ∧ r.2.mem ((c.tc : Thread Cert.CodesReferenceIdeal.nD Cert.CodesReferenceIdeal.τ).loc Cert.CodesReferenceIdeal.main_v19) = v2 c
          ∧ r.2.mem ((c.tc : Thread Cert.CodesReferenceIdeal.nD Cert.CodesReferenceIdeal.τ).loc Cert.CodesReferenceIdeal.main_arg0) = m' ((c.tc : Thread Cert.CodesReferenceIdeal.nD Cert.CodesReferenceIdeal.τ).loc Cert.CodesReferenceIdeal.main_arg0)
          ∧ r.2.mem ((c.tc : Thread Cert.CodesReferenceIdeal.nD Cert.CodesReferenceIdeal.τ).loc Cert.CodesReferenceIdeal.main_arg1) = m' ((c.tc : Thread Cert.CodesReferenceIdeal.nD Cert.CodesReferenceIdeal.τ).loc Cert.CodesReferenceIdeal.main_arg1))

def preserves_Lookup_LookupIdeal : Prop :=
  True

def algebraic_LookupIdeal_LookupReferenceIdeal [hLookupIdeal : Cert.LookupIdeal.Facts] [hLookupReferenceIdeal : Cert.LookupReferenceIdeal.Facts] [hPre_in_rows : Cert.Pre_in_rows.Facts] : Prop :=
  ∀ (m : (ℓ : Loc Cert.LookupIdeal.nD Cert.LookupIdeal.τ Cert.LookupIdeal.sig) → Buf (Elt Ideal) ℓ) (g : Dev Cert.LookupIdeal.nD → PrngReg)
    (m' : (ℓ : Loc Cert.LookupReferenceIdeal.nD Cert.LookupReferenceIdeal.τ Cert.LookupReferenceIdeal.sig) → Buf (Elt Ideal) ℓ) (g' : Dev Cert.LookupReferenceIdeal.nD → PrngReg), Pre_LookupIdeal m →
    (∀ c : Dev Cert.LookupIdeal.nD,
      m' ((c.tc : Thread Cert.LookupReferenceIdeal.nD Cert.LookupReferenceIdeal.τ).loc Cert.LookupReferenceIdeal.main_arg0) = m ((c.tc : Thread Cert.LookupIdeal.nD Cert.LookupIdeal.τ).loc Cert.LookupIdeal.main_arg0)
      ∧ m' ((c.tc : Thread Cert.LookupReferenceIdeal.nD Cert.LookupReferenceIdeal.τ).loc Cert.LookupReferenceIdeal.main_arg1) = m ((c.tc : Thread Cert.LookupIdeal.nD Cert.LookupIdeal.τ).loc Cert.LookupIdeal.main_arg1)) →
    ∃ (v0 : (c : Dev Cert.LookupIdeal.nD) → Buf (Elt Ideal) ((c.tc : Thread Cert.LookupIdeal.nD Cert.LookupIdeal.τ).loc Cert.LookupIdeal.main_v0)),
      θ_run (Cert.LookupIdeal.defs (F := Ideal)) (Cert.LookupIdeal.threads (F := Ideal)) ⟨m, fun _ => 0, g⟩ (fun r => ∀ c : Dev Cert.LookupIdeal.nD,
          r.2.mem ((c.tc : Thread Cert.LookupIdeal.nD Cert.LookupIdeal.τ).loc Cert.LookupIdeal.main_v0) = v0 c
          ∧ r.2.mem ((c.tc : Thread Cert.LookupIdeal.nD Cert.LookupIdeal.τ).loc Cert.LookupIdeal.main_arg0) = m ((c.tc : Thread Cert.LookupIdeal.nD Cert.LookupIdeal.τ).loc Cert.LookupIdeal.main_arg0)
          ∧ r.2.mem ((c.tc : Thread Cert.LookupIdeal.nD Cert.LookupIdeal.τ).loc Cert.LookupIdeal.main_arg1) = m ((c.tc : Thread Cert.LookupIdeal.nD Cert.LookupIdeal.τ).loc Cert.LookupIdeal.main_arg1))
      ∧ θ_run (Cert.LookupReferenceIdeal.defs (F := Ideal)) (onTc (τ := Cert.LookupReferenceIdeal.τ) (Cert.LookupReferenceIdeal.main (F := Ideal))) ⟨m', fun _ => 0, g'⟩ (fun r => ∀ c : Dev Cert.LookupReferenceIdeal.nD,
          r.2.mem ((c.tc : Thread Cert.LookupReferenceIdeal.nD Cert.LookupReferenceIdeal.τ).loc Cert.LookupReferenceIdeal.main_v0) = v0 c
          ∧ r.2.mem ((c.tc : Thread Cert.LookupReferenceIdeal.nD Cert.LookupReferenceIdeal.τ).loc Cert.LookupReferenceIdeal.main_arg0) = m' ((c.tc : Thread Cert.LookupReferenceIdeal.nD Cert.LookupReferenceIdeal.τ).loc Cert.LookupReferenceIdeal.main_arg0)
          ∧ r.2.mem ((c.tc : Thread Cert.LookupReferenceIdeal.nD Cert.LookupReferenceIdeal.τ).loc Cert.LookupReferenceIdeal.main_arg1) = m' ((c.tc : Thread Cert.LookupReferenceIdeal.nD Cert.LookupReferenceIdeal.τ).loc Cert.LookupReferenceIdeal.main_arg1))

def Claim : Prop :=
  ∃ (hKernelIdeal : Cert.KernelIdeal.Facts) (hReferenceIdeal : Cert.ReferenceIdeal.Facts) (hCodes : Cert.Codes.Facts) (hCodesIdeal : Cert.CodesIdeal.Facts) (hCodesReferenceIdeal : Cert.CodesReferenceIdeal.Facts) (hLookup : Cert.Lookup.Facts) (hLookupIdeal : Cert.LookupIdeal.Facts) (hLookupReferenceIdeal : Cert.LookupReferenceIdeal.Facts) (hPre_finite : Cert.Pre_finite.Facts) (hPre_finite_tokens : Cert.Pre_finite_tokens.Facts) (hPre_in_rows : Cert.Pre_in_rows.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Codes (hCodes := hCodes)
    ∧ quiescent_CodesIdeal (hCodesIdeal := hCodesIdeal)
    ∧ quiescent_CodesIdeal_pre_finite_tokens (hCodesIdeal := hCodesIdeal) (hPre_finite_tokens := hPre_finite_tokens)
    ∧ quiescent_CodesReferenceIdeal (hCodesReferenceIdeal := hCodesReferenceIdeal)
    ∧ quiescent_CodesReferenceIdeal_pre_finite_tokens (hCodesReferenceIdeal := hCodesReferenceIdeal) (hPre_finite_tokens := hPre_finite_tokens)
    ∧ quiescent_Lookup (hLookup := hLookup) (hPre_in_rows := hPre_in_rows)
    ∧ quiescent_LookupIdeal (hLookupIdeal := hLookupIdeal) (hPre_in_rows := hPre_in_rows)
    ∧ quiescent_LookupReferenceIdeal (hLookupReferenceIdeal := hLookupReferenceIdeal)
    ∧ quiescent_LookupReferenceIdeal_pre_in_rows (hLookupReferenceIdeal := hLookupReferenceIdeal) (hPre_in_rows := hPre_in_rows)
    ∧ algebraic_KernelIdeal_ReferenceIdeal_pre_finite (hKernelIdeal := hKernelIdeal) (hReferenceIdeal := hReferenceIdeal) (hPre_finite := hPre_finite)
    ∧ preserves_Codes_CodesIdeal
    ∧ algebraic_CodesIdeal_CodesReferenceIdeal_pre_finite_tokens (hCodesIdeal := hCodesIdeal) (hCodesReferenceIdeal := hCodesReferenceIdeal) (hPre_finite_tokens := hPre_finite_tokens)
    ∧ preserves_Lookup_LookupIdeal
    ∧ algebraic_LookupIdeal_LookupReferenceIdeal (hLookupIdeal := hLookupIdeal) (hLookupReferenceIdeal := hLookupReferenceIdeal) (hPre_in_rows := hPre_in_rows)
-- ==== Pre_finite.lean ====
abbrev S32x1024x64 : Shape := ⟨3, ![32, 1024, 64]⟩
abbrev S1024x64 : Shape := ⟨2, ![1024, 64]⟩
abbrev S_ : Shape := ⟨0, ![]⟩

class Facts : Prop where
  bcast_S_S32x1024x64 : S_.BroadcastsInDim S32x1024x64 (![] : Fin 0 → Fin S32x1024x64.rank)
  reducesTo_S32x1024x64_S_d0_1_2 : S32x1024x64.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S32x1024x64 .f32) (main_arg1 : FVec F S1024x64 .f32) : IVec S_ 1 :=
  let main_v0 : FVec F S32x1024x64 .f32 := Host.absf main_arg0
  let main_cst : FVec F S_ .f32 := constant S_ .f32 0x7F800000#32
  let main_v1 : FVec F S32x1024x64 .f32 := broadcastInDim S32x1024x64 ![] bcast_S_S32x1024x64 main_cst
  let main_v2 : IVec S32x1024x64 1 := cmpf .olt main_v0 main_v1
  let main_c : IVec S_ 1 := constantI S_ 1 1#1
  let main_v3 : IVec S_ 1 := (fun x v => Host.reduce IntOp.andi x v reducesTo_S32x1024x64_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Pre_finite_tokens.lean ====
abbrev S32768x64 : Shape := ⟨2, ![32768, 64]⟩
abbrev S1024x64 : Shape := ⟨2, ![1024, 64]⟩
abbrev S_ : Shape := ⟨0, ![]⟩

class Facts : Prop where
  bcast_S_S32768x64 : S_.BroadcastsInDim S32768x64 (![] : Fin 0 → Fin S32768x64.rank)
  reducesTo_S32768x64_S_d0_1 : S32768x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S32768x64 .f32) (main_arg1 : FVec F S1024x64 .f32) : IVec S_ 1 :=
  let main_v0 : FVec F S32768x64 .f32 := Host.absf main_arg0
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  let main_c : IVec S_ 1 := constantI S_ 1 1#1
  let main_v3 : IVec S_ 1 := (fun x v => Host.reduce IntOp.andi x v reducesTo_S32768x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Pre_in_rows.lean ====
abbrev S1024x128 : Shape := ⟨2, ![1024, 128]⟩
abbrev S32768 : Shape := ⟨1, ![32768]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel

variable [Facts]

def fn {F : FTy → Type} [FloatOps F] (main_arg0 : FVec F S1024x128 .f32) (main_arg1 : IVec S32768 32) : IVec S_ 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 32 := constantI S_ 32 1024#32
  let main_v2 : IVec S32768 32 := broadcastInDim S32768 ![] bcast_S_S32768 main_c_0
  let main_v3 : IVec S32768 1 := cmpi .slt main_arg1 main_v2
  let main_v4 : IVec S32768 1 := andi main_v1 main_v3
  let main_c_1 : IVec S_ 1 := constantI S_ 1 1#1
  let main_v5 : IVec S_ 1 := (fun x v => Host.reduce IntOp.andi x v reducesTo_S32768_S_d0 h_S_) main_v4 main_c_1
  main_v5
-- ==== KernelIdeal.lean ====
abbrev S32x1024x64 : Shape := ⟨3, ![32, 1024, 64]⟩
abbrev S1024x64 : Shape := ⟨2, ![1024, 64]⟩
abbrev S32768x64 : Shape := ⟨2, ![32768, 64]⟩
abbrev S256x128 : Shape := ⟨2, ![256, 128]⟩
abbrev S1x1 : Shape := ⟨2, ![1, 1]⟩
abbrev S1024x128 : Shape := ⟨2, ![1024, 128]⟩
abbrev S2048x64 : Shape := ⟨2, ![2048, 64]⟩
abbrev S16x128 : Shape := ⟨2, ![16, 128]⟩
abbrev S2048 : Shape := ⟨1, ![2048]⟩
abbrev S2048x1 : Shape := ⟨2, ![2048, 1]⟩
abbrev S1024 : Shape := ⟨1, ![1024]⟩
abbrev S2048x1024 : Shape := ⟨2, ![2048, 1024]⟩
abbrev S1x1024 : Shape := ⟨2, ![1, 1024]⟩
abbrev S1024x3 : Shape := ⟨2, ![1024, 3]⟩
abbrev S2048x3 : Shape := ⟨2, ![2048, 3]⟩
abbrev S1x2048 : Shape := ⟨2, ![1, 2048]⟩
abbrev S1 : Shape := ⟨1, ![1]⟩
abbrev S1x2048x1 : Shape := ⟨3, ![1, 2048, 1]⟩
abbrev S1x1x1 : Shape := ⟨3, ![1, 1, 1]⟩
abbrev S32768 : Shape := ⟨1, ![32768]⟩
abbrev S32768x128 : Shape := ⟨2, ![32768, 128]⟩
abbrev S512 : Shape := ⟨1, ![512]⟩
abbrev S512x128 : Shape := ⟨2, ![512, 128]⟩
abbrev S_ : Shape := ⟨0, ![]⟩

abbrev nBuf : Table → Nat
  | .hbm => 15
  | .local .tc .vmem => 7
  | .local .scVector .vmem => 2
  | _ => 0

abbrev bufTy : (tb : Table) → Fin (nBuf tb) → BufTy
  | .hbm, ⟨0, _⟩ => ⟨S32x1024x64, .f32⟩
  | .hbm, ⟨1, _⟩ => ⟨S1024x64, .f32⟩
  | .hbm, ⟨2, _⟩ => ⟨S32768x64, .f32⟩
  | .hbm, ⟨3, _⟩ => ⟨S256x128, .i32⟩
  | .hbm, ⟨4, _⟩ => ⟨S1x1, .f32⟩
  | .hbm, ⟨5, _⟩ => ⟨S1024x128, .f32⟩
  | .hbm, ⟨6, _⟩ => ⟨S32768, .i32⟩
  | .hbm, ⟨7, _⟩ => ⟨S32768x128, .f32⟩
  | .hbm, ⟨8, _⟩ => ⟨S32768x64, .f32⟩
  | .hbm, ⟨9, _⟩ => ⟨S32x1024x64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local .tc .vmem, ⟨0, _⟩ => ⟨S2048x64, .f32⟩
  | .local .tc .vmem, ⟨1, _⟩ => ⟨S2048x64, .f32⟩
  | .local .tc .vmem, ⟨2, _⟩ => ⟨S1024x64, .f32⟩
  | .local .tc .vmem, ⟨3, _⟩ => ⟨S16x128, .i32⟩
  | .local .tc .vmem, ⟨4, _⟩ => ⟨S16x128, .i32⟩
  | .local .tc .vmem, ⟨5, _⟩ => ⟨S1x1, .f32⟩
  | .local .tc .vmem, ⟨6, _⟩ => ⟨S1024x128, .f32⟩
  | .local .scVector .vmem, ⟨0, _⟩ => ⟨S512, .i32⟩
  | .local .scVector .vmem, ⟨1, _⟩ => ⟨S512x128, .f32⟩
  | _, _ => ⟨S32x1024x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v1_2_scv : Ref sig .scVector := ⟨.hbm, 5, rfl⟩
abbrev main_v2_scv : Ref sig .scVector := ⟨.hbm, 6, rfl⟩
abbrev main_v3_scv : Ref sig .scVector := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32_17 : BitVec 32 := 0#32
  let v58 : BitVec 1 := Scalar.cmpi .eq arg0 c0_i32_17
  let v59 : BitVec 32 := Scalar.extui v58
  let c0_i32_18 : BitVec 32 := 0#32
  let v60 : BitVec 1 := Scalar.cmpi .ne v59 c0_i32_18
  v60

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi v2 c0_i32
  ![v3.toNat]
def k1_off2 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi v2 c0_i32
  let c0_i32_8_r1 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x1024x64 : Shape := ⟨3, ![32, 1024, 64]⟩
abbrev S1024x64 : Shape := ⟨2, ![1024, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S64x1024 : Shape := ⟨2, ![64, 1024]⟩
abbrev S32768x1024 : Shape := ⟨2, ![32768, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩

abbrev nBuf : Space → Nat
  | .hbm => 59
  | .vmem => 0
  | .smem => 0
  | _ => 0

abbrev bufTy : (tb : Table) → Fin (tcTables nBuf tb) → BufTy
  | .hbm, ⟨0, _⟩ => ⟨S32x1024x64, .f32⟩
  | .hbm, ⟨1, _⟩ => ⟨S1024x64, .f32⟩
  | .hbm, ⟨2, _⟩ => ⟨S32768x64, .f32⟩
  | .hbm, ⟨3, _⟩ => ⟨S32768x64, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x64, .f32⟩
  | .hbm, ⟨9, _⟩ => ⟨S32768x64, .f32⟩
  | .hbm, ⟨10, _⟩ => ⟨S64x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S1024x64, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x1024, .i32⟩
  | .hbm, ⟨21, _⟩ => ⟨S_, .f32⟩
  | .hbm, ⟨22, _⟩ => ⟨S_, .i32⟩
  | .hbm, ⟨23, _⟩ => ⟨S32768, .f32⟩
  | .hbm, ⟨24, _⟩ => ⟨S32768, .i32⟩
  | .hbm, ⟨25, _⟩ => ⟨S_, .i32⟩
  | .hbm, ⟨26, _⟩ => ⟨S32768, .i32⟩
  | .hbm, ⟨27, _⟩ => ⟨S32768, .i1⟩
  | .hbm, ⟨28, _⟩ => ⟨S_, .i32⟩
  | .hbm, ⟨29, _⟩ => ⟨S32768, .i32⟩
  | .hbm, ⟨30, _⟩ => ⟨S32768, .i32⟩
  | .hbm, ⟨31, _⟩ => ⟨S32768, .i32⟩
  | .hbm, ⟨32, _⟩ => ⟨S32768x1, .i32⟩
  | .hbm, ⟨33, _⟩ => ⟨S1, .i32⟩
  | .hbm, ⟨34, _⟩ => ⟨S_, .i32⟩
  | .hbm, ⟨35, _⟩ => ⟨S32768x1, .i32⟩
  | .hbm, ⟨36, _⟩ => ⟨S32768x1, .i1⟩
  | .hbm, ⟨37, _⟩ => ⟨S1x1, .i32⟩
  | .hbm, ⟨38, _⟩ => ⟨S32768x1, .i32⟩
  | .hbm, ⟨39, _⟩ => ⟨S32768x1, .i1⟩
  | .hbm, ⟨40, _⟩ => ⟨S32768x1, .i1⟩
  | .hbm, ⟨41, _⟩ => ⟨S_, .i1⟩
  | .hbm, ⟨42, _⟩ => ⟨S32768, .i1⟩
  | .hbm, ⟨43, _⟩ => ⟨S32768x64, .f32⟩
  | .hbm, ⟨44, _⟩ => ⟨S32768x64, .i1⟩
  | .hbm, ⟨45, _⟩ => ⟨S_, .f32⟩
  | .hbm, ⟨46, _⟩ => ⟨S32768x64, .f32⟩
  | .hbm, ⟨47, _⟩ => ⟨S32768x64, .f32⟩
  | .hbm, ⟨48, _⟩ => ⟨S32x1024x64, .f32⟩
  | .hbm, ⟨49, _⟩ => ⟨S32x1024x64, .f32⟩
  | .hbm, ⟨50, _⟩ => ⟨S32x1024x64, .f32⟩
  | .hbm, ⟨51, _⟩ => ⟨S32x1024x64, .f32⟩
  | .hbm, ⟨52, _⟩ => ⟨S32x1024x64, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S32x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_2 : Ref sig .tc := ⟨.hbm, 53, rfl⟩
abbrev main_v22 : Ref sig .tc := ⟨.hbm, 54, rfl⟩
abbrev main_cst_3 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩

abbrev nD : Nat := 1
abbrev τ : Topo := Topo.v7x

variable {F : FTy → Type} [FloatOps F]
-- ==== Codes.lean ====
abbrev S32768x64 : Shape := ⟨2, ![32768, 64]⟩
abbrev S1024x64 : Shape := ⟨2, ![1024, 64]⟩
abbrev S256x128 : Shape := ⟨2, ![256, 128]⟩
abbrev S1x1 : Shape := ⟨2, ![1, 1]⟩
abbrev S1024x128 : Shape := ⟨2, ![1024, 128]⟩
abbrev S2048x64 : Shape := ⟨2, ![2048, 64]⟩
abbrev S16x128 : Shape := ⟨2, ![16, 128]⟩
abbrev S2048 : Shape := ⟨1, ![2048]⟩
abbrev S2048x1 : Shape := ⟨2, ![2048, 1]⟩
abbrev S1024 : Shape := ⟨1, ![1024]⟩
abbrev S2048x1024 : Shape := ⟨2, ![2048, 1024]⟩
abbrev S1x1024 : Shape := ⟨2, ![1, 1024]⟩
abbrev S1024x3 : Shape := ⟨2, ![1024, 3]⟩
abbrev S2048x3 : Shape := ⟨2, ![2048, 3]⟩
abbrev S1x2048 : Shape := ⟨2, ![1, 2048]⟩
abbrev S1 : Shape := ⟨1, ![1]⟩
abbrev S1x2048x1 : Shape := ⟨3, ![1, 2048, 1]⟩
abbrev S1x1x1 : Shape := ⟨3, ![1, 1, 1]⟩

abbrev nBuf : Space → Nat
  | .hbm => 5
  | .vmem => 7
  | .smem => 0
  | _ => 0

abbrev bufTy : (tb : Table) → Fin (tcTables nBuf tb) → BufTy
  | .hbm, ⟨0, _⟩ => ⟨S32768x64, .f32⟩
  | .hbm, ⟨1, _⟩ => ⟨S1024x64, .f32⟩
  | .hbm, ⟨2, _⟩ => ⟨S256x128, .i32⟩
  | .hbm, ⟨3, _⟩ => ⟨S1x1, .f32⟩
  | .hbm, ⟨4, _⟩ => ⟨S1024x128, .f32⟩
  | .local _ .vmem, ⟨0, _⟩ => ⟨S2048x64, .f32⟩
  | .local _ .vmem, ⟨1, _⟩ => ⟨S2048x64, .f32⟩
  | .local _ .vmem, ⟨2, _⟩ => ⟨S1024x64, .f32⟩
  | .local _ .vmem, ⟨3, _⟩ => ⟨S16x128, .i32⟩
  | .local _ .vmem, ⟨4, _⟩ => ⟨S16x128, .i32⟩
  | .local _ .vmem, ⟨5, _⟩ => ⟨S1x1, .f32⟩
  | .local _ .vmem, ⟨6, _⟩ => ⟨S1024x128, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32_17 : BitVec 32 := 0#32
  let v57 : BitVec 1 := Scalar.cmpi .eq arg0 c0_i32_17
  let v58 : BitVec 32 := Scalar.extui v57
  let c0_i32_18 : BitVec 32 := 0#32
  let v59 : BitVec 1 := Scalar.cmpi .ne v58 c0_i32_18
  v59

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== CodesReferenceIdeal.lean ====
abbrev S32768x64 : Shape := ⟨2, ![32768, 64]⟩
abbrev S1024x64 : Shape := ⟨2, ![1024, 64]⟩
abbrev S_ : Shape := ⟨0, ![]⟩
abbrev S32768 : Shape := ⟨1, ![32768]⟩
abbrev S32768x1 : Shape := ⟨2, ![32768, 1]⟩
abbrev S64x1024 : Shape := ⟨2, ![64, 1024]⟩
abbrev S32768x1024 : Shape := ⟨2, ![32768, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S1024x128 : Shape := ⟨2, ![1024, 128]⟩
abbrev S256x128 : Shape := ⟨2, ![256, 128]⟩

abbrev nBuf : Space → Nat
  | .hbm => 56
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S1024x64, .f32⟩
  | .hbm, ⟨2, _⟩ => ⟨S32768x64, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x64, .f32⟩
  | .hbm, ⟨8, _⟩ => ⟨S32768x64, .f32⟩
  | .hbm, ⟨9, _⟩ => ⟨S64x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S1024x64, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x1024, .i32⟩
  | .hbm, ⟨20, _⟩ => ⟨S_, .f32⟩
  | .hbm, ⟨21, _⟩ => ⟨S_, .i32⟩
  | .hbm, ⟨22, _⟩ => ⟨S32768, .f32⟩
  | .hbm, ⟨23, _⟩ => ⟨S32768, .i32⟩
  | .hbm, ⟨24, _⟩ => ⟨S_, .i32⟩
  | .hbm, ⟨25, _⟩ => ⟨S32768, .i32⟩
  | .hbm, ⟨26, _⟩ => ⟨S32768, .i1⟩
  | .hbm, ⟨27, _⟩ => ⟨S_, .i32⟩
  | .hbm, ⟨28, _⟩ => ⟨S32768, .i32⟩
  | .hbm, ⟨29, _⟩ => ⟨S32768, .i32⟩
  | .hbm, ⟨30, _⟩ => ⟨S32768, .i32⟩
  | .hbm, ⟨31, _⟩ => ⟨S32768x1, .i32⟩
  | .hbm, ⟨32, _⟩ => ⟨S1, .i32⟩
  | .hbm, ⟨33, _⟩ => ⟨S_, .i32⟩
  | .hbm, ⟨34, _⟩ => ⟨S32768x1, .i32⟩
  | .hbm, ⟨35, _⟩ => ⟨S32768x1, .i1⟩
  | .hbm, ⟨36, _⟩ => ⟨S1x1, .i32⟩
  | .hbm, ⟨37, _⟩ => ⟨S32768x1, .i32⟩
  | .hbm, ⟨38, _⟩ => ⟨S32768x1, .i1⟩
  | .hbm, ⟨39, _⟩ => ⟨S32768x1, .i1⟩
  | .hbm, ⟨40, _⟩ => ⟨S_, .i1⟩
  | .hbm, ⟨41, _⟩ => ⟨S32768, .i1⟩
  | .hbm, ⟨42, _⟩ => ⟨S32768x64, .f32⟩
  | .hbm, ⟨43, _⟩ => ⟨S32768x64, .i1⟩
  | .hbm, ⟨44, _⟩ => ⟨S_, .f32⟩
  | .hbm, ⟨45, _⟩ => ⟨S32768x64, .f32⟩
  | .hbm, ⟨46, _⟩ => ⟨S32768x64, .f32⟩
  | .hbm, ⟨47, _⟩ => ⟨S32768x64, .f32⟩
  | .hbm, ⟨48, _⟩ => ⟨S32768x64, .f32⟩
  | .hbm, ⟨49, _⟩ => ⟨S_, .f32⟩
  | .hbm, ⟨50, _⟩ => ⟨S_, .f32⟩
  | .hbm, ⟨51, _⟩ => ⟨S_, .i32⟩
  | .hbm, ⟨52, _⟩ => ⟨S_, .f32⟩
  | .hbm, ⟨53, _⟩ => ⟨S1024x128, .f32⟩
  | .hbm, ⟨54, _⟩ => ⟨S256x128, .i32⟩
  | .hbm, ⟨55, _⟩ => ⟨S1x1, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_call1_cst : Ref sig .tc := ⟨.hbm, 44, rfl⟩
abbrev main_call1_v15 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_2 : Ref sig .tc := ⟨.hbm, 49, rfl⟩
abbrev main_v18 : Ref sig .tc := ⟨.hbm, 50, rfl⟩
abbrev main_c : Ref sig .tc := ⟨.hbm, 51, rfl⟩
abbrev main_call2_v0 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩

abbrev nD : Nat := 1
abbrev τ : Topo := Topo.v7x

variable {F : FTy → Type} [FloatOps F]
-- ==== Lookup.lean ====
abbrev S1024x128 : Shape := ⟨2, ![1024, 128]⟩
abbrev S32768 : Shape := ⟨1, ![32768]⟩
abbrev S32768x128 : Shape := ⟨2, ![32768, 128]⟩
abbrev S512 : Shape := ⟨1, ![512]⟩
abbrev S512x128 : Shape := ⟨2, ![512, 128]⟩
abbrev S_ : Shape := ⟨0, ![]⟩

abbrev nBuf : Table → Nat
  | .hbm => 3
  | .local .scVector .vmem => 2
  | _ => 0

abbrev bufTy : (tb : Table) → Fin (nBuf tb) → BufTy
  | .hbm, ⟨0, _⟩ => ⟨S1024x128, .f32⟩
  | .hbm, ⟨1, _⟩ => ⟨S32768, .i32⟩
  | .hbm, ⟨2, _⟩ => ⟨S32768x128, .f32⟩
  | .local .scVector .vmem, ⟨0, _⟩ => ⟨S512, .i32⟩
  | .local .scVector .vmem, ⟨1, _⟩ => ⟨S512x128, .f32⟩
  | _, _ => ⟨S1024x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi v2 c0_i32
  ![v3.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi v2 c0_i32
  let c0_i32_8_r1 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== LookupReferenceIdeal.lean ====
abbrev S1024x128 : Shape := ⟨2, ![1024, 128]⟩
abbrev S32768 : Shape := ⟨1, ![32768]⟩
abbrev S_ : Shape := ⟨0, ![]⟩
abbrev S32768x1 : Shape := ⟨2, ![32768, 1]⟩
abbrev S1 : Shape := ⟨1, ![1]⟩
abbrev S1x1 : Shape := ⟨2, ![1, 1]⟩
abbrev S32768x128 : Shape := ⟨2, ![32768, 128]⟩

abbrev nBuf : Space → Nat
  | .hbm => 25
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S32768, .i32⟩
  | .hbm, ⟨2, _⟩ => ⟨S_, .i32⟩
  | .hbm, ⟨3, _⟩ => ⟨S32768, .i32⟩
  | .hbm, ⟨4, _⟩ => ⟨S32768, .i1⟩
  | .hbm, ⟨5, _⟩ => ⟨S_, .i32⟩
  | .hbm, ⟨6, _⟩ => ⟨S32768, .i32⟩
  | .hbm, ⟨7, _⟩ => ⟨S32768, .i32⟩
  | .hbm, ⟨8, _⟩ => ⟨S32768, .i32⟩
  | .hbm, ⟨9, _⟩ => ⟨S32768x1, .i32⟩
  | .hbm, ⟨10, _⟩ => ⟨S1, .i32⟩
  | .hbm, ⟨11, _⟩ => ⟨S_, .i32⟩
  | .hbm, ⟨12, _⟩ => ⟨S32768x1, .i32⟩
  | .hbm, ⟨13, _⟩ => ⟨S32768x1, .i1⟩
  | .hbm, ⟨14, _⟩ => ⟨S1x1, .i32⟩
  | .hbm, ⟨15, _⟩ => ⟨S32768x1, .i32⟩
  | .hbm, ⟨16, _⟩ => ⟨S32768x1, .i1⟩
  | .hbm, ⟨17, _⟩ => ⟨S32768x1, .i1⟩
  | .hbm, ⟨18, _⟩ => ⟨S_, .i1⟩
  | .hbm, ⟨19, _⟩ => ⟨S32768, .i1⟩
  | .hbm, ⟨20, _⟩ => ⟨S32768x128, .f32⟩
  | .hbm, ⟨21, _⟩ => ⟨S32768x128, .i1⟩
  | .hbm, ⟨22, _⟩ => ⟨S_, .f32⟩
  | .hbm, ⟨23, _⟩ => ⟨S32768x128, .f32⟩
  | .hbm, ⟨24, _⟩ => ⟨S32768x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.KernelIdealTile.lean ====
/-
  The SparseCore lookup, one tile's task. Tile `(c, s)` serves the 1024 codes from `2048 s + 1024 c` on, in two
  chunks of 512: it copies the chunk's codes into its index scratch, gathers the table's rows they name into its row
  scratch, and copies those rows out to the same 512 rows of the result. The codes and the table are read by every
  tile, so each goes out as a thirty-second share; the result's rows go out chunk by chunk, each chunk to one tile.
  The values are carried throughout: a tile brings back its chunks of ONE array, `want` — row `t` is the table's row
  named by code `t`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' cells are what the launch theorem takes them for. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Ghost state: the handshakes' rounds, the transfers' counters -/

abbrev UH : Type := URounds (GSem nD τ sig) ℕ
abbrev UU : Type := UH × (URounds (GSem nD τ sig) Unit × Counters)

local notation "𝕄" => MT nD τ sig (HIx 1) (Elt F) ℕ UU ℕ

abbrev EH : Emb UH (MT nD τ sig (HIx 1) (Elt F) ℕ UU ℕ) := embL

/-! ## The buffers -/

abbrev tLoc (d : Dev nD) : Loc nD τ sig := (SparseCore.T d).loc main_v1_2
abbrev iLoc (d : Dev nD) : Loc nD τ sig := (SparseCore.T d).loc main_v2
abbrev oLoc (d : Dev nD) : Loc nD τ sig := (SparseCore.T d).loc main_v3

local notation "tV" => (Memref.whole Cert.KernelIdeal.main_v1_2_scv : Memref Cert.KernelIdeal.sig Kind.scVector Space.hbm Cert.KernelIdeal.S1024x128 EltTy.f32)
local notation "iV" => (Memref.whole Cert.KernelIdeal.main_v2_scv : Memref Cert.KernelIdeal.sig Kind.scVector Space.hbm Cert.KernelIdeal.S32768 EltTy.i32)
local notation "oV" => (Memref.whole Cert.KernelIdeal.main_v3_scv : Memref Cert.KernelIdeal.sig Kind.scVector Space.hbm Cert.KernelIdeal.S32768x128 EltTy.f32)
local notation "sV" => (Memref.whole Cert.KernelIdeal.cc1_scratch0 : Memref Cert.KernelIdeal.sig Kind.scVector Space.vmem Cert.KernelIdeal.S512 EltTy.i32)
local notation "rV" => (Memref.whole Cert.KernelIdeal.cc1_scratch1 : Memref Cert.KernelIdeal.sig Kind.scVector Space.vmem Cert.KernelIdeal.S512x128 EltTy.f32)

/-! ## The result's chunks -/

theorem odiv : 64 ∣ S32768x128.size 0 := ⟨512, rfl⟩

/-- Chunk `k` of tile `(c, s)`, among the result's 64. -/
def chunk (c : Fin 2) (s : Fin 16) (k : Fin 2) : Fin 64 := ⟨4 * s.val + 2 * c.val + k.val, by omega⟩

theorem chunk_inj {c c' : Fin 2} {s s' : Fin 16} {k k' : Fin 2} (h : chunk c s k = chunk c' s' k') : c = c' ∧ s = s' ∧ k = k' := by
  have := congrArg Fin.val h
  simp only [chunk] at this
  refine ⟨Fin.ext ?_, Fin.ext ?_, Fin.ext ?_⟩ <;> omega

theorem chunk_surj (i : Fin 64) : ∃ c s k, chunk c s k = i :=
  ⟨⟨i.val / 2 % 2, by omega⟩, ⟨i.val / 4, by omega⟩, ⟨i.val % 2, by omega⟩, Fin.ext (by simp only [chunk]; omega)⟩

abbrev orow (i : Fin 64) : Rect S32768x128 := Rect.part (s := S32768x128) (a₀ := 0) odiv i
abbrev oSet (i : Fin 64) : Finset S32768x128.Idx := ((oV).view.slice (orow i)).set

theorem oSet_eq (i : Fin 64) : oSet i = (orow i).set := by
  show ((View.whole (main_v3_scv : Ref sig .scVector)).slice (orow i)).set = _
  rw [View.set_slice]; exact Finset.map_refl

theorem oSet_disjoint {i j : Fin 64} (h : i ≠ j) : Disjoint (oSet i) (oSet j) := by
  rw [oSet_eq, oSet_eq]; exact Rect.part_disjoint odiv h

theorem oSet_cover : (Finset.univ : Finset (Fin 64)).biUnion oSet = Finset.univ :=
  (Finset.biUnion_congr rfl fun i _ => oSet_eq i).trans (Rect.biUnion_part odiv)

/-! ## Shares of the table and of the codes -/

/-- SparseCore `c`'s half, and tile `(c, s)`'s sixteenth of that. -/
abbrev qC (c : Fin 2) : PosShare TreeShare := pieceOf fullShare 2 (by decide) c
abbrev qT (c : Fin 2) (s : Fin 16) : PosShare TreeShare := pieceOf (qC c) 16 (by decide) s

/-! ## What the handshakes carry

The call's contents: the table `tab`, the codes `idx`, and what the result's array held before, `o₀`. -/

variable (tab : (d : Dev nD) → Buf (Elt F) (tLoc d)) (idx : (d : Dev nD) → Buf (Elt F) (iLoc d)) (o₀ : (d : Dev nD) → Buf (Elt F) (oLoc d))

/-- The table's row that a word names (the row its residue names, should it name none). -/
def rowOf (v : BitVec 32) : Fin 1024 := ⟨v.toNat % 1024, Nat.mod_lt _ (by decide)⟩

/-- The array the tiles leave: row `t` is the table's row named by code `t`. -/
def want (d : Dev nD) : Buf (Elt F) (oLoc d) := fun (j : S32768x128.Idx) =>
  tab d ((fun | 0 => rowOf (idx d ((fun | 0 => j 0) : S32768.Idx)) | 1 => j 1) : S1024x128.Idx)

/-- Every code names a row of the table. -/
def CodesOK : Prop := ∀ (d : Dev nD) (j : S32768.Idx), (idx d j).toNat < 1024

abbrev oPts (d : Dev nD) (c : Fin 2) (s : Fin 16) (f : Buf (Elt F) (oLoc d)) : sProp 𝕄 :=
  iprop((oLoc d ↦[oSet (chunk c s 0)]{fullShare} f) ∗ (oLoc d ↦[oSet (chunk c s 1)]{fullShare} f))

/-- What SparseCore `c` is handed: its share of table and codes, its tiles' chunks of the result, at `f`. -/
abbrev corePts (d : Dev nD) (c : Fin 2) (f : Buf (Elt F) (oLoc d)) : sProp 𝕄 :=
  iprop((tLoc d ↦{qC c} tab d) ∗ (iLoc d ↦{qC c} idx d) ∗ bigSep Finset.univ fun s : Fin 16 => oPts d c s f)

/-- What tile `(c, s)` is handed. -/
abbrev tilePts (d : Dev nD) (c : Fin 2) (s : Fin 16) (f : Buf (Elt F) (oLoc d)) : sProp 𝕄 :=
  iprop((tLoc d ↦{qT c s} tab d) ∗ (iLoc d ↦{qT c s} idx d) ∗ oPts d c s f)

def P : (K (F := F)).Pay (nD := nD) (Val := Elt F) (Name := ℕ) (U := UU) where
  st := fun q d c => match q with | 0 => corePts tab idx d (Fin.cast nCore_zero c) (o₀ d)
  dn := fun q d c => match q with | 0 => corePts tab idx d (Fin.cast nCore_zero c) (want tab idx d)
  go := fun q d c i => match q with | 0 => tilePts tab idx d (Fin.cast nCore_zero c) (Fin.cast nSub_zero i) (o₀ d)
  td := fun q d c i => match q with | 0 => tilePts tab idx d (Fin.cast nCore_zero c) (Fin.cast nSub_zero i) (want tab idx d)
  x := fun _ _ => iprop(emp)

instance P_storable : (P (F := F) tab idx o₀).IsStorable where
  st q d c := match q with
    | 0 => (inferInstance : BI.Storable (upEmb : UEmb _ 𝕄) (corePts tab idx d (Fin.cast nCore_zero c) (o₀ d)))
  dn q d c := match q with
    | 0 => (inferInstance : BI.Storable (upEmb : UEmb _ 𝕄) (corePts tab idx d (Fin.cast nCore_zero c) (want tab idx d)))
  go q d c i := match q with
    | 0 => (inferInstance : BI.Storable (upEmb : UEmb _ 𝕄) (tilePts tab idx d (Fin.cast nCore_zero c) (Fin.cast nSub_zero i) (o₀ d)))
  td q d c i := match q with
    | 0 => (inferInstance : BI.Storable (upEmb : UEmb _ 𝕄) (tilePts tab idx d (Fin.cast nCore_zero c) (Fin.cast nSub_zero i) (want tab idx d)))

variable [FloatOps F]

/-! ## The task -/

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev cL (L : grid1.Coords) : Fin 2 := Fin.cast bound_zero (L 0)
abbrev jL (L : grid1.Coords) : Fin 16 := Fin.cast bound_one (L 1)

abbrev cw (k : Fin 2) : BitVec 32 := BitVec.ofNat 32 (512 * k.val)

/-- Chunk `k` of the codes and of the result, and all of the table, as the task addresses them. -/
abbrev iCh (L : grid1.Coords) (k : Fin 2) : Memref sig .scVector .hbm S512 .i32 :=
  (iV).slice (Rect.unit (s := S32768) (k1_off1 L (cw k)) S512.size (k1_off1_inb L k)) (fun _ => rfl)
abbrev oCh (L : grid1.Coords) (k : Fin 2) : Memref sig .scVector .hbm S512x128 .f32 :=
  (oV).slice (Rect.unit (s := S32768x128) (k1_off2 L (cw k)) S512x128.size (k1_off2_inb L k)) (fun _ => rfl)
abbrev tAll : Memref sig .scVector .hbm S1024x128 .f32 :=
  (tV).slice (Rect.unit (s := S1024x128) ![0, 0] S1024x128.size inb_S1024x128_S1024x128_0_0) (fun _ => rfl)

theorem orowK_eq (k : Fin 2) :
    Rect.unit (s := S32768x128) (k1_off2 L (cw k)) S512x128.size (k1_off2_inb L k) = orow (chunk (cL L) (jL L) k) := by
  unfold orow Rect.part Rect.block
  congr 1 <;> funext a
  · rw [k1_off2_eq]
    match a with
    | 0 => simp [Shape.partIx, Shape.partSize, chunk]; omega
    | 1 => simp [Shape.partIx, Shape.partSize]
  · match a with
    | 0 => simp [Shape.partSize]
    | 1 => simp [Shape.partSize]

theorem set_oCh (k : Fin 2) : (oCh L k).view.set = oSet (chunk (cL L) (jL L) k) := by
  show ((oV).view.slice (Rect.unit (s := S32768x128) (k1_off2 L (cw k)) S512x128.size (k1_off2_inb L k))).set
    = ((oV).view.slice (orow (chunk (cL L) (jL L) k))).set
  exact orowK_eq L k ▸ rfl

/-- A chunk's element, by its coordinates in the whole array. -/
theorem emb_oCh (k : Fin 2) (x : S512x128.Idx) :
    (((oCh L k).view.emb x 0).val = 2048 * (L 1).val + 1024 * (L 0).val + 512 * k.val + (x 0).val) ∧ ((oCh L k).view.emb x 1).val = (x 1).val := by
  have h (a : Fin 2) : ((oCh L k).view.emb x a).val = k1_off2 L (cw k) a + 1 * (x a).val := rfl
  constructor
  · rw [h, k1_off2_eq]; simp
  · rw [h, k1_off2_eq]; simp

theorem emb_iCh (k : Fin 2) (x : S512.Idx) :
    ((iCh L k).view.emb x 0).val = 2048 * (L 1).val + 1024 * (L 0).val + 512 * k.val + (x 0).val := by
  have h : ((iCh L k).view.emb x 0).val = k1_off1 L (cw k) 0 + 1 * (x 0).val := rfl
  rw [h, k1_off1_eq]; simp

omit [FloatOps F] in
theorem pts_oCh (k : Fin 2) (f : Buf (Elt F) (oLoc d)) :
    ((oCh L k).view.loc (V d (cV L) (jV L)) ↦[(oCh L k).view.set]{fullShare} f : sProp 𝕄) = oLoc d ↦[oSet (chunk (cL L) (jL L) k)]{fullShare} f := by
  rw [set_oCh]
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_iV (q : PosShare TreeShare) (f : Buf (Elt F) (iLoc d)) :
    ((iV).view.loc (V d (cV L) (jV L)) ↦{q} f : sProp 𝕄) = iLoc d ↦{q} f := rfl
omit [FloatOps F] in
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
omit [FloatOps F] in
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

/-! ### The tile's own cells and buffers, taken out of their families -/

abbrev dcell (d : Dev nD) (c : Fin τ.nSC) (i : Fin τ.nSub) (s : DmaSem sig) : GSem nD τ sig := (V d c i, .dma s)

omit [FloatOps F] in
theorem dcell_ne {c : Fin τ.nSC} {i : Fin τ.nSub} {s s' : DmaSem sig} (h : s ≠ s') : dcell d c i s ≠ dcell d c i s' :=
  fun e => h (SemLoc.dma.inj (Prod.mk.inj e).2)

omit [FloatOps F] in
theorem dcell_mem {s : DmaSem sig} (h : (SemLoc.dma s : SemLoc sig).isScoped .scVector = true) :
    dcell d (cV L) (jV L) s ∈ ownCells (V d (cV L) (jV L)) := (mem_ownCells (g := dcell d (cV L) (jV L) s)).mpr ⟨rfl, h⟩

/-- What is left of the tile's cells beside the five it uses. -/
abbrev restCells (d : Dev nD) (L : grid1.Coords) : Finset (GSem nD τ sig) :=
  (((((ownCells (V d (cV L) (jV L))).erase (dcell d (cV L) (jV L) cc1_scoped0.sem)).erase (dcell d (cV L) (jV L) cc1_scoped1.sem)).erase
    (dcell d (cV L) (jV L) cc1_scoped2.sem)).erase (dcell d (cV L) (jV L) cc1_scoped3.sem)).erase (dcell d (cV L) (jV L) cc1_scratch2.sem)

omit [FloatOps F] in
theorem ownSems0_V :
    (ownSems0 (V d (cV L) (jV L)) : sProp 𝕄)
      = iprop(semVal (dcell d (cV L) (jV L) cc1_scoped0.sem) 0 ∗ semVal (dcell d (cV L) (jV L) cc1_scoped1.sem) 0
          ∗ semVal (dcell d (cV L) (jV L) cc1_scoped2.sem) 0 ∗ semVal (dcell d (cV L) (jV L) cc1_scoped3.sem) 0
          ∗ semVal (dcell d (cV L) (jV L) cc1_scratch2.sem) 0 ∗ bigSep (restCells d L) fun g => semVal g 0) := by
  unfold SparseCore.Cfg.ownSems0
  rw [SparseCore.bigSep_erase' (dcell_mem d L (s := cc1_scoped0.sem) (by decide)),
    SparseCore.bigSep_erase' (Finset.mem_erase.mpr ⟨dcell_ne d (by decide), dcell_mem d L (s := cc1_scoped1.sem) (by decide)⟩),
    SparseCore.bigSep_erase' (Finset.mem_erase.mpr ⟨dcell_ne d (by decide), Finset.mem_erase.mpr ⟨dcell_ne d (by decide),
      dcell_mem d L (s := cc1_scoped2.sem) (by decide)⟩⟩),
    SparseCore.bigSep_erase' (Finset.mem_erase.mpr ⟨dcell_ne d (by decide), Finset.mem_erase.mpr ⟨dcell_ne d (by decide),
      Finset.mem_erase.mpr ⟨dcell_ne d (by decide), dcell_mem d L (s := cc1_scoped3.sem) (by decide)⟩⟩⟩),
    SparseCore.bigSep_erase' (Finset.mem_erase.mpr ⟨dcell_ne d (by decide), Finset.mem_erase.mpr ⟨dcell_ne d (by decide),
      Finset.mem_erase.mpr ⟨dcell_ne d (by decide), Finset.mem_erase.mpr ⟨dcell_ne d (by decide), dcell_mem d L (s := cc1_scratch2.sem) (by decide)⟩⟩⟩⟩)]

omit [FloatOps F] in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ### What a chunk's copies hold -/

omit [FloatOps F] in
/-- What the copy in of a chunk's codes leaves in the index scratch, read as the gather reads it. -/
theorem list_read (k : Fin 2) (fs : Buf (Elt F) ((V d (cV L) (jV L)).loc cc1_scratch0)) (pay : S512.Idx → Elt F .i32)
    (hpay : pay = (iCh L k).view.read (Elt F) (idx d)) (x : S512.Idx) :
    (sV).view.read (Elt F) (View.write (Elt F) (sV).view fs pay Finset.univ) x = idx d ((iCh L k).view.emb x) := by
  subst hpay
  rw [View.write_whole_univ]
  simp only [Memref.view_whole, View.read_whole]
  exact (View.read_apply _ _).trans (cast_eq _ _)

omit [FloatOps F] in
theorem list_inb (h : CodesOK idx) (k : Fin 2) (fs : Buf (Elt F) ((V d (cV L) (jV L)).loc cc1_scratch0)) (pay : S512.Idx → Elt F .i32)
    (hpay : pay = (iCh L k).view.read (Elt F) (idx d)) :
    ∀ x, ((sV).view.read (Elt F) (View.write (Elt F) (sV).view fs pay Finset.univ) x).toNat < S1024x128.size gathers_S1024x128_S512x128.axis := by
  intro x; rw [list_read idx d L k fs pay hpay]; exact h d _

omit [FloatOps F] in
/-- The gathered rows are the chunk's rows of `want`. -/
theorem gathered (h : CodesOK idx) (k : Fin 2) (fs : Buf (Elt F) ((V d (cV L) (jV L)).loc cc1_scratch0)) (pay : S512.Idx → Elt F .i32)
    (hpay : pay = (iCh L k).view.read (Elt F) (idx d)) (hn : S512.numel = S512x128.size (gathers_S1024x128_S512x128).axis')
    (x : S512x128.Idx) :
    SparseCore.gatherPayload gathers_S1024x128_S512x128 ((tAll).view.read (Elt F) (tab d))
        (SparseCore.rows ((sV).view.read (Elt F) (View.write (Elt F) (sV).view fs pay Finset.univ)) hn (list_inb idx d L h k fs pay hpay)) x
      = want tab idx d ((oCh L k).view.emb x) := by
  unfold SparseCore.gatherPayload
  refine (View.read_apply _ _).trans ((cast_eq _ _).trans ?_)
  unfold want
  congr 1
  have hi : (iCh L k).view.emb (S512.rowMajor.symm ((x (gathers_S1024x128_S512x128).axis').cast hn.symm)) = (fun | 0 => (oCh L k).view.emb x 0 : S32768.Idx) := by
    funext a
    match a with
    | 0 =>
      apply Fin.ext
      rw [emb_iCh]
      show _ = ((oCh L k).view.emb x 0).val
      rw [(emb_oCh L k x).1]
      refine congrArg _ ?_
      refine (Shape.rowMajor_val_one _).symm.trans ?_
      show (S512.rowMajor (S512.rowMajor.symm _)).val = _
      rw [Equiv.apply_symm_apply]; rfl
  funext a
  match a with
  | 0 =>
    apply Fin.ext
    show 0 + 1 * ((gathers_S1024x128_S512x128).idx _ x (gathers_S1024x128_S512x128).axis).val = (rowOf _).val
    rw [Shape.Gathers.idx_axis, Nat.zero_add, Nat.one_mul]
    show (View.read (Elt F) (sV).view _ _).toNat = (idx d _).toNat % 1024
    refine (congrArg BitVec.toNat (list_read idx d L k fs pay hpay _)).trans ?_
    refine (congrArg (fun j => (idx d j).toNat) hi).trans ?_
    exact (Nat.mod_eq_of_lt (h d _)).symm
  | 1 =>
    apply Fin.ext
    show 0 + 1 * ((gathers_S1024x128_S512x128).idx _ x 1).val = ((oCh L k).view.emb x 1).val
    rw [(emb_oCh L k x).2, Shape.Gathers.idx_of_ne _ _ _ _ (by decide), Nat.zero_add, Nat.one_mul]; rfl

omit [FloatOps F] in
/-- A chunk of the result with its rows of `want` copied in holds `want`. -/
theorem pts_done (k : Fin 2) (pay : S512x128.Idx → Elt F .f32) (hpay : ∀ x, pay x = want tab idx d ((oCh L k).view.emb x)) :
    ((oCh L k).view.loc (V d (cV L) (jV L)) ↦[(oCh L k).view.set]{fullShare} (oCh L k).view.writes (Elt F) (o₀ d) [⟨Rect.whole S512x128, pay⟩] : sProp 𝕄)
      = oLoc d ↦[oSet (chunk (cL L) (jL L) k)]{fullShare} want tab idx d := by
  rw [← pts_oCh]
  refine pointsTo_congr fun i hi => ?_
  obtain ⟨x, -, rfl⟩ := Finset.mem_map.mp hi
  have e := View.read_writes_cons_emb (oCh L k).view (o₀ d) (Rect.whole S512x128) pay [] x
  rw [Rect.emb_whole_apply, View.read_apply] at e
  exact (cast_eq _ _).symm.trans (e.trans (hpay x))

omit [FloatOps F] in
theorem pts_rV_set (f : Buf (Elt F) ((V d (cV L) (jV L)).loc cc1_scratch1)) :
    ((rV).view.loc (V d (cV L) (jV L)) ↦{fullShare} f : sProp 𝕄) = (rV).view.loc (V d (cV L) (jV L)) ↦[(rV).view.set]{fullShare} f := by
  rw [show (rV).view.set = Finset.univ from View.set_whole _]
omit [FloatOps F] in
theorem pts_sV_set (f : Buf (Elt F) ((V d (cV L) (jV L)).loc cc1_scratch0)) :
    ((sV).view.loc (V d (cV L) (jV L)) ↦{fullShare} f : sProp 𝕄) = (sV).view.loc (V d (cV L) (jV L)) ↦[(sV).view.set]{fullShare} f := by
  rw [show (sV).view.set = Finset.univ from View.set_whole _]
/-- The gathered rows' credits together are the row scratch's. -/
theorem row_credit : ∀ h : S1024x128.Gathers 0 S512x128, ∑ j, ((rV).slice (S512x128.rowRect h.axis' j) (S512x128.stride_rowRect h.axis' j)).view.dmaCredit
      = (rV).view.dmaCredit := by decide +kernel

set_option maxHeartbeats 4000000 in
/-- The task on vector subcore `(L 0, L 1)`: chunk by chunk the codes in, the gather, the rows out, each copy waited
    for before the next; it brings back its chunks of `want`. -/
theorem tile_body (hF : (K (F := F)).Facts) (hok : CodesOK idx) (O : CellTallies nD τ sig (HIx 1)) (W : Waits sig (HIx 1)) (hO : ∀ g, O g none = 0) :
    iprop(levAts (K (F := F)).L (K (F := F)).lev ∗ emp
        ∗ tilePts tab idx d (cL L) (jL L) (o₀ d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L tV (Memref.isWhole_whole _) iV (Memref.isWhole_whole _) oV (Memref.isWhole_whole _)
            sV (Memref.isWhole_whole _) rV (Memref.isWhole_whole _) cc1_scratch2 cc1_scoped0 cc1_scoped1 cc1_scoped2 cc1_scoped3)
          fun _ => iprop(tilePts tab idx d (cL L) (jL L) (want tab idx d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton]; unfold cc1_k_skel
  rw [(K (F := F)).scopedBufs_V hF d (cV L) (jV L), SparseCore.Cfg.scopedSems0_V (Val := Elt F) d (cV L) (jV L), ownSems0_V, ownBufs_V]
  iintro ⟨#Hlv, -, ⟨Ht, Hi, ⟨Ho0, Ho1⟩⟩, ⟨⟨%fs, Hs⟩, ⟨%fr, Hr⟩, Hbufs⟩, ⟨Hq0, Hq1, Hq2, Hq3, Hq4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho0' := (Entails.of_eq (pts_oCh (F := F) d L 0 _).symm) $$ Ho0
  ihave Ho1' := (Entails.of_eq (pts_oCh (F := F) d L 1 _).symm) $$ Ho1
  ihave Ht' := (Entails.of_eq (pts_tV (F := F) d L _ _).symm) $$ Ht
  ihave Hi' := (Entails.of_eq (pts_iV (F := F) d L _ _).symm) $$ Hi
  ihave Hs' := (Entails.of_eq (pts_sV (F := F) d L _).symm) $$ Hs
  ihave Hr' := (Entails.of_eq (pts_rV (F := F) d L _).symm) $$ Hr
  sl_exec
  ihave Hxs := (pointsTo_split_subset (q := qT (cL L) (jL L)) (f := tab d) (S := Finset.univ) (Finset.subset_univ (tAll).view.set)).1 $$ Ht'
  icases Hxs with ⟨Hxs, Hxr⟩
  ihave Hr'' := (Entails.of_eq (pts_rV_set (F := F) d L _)) $$ Hr'
  ihave Hs'' := (Entails.of_eq (pts_sV_set (F := F) d L _)) $$ Hs'
  iapply (SparseCore.wp_indirectGatherLocal countersEmb 𝒱₀ (V d (cV L) (jV L)) none (hg := gathers_S1024x128_S512x128) (default : HIx 1)
      (rV).view.dmaCredit (row_credit _) (by decide) (list_inb idx d L hok 0 _ _ rfl)) $$ [Hxs Hr'' Hs'' Hq4]
  · isplitl [Hxs]; · iexact Hxs
    isplitl [Hr'']; · iexact Hr''
    isplitl [Hs'']; · iexact Hs''
    iexact Hq4
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hxs, Hs'⟩, Hq4, HO⟩
  ihave Ht' := (pointsTo_split_subset (q := qT (cL L) (jL L)) (f := tab d) (S := Finset.univ) (Finset.subset_univ (tAll).view.set)).2 $$ [Hxs Hxr]; · isplitl [Hxs] <;> iassumption
  ihave Hr' := (Entails.of_eq (pts_rV_set (F := F) d L _).symm) $$ Hr'
  ihave Hs' := (Entails.of_eq (pts_sV_set (F := F) d L _).symm) $$ Hs'
  sl_exec
  ihave Hxs := (pointsTo_split_subset (q := qT (cL L) (jL L)) (f := tab d) (S := Finset.univ) (Finset.subset_univ (tAll).view.set)).1 $$ Ht'
  icases Hxs with ⟨Hxs, Hxr⟩
  ihave Hr'' := (Entails.of_eq (pts_rV_set (F := F) d L _)) $$ Hr'
  ihave Hs'' := (Entails.of_eq (pts_sV_set (F := F) d L _)) $$ Hs'
  iapply (SparseCore.wp_indirectGatherLocal countersEmb 𝒱₀ (V d (cV L) (jV L)) none (hg := gathers_S1024x128_S512x128) (default : HIx 1)
      (rV).view.dmaCredit (row_credit _) (by decide) (list_inb idx d L hok 1 _ _ rfl)) $$ [Hxs Hr'' Hs'' Hq4]
  · isplitl [Hxs]; · iexact Hxs
    isplitl [Hr'']; · iexact Hr''
    isplitl [Hs'']; · iexact Hs''
    iexact Hq4
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hxs, Hs'⟩, Hq4, HO⟩
  ihave Ht' := (pointsTo_split_subset (q := qT (cL L) (jL L)) (f := tab d) (S := Finset.univ) (Finset.subset_univ (tAll).view.set)).2 $$ [Hxs Hxr]; · isplitl [Hxs] <;> iassumption
  ihave Hr' := (Entails.of_eq (pts_rV_set (F := F) d L _).symm) $$ Hr'
  ihave Hs' := (Entails.of_eq (pts_sV_set (F := F) d L _).symm) $$ Hs'
  sl_exec
  sl_step
  have h0 : ∀ x, tile_body.sl.dma0_1 tab idx d L hok fs fr x = want tab idx d ((oCh L 0).view.emb x) := fun x => by
    unfold tile_body.sl.dma0_1
    rw [View.write_whole_univ]
    exact gathered tab idx d L hok 0 fs _ rfl _ x
  have h1 : ∀ x, tile_body.sl.dma0_3 tab idx d L hok fs fr x = want tab idx d ((oCh L 1).view.emb x) := fun x => by
    unfold tile_body.sl.dma0_3
    rw [View.write_whole_univ]
    exact gathered tab idx d L hok 1 _ _ rfl _ x
  isplitl [Hi' Ht' Ho0' Ho1']
  · isplitl [Ht']; · iexact Ht'
    isplitl [Hi']; · iexact Hi'
    isplitl [Ho0']
    · iapply (Entails.of_eq (pts_done tab idx o₀ d L 0 (tile_body.sl.dma0_1 tab idx d L hok fs fr) h0)); iexact Ho0'
    · iapply (Entails.of_eq (pts_done tab idx o₀ d L 1 (tile_body.sl.dma0_3 tab idx d L hok fs fr) h1)); iexact Ho1'
  isplitl [Hs' Hr' Hbufs]
  · isplitl [Hs']; · iexists _; iexact Hs'
    isplitl [Hr']; · iexists _; iexact Hr'
    iexact Hbufs
  isplitl [Hq0 Hq1 Hq2 Hq3 Hq4 Hsems]
  · isplitl [Hq0]; · iexact Hq0
    isplitl [Hq1]; · iexact Hq1
    isplitl [Hq2]; · iexact Hq2
    isplitl [Hq3]; · iexact Hq3
    isplitl [Hq4]; · iexact Hq4
    iexact Hsems
  iexists _; isplitr
  swap; · iexact HO
  ipureintro; intro p hp
  simp only [Finset.mem_insert] at hp
  rcases hp with rfl | rfl | rfl | rfl | rfl | rfl | hp
  all_goals first | exact .inr rfl | exact .inl hp

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_k (coordsV c s)
          tV (Memref.isWhole_whole _) iV (Memref.isWhole_whole _) oV (Memref.isWhole_whole _)
          sV (Memref.isWhole_whole _) rV (Memref.isWhole_whole _) cc1_scratch2 cc1_scoped0 cc1_scoped1 cc1_scoped2 cc1_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile runs its task from what it is handed to what it brings back. -/
theorem tileObl (hF : (K (F := F)).Facts) (hok : CodesOK idx) : (K (F := F)).TileObl (D (F := F)) 𝒱 (P tab idx o₀) v₀ 0 := by
  intro d c i O W hO _ _
  simp only [show (P tab idx o₀).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tab idx o₀ d (coordsV ⟨_, hci.1⟩ ⟨_, hci.2⟩) hF hok O W hO).trans (wp_mono frame _ _ fun _ => obl_post)

end Tile

/-! ## The operands split and join -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- A SparseCore's operands are its tiles' together. -/
theorem corePts_tiles (d : Dev nD) (c : Fin 2) (f : Buf (Elt F) (oLoc d)) :
    (corePts tab idx d c f : sProp 𝕄) = bigSep Finset.univ fun s : Fin 16 => tilePts tab idx d c s f := by
  rw [bigSep_sep', bigSep_sep', ← pointsTo_piecesOf, ← pointsTo_piecesOf]

omit [FloatOps F] in
/-- The result's array is its chunks, SparseCore by SparseCore and tile by tile. -/
theorem oPts_chunks (d : Dev nD) (f : Buf (Elt F) (oLoc d)) :
    (oLoc d ↦{fullShare} f : sProp 𝕄) = bigSep Finset.univ fun c : Fin 2 => bigSep Finset.univ fun s : Fin 16 => oPts d c s f := by
  have h := pointsTo_biUnion (Ix := HIx 1) (Name := ℕ) (U := UU) (Lvl := ℕ) (ℓ := oLoc d) (q := fullShare) (f := f) (Finset.univ : Finset (Fin 2 × Fin 16 × Fin 2))
    (fun t => oSet (chunk t.1 t.2.1 t.2.2)) (fun t _ t' _ hne => oSet_disjoint fun e => hne (by
      obtain ⟨h1, h2, h3⟩ := chunk_inj e
      exact Prod.ext h1 (Prod.ext h2 h3)))
  have hc : (Finset.univ : Finset (Fin 2 × Fin 16 × Fin 2)).biUnion (fun t => oSet (chunk t.1 t.2.1 t.2.2)) = Finset.univ := by
    refine Finset.eq_univ_iff_forall.mpr fun j => ?_
    obtain ⟨i, -, hi⟩ := Finset.mem_biUnion.mp (oSet_cover ▸ Finset.mem_univ j)
    obtain ⟨c, s, k, rfl⟩ := chunk_surj i
    exact Finset.mem_biUnion.mpr ⟨(c, s, k), Finset.mem_univ _, hi⟩
  rw [hc] at h
  rw [h, bigSep_univ_prod]
  refine bigSep_congr fun c _ => ?_
  rw [bigSep_univ_prod]
  refine bigSep_congr fun s _ => ?_
  rw [show (Finset.univ : Finset (Fin 2)) = {0, 1} by decide, SparseCore.bigSep_insert' (by decide), bigSep_singleton]

omit [FloatOps F] in
/-- The call's operands are the two SparseCores' together. -/
theorem all_cores (d : Dev nD) (f : Buf (Elt F) (oLoc d)) :
    (iprop((tLoc d ↦{fullShare} tab d) ∗ (iLoc d ↦{fullShare} idx d) ∗ (oLoc d ↦{fullShare} f)) : sProp 𝕄)
      = bigSep Finset.univ fun c : Fin 2 => corePts tab idx d c f := by
  rw [bigSep_sep', bigSep_sep', ← pointsTo_piecesOf, ← pointsTo_piecesOf, ← oPts_chunks]

theorem vecSplit : (K (F := F)).VecSplit' (P tab idx o₀) 0 := by
  intro d c
  show corePts tab idx d (Fin.cast nCore_zero c) (o₀ d) ⊢ |={Set.univ}=> iprop(
      (bigSep Finset.univ fun i : Fin ((K (F := F)).nSub 0) => tilePts tab idx d (Fin.cast nCore_zero c) (Fin.cast nSub_zero i) (o₀ d))
      ∗ ((bigSep Finset.univ fun i : Fin ((K (F := F)).nSub 0) => tilePts tab idx d (Fin.cast nCore_zero c) (Fin.cast nSub_zero i) (want tab idx d))
          -∗ corePts tab idx d (Fin.cast nCore_zero c) (want tab idx d)))
  rw [bigSep_tasks (F := F) (fun i => tilePts tab idx d (Fin.cast nCore_zero c) i (o₀ d)),
    bigSep_tasks (F := F) (fun i => tilePts tab idx d (Fin.cast nCore_zero c) i (want tab idx d)), ← corePts_tiles, ← corePts_tiles]
  iintro H; imodintro
  isplitl [H]; · iexact H
  iintro H; iexact H

theorem st_eq (d : Dev nD) : (bigSep Finset.univ fun c : Fin ((K (F := F)).nCore 0) => (P tab idx o₀).st 0 d c)
    = iprop((tLoc d ↦{fullShare} tab d) ∗ (iLoc d ↦{fullShare} idx d) ∗ (oLoc d ↦{fullShare} o₀ d)) :=
  (bigSep_cores (F := F) (fun c => corePts tab idx d c (o₀ d))).trans (all_cores tab idx d _).symm
theorem dn_eq (d : Dev nD) : (bigSep Finset.univ fun c : Fin ((K (F := F)).nCore 0) => (P tab idx o₀).dn 0 d c)
    = iprop((tLoc d ↦{fullShare} tab d) ∗ (iLoc d ↦{fullShare} idx d) ∗ (oLoc d ↦{fullShare} want tab idx d)) :=
  (bigSep_cores (F := F) (fun c => corePts tab idx d c (want tab idx d))).trans (all_cores tab idx d _).symm

end Cert.Proof.KernelIdealRun

end
-- ==== Proof.KernelIdealBody.lean ====
/- The body of the distance call, run at a symbolic grid point over whole staging buffers. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.WordCmp
public import Idealize.ShloMosaic.Lib.Pipeline.TableIdle
public import Idealize.ShloMosaic.Lib.Tactic
public import Idealize.ShloMosaic.Lib.VecWindow

@[expose] public section

set_option maxRecDepth 16384

noncomputable section

namespace Cert.Proof.KernelIdealBody

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {U : Type} [URA U] {Lvl : Type} [Preorder Lvl]

local notation "𝕄" => MT nD τ sig Ix (Elt F) ℕ U Lvl

/-- The branch word of one block: 1 where the one-hot rows count more lanes than rows. -/
def tieBit (z : Vec F S2048x64 .f32) (e : Vec F S1024x64 .f32) : BitVec 1 :=
  Scalar.cmpi .ne (Scalar.extui (Scalar.cmpf .ogt (k0_pay2 (k0_pay9 z e)) (Scalar.ofBits (F := F) .f32 0x45000800#32)) : BitVec 32) 0#32

/-- The codes of one block of tokens. -/
def codeBlk (z : Vec F S2048x64 .f32) (e : Vec F S1024x64 .f32) : IVec S16x128 32 :=
  if tieBit z e = 1#1 then k0_pay3 (k0_pay7 z e) (k0_pay8 z e) else k0_pay1 (k0_pay9 z e) (k0_pay10 z e) (Scalar.ofBits (F := F) .f32 0x42000000#32)

/-- A whole buffer held at contents that read `X` is owned at `X`. -/
theorem own_of {s : Shape} {e : EltTy} (c : Dev nD) (M : Memref sig .tc .vmem s e) (hM : M.IsWhole)
    (g : Buf (Elt F) (M.view.loc (c : Thread nD τ))) (X : s.Idx → Elt F e) (hX : M.view.read (Elt F) g = X) :
    iprop(M.view.loc (c : Thread nD τ) ↦{fullShare} g) ⊢ (owns (c : Thread nD τ) M fullShare X : sProp 𝕄) := by
  unfold owns
  rw [hM.set_eq_univ]
  iintro H
  iexists g
  isplitr
  · ipureintro; exact hX
  · iexact H

/-- A whole buffer owned at `X` is held at contents that read `X`. -/
theorem of_own {s : Shape} {e : EltTy} (c : Dev nD) (M : Memref sig .tc .vmem s e) (hM : M.IsWhole) (X : s.Idx → Elt F e) :
    (owns (c : Thread nD τ) M fullShare X : sProp 𝕄)
      ⊢ iprop(∃ g, ⌜M.view.read (Elt F) g = X⌝ ∗ (M.view.loc (c : Thread nD τ) ↦{fullShare} g)) := by
  unfold owns
  rw [hM.set_eq_univ]

/-- The body at grid point `i`: from the five whole staging buffers it returns with the inputs as they were, the codes of
    the block, the running sum grown by the block's sum of minima (started at zero at the first point), and the padded
    table written at the first point. -/
theorem body_wp (𝒱 : Variants) (c : Dev nD) (i : grid0.Coords)
    (M0 : Memref sig .tc .vmem S2048x64 .f32) (h0 : M0.IsWhole) (M1 : Memref sig .tc .vmem S1024x64 .f32) (h1 : M1.IsWhole)
    (M2 : Memref sig .tc .vmem S16x128 .i32) (h2 : M2.IsWhole) (M3 : Memref sig .tc .vmem S1x1 .f32) (h3 : M3.IsWhole)
    (M4 : Memref sig .tc .vmem S1024x128 .f32) (h4 : M4.IsWhole)
    (X0 : Vec F S2048x64 .f32) (X1 : Vec F S1024x64 .f32) (X2 : Vec F S16x128 .i32) (X3 : Vec F S1x1 .f32) (X4 : Vec F S1024x128 .f32)
    (E : Set ℕ) (Q : PUnit → sProp 𝕄) :
    iprop(owns (c : Thread nD τ) M0 fullShare X0 ∗ owns (c : Thread nD τ) M1 fullShare X1
        ∗ owns (c : Thread nD τ) M2 fullShare X2 ∗ owns (c : Thread nD τ) M3 fullShare X3 ∗ owns (c : Thread nD τ) M4 fullShare X4
        ∗ (iprop(owns (c : Thread nD τ) M0 fullShare X0 ∗ owns (c : Thread nD τ) M1 fullShare X1
            ∗ owns (c : Thread nD τ) M2 fullShare (codeBlk X0 X1)
            ∗ owns (c : Thread nD τ) M3 fullShare (k0_pay6 (k0_pay8 X0 X1) (if k0_cond2 i = 1#1 then k0_pay4 else X3))
            ∗ owns (c : Thread nD τ) M4 fullShare (if k0_cond2 i = 1#1 then k0_pay5 X1 else X4)) -∗ Q ⟨⟩))
      ⊢ wp frame (wpE (defs₀ (F := F)) 𝒱 (c : Thread nD τ) none) E (cc0__vq_block i M0 h0 M1 h1 M2 h2 M3 h3 M4 h4) Q := by
  simp only [cc0__vq_block_eq_skeleton]; unfold cc0__vq_block_skel
  simp only [k0_part1_eq_skeleton]
  by_cases hc : k0_cond2 i = 1#1
  · rw [if_pos hc, if_pos hc]
    iintro ⟨H0, H1, H2, H3, H4, Hk⟩
    ihave H0 := (of_own c M0 h0 X0) $$ H0
    ihave H1 := (of_own c M1 h1 X1) $$ H1
    ihave H2 := (of_own c M2 h2 X2) $$ H2
    ihave H3 := (of_own c M3 h3 X3) $$ H3
    ihave H4 := (of_own c M4 h4 X4) $$ H4
    icases H0 with ⟨%f0, %e0, H0⟩
    icases H1 with ⟨%f1, %e1, H1⟩
    icases H2 with ⟨%f2, %e2, H2⟩
    icases H3 with ⟨%f3, %e3, H3⟩
    icases H4 with ⟨%f4, %e4, H4⟩
    have r0 : M0.view.readAt (Elt F) (Rect.unit (s := S2048x64) ![0, 0] S2048x64.size inb_S2048x64_S2048x64_0_0).toLoadRect f0 = X0 :=
      (View.readAt_full M0.view f0 _).trans e0
    have r1 : M1.view.readAt (Elt F) (Rect.unit (s := S1024x64) ![0, 0] S1024x64.size inb_S1024x64_S1024x64_0_0).toLoadRect f1 = X1 :=
      (View.readAt_full M1.view f1 _).trans e1
    sl_exec
    sl_step
    iapply Hk
    isplitl [H0]
    · iapply (own_of c M0 h0 f0 X0 e0) $$ H0
    isplitl [H1]
    · iapply (own_of c M1 h1 f1 X1 e1) $$ H1
    isplitl [H2]
    · iapply (own_of c M2 h2 _ (codeBlk X0 X1) ?_) $$ H2
      rw [← r0, ← r1]
      unfold codeBlk
      split
      · rename_i ht
        exact (View.read_writes_full M2.view f2 _ _ _).trans (if_pos ht).symm
      · rename_i ht
        exact (View.read_writes_full M2.view f2 _ _ _).trans (if_neg ht).symm
    isplitl [H3]
    · iapply (own_of c M3 h3 _ _ ?_) $$ H3
      rw [← r0, ← r1]
      exact (View.read_writes_full M3.view f3 _ _ _).trans (congrArg (k0_pay6 _) (View.readCov_full M3.view _ _ _ _))
    · iapply (own_of c M4 h4 _ _ ?_) $$ H4
      rw [← r1]
      exact View.read_writes_full M4.view f4 _ _ _
  · rw [if_neg hc, if_neg hc]
    iintro ⟨H0, H1, H2, H3, H4, Hk⟩
    ihave H0 := (of_own c M0 h0 X0) $$ H0
    ihave H1 := (of_own c M1 h1 X1) $$ H1
    ihave H2 := (of_own c M2 h2 X2) $$ H2
    ihave H3 := (of_own c M3 h3 X3) $$ H3
    ihave H4 := (of_own c M4 h4 X4) $$ H4
    icases H0 with ⟨%f0, %e0, H0⟩
    icases H1 with ⟨%f1, %e1, H1⟩
    icases H2 with ⟨%f2, %e2, H2⟩
    icases H3 with ⟨%f3, %e3, H3⟩
    icases H4 with ⟨%f4, %e4, H4⟩
    have r0 : M0.view.readAt (Elt F) (Rect.unit (s := S2048x64) ![0, 0] S2048x64.size inb_S2048x64_S2048x64_0_0).toLoadRect f0 = X0 :=
      (View.readAt_full M0.view f0 _).trans e0
    have r1 : M1.view.readAt (Elt F) (Rect.unit (s := S1024x64) ![0, 0] S1024x64.size inb_S1024x64_S1024x64_0_0).toLoadRect f1 = X1 :=
      (View.readAt_full M1.view f1 _).trans e1
    sl_exec
    sl_step
    iapply Hk
    isplitl [H0]
    · iapply (own_of c M0 h0 f0 X0 e0) $$ H0
    isplitl [H1]
    · iapply (own_of c M1 h1 f1 X1 e1) $$ H1
    isplitl [H2]
    · iapply (own_of c M2 h2 _ (codeBlk X0 X1) ?_) $$ H2
      rw [← r0, ← r1]
      unfold codeBlk
      split
      · rename_i ht
        exact (View.read_writes_full M2.view f2 _ _ _).trans (if_pos ht).symm
      · rename_i ht
        exact (View.read_writes_full M2.view f2 _ _ _).trans (if_neg ht).symm
    isplitl [H3]
    · iapply (own_of c M3 h3 _ _ ?_) $$ H3
      rw [← r0, ← r1]
      exact (View.read_writes_full M3.view f3 _ _ _).trans (congrArg (k0_pay6 _) ((View.readAt_full M3.view f3 _).trans e3))
    · iapply (own_of c M4 h4 _ _ e4) $$ H4

/-! ## The proof data -/

variable (A : (b : Ref sig .tc) → (c : Dev nD) → Buf (Elt F) ((c : Thread nD τ).loc b))

/-- The block of the tokens at grid point `t`. -/
def zAt (c : Dev nD) (t : Fin cfg0.N) : Vec F S2048x64 .f32 :=
  ((cfg0.win 0).blk t).view.read (Elt F) (A (Pipeline.arrRef spec0 0) c)

/-- The code book as staged at grid point `t`. -/
def eAt (c : Dev nD) (t : Fin cfg0.N) : Vec F S1024x64 .f32 :=
  ((cfg0.win 1).blk t).view.read (Elt F) (A (Pipeline.arrRef spec0 1) c)

/-- The running sum of the minima after grid point `n`. -/
def accAt (c : Dev nD) : (n : ℕ) → n < cfg0.N → FVec F S1x1 .f32
  | 0, h => k0_pay6 (k0_pay8 (zAt A c ⟨0, h⟩) (eAt A c ⟨0, h⟩)) k0_pay4
  | n + 1, h => k0_pay6 (k0_pay8 (zAt A c ⟨n + 1, h⟩) (eAt A c ⟨n + 1, h⟩)) (accAt c n (Nat.lt_of_succ_lt h))

/-- The proof data of the call: the arrays as found, what each staging buffer holds after each point, an invariant that
    does not change, and the tallies owed throughout. -/
def dat (c : Dev nD) (Φ0 : sProp 𝕄) (ow : CellTallies nD τ sig Ix) (rc : Set (SemLoc sig × Ix)) : Pipeline.Dat τ (Elt F) Ix ℕ U Lvl cfg0 c where
  A w := A (Pipeline.arrRef spec0 w) c
  after w t := match w with
    | ⟨0, _⟩ => zAt A c t
    | ⟨1, _⟩ => eAt A c t
    | ⟨2, _⟩ => codeBlk (zAt A c t) (eAt A c t)
    | ⟨3, _⟩ => accAt A c t.val t.isLt
    | ⟨4, _⟩ => k0_pay5 (eAt A c t0_0)
  Φ _ := Φ0
  q _ := fullShare
  owed _ := ow
  recorded _ := rc

theorem cond2_iff : ∀ t : Fin grid0.N, k0_cond2 (grid0.coords t) = 1#1 ↔ t.val = 0 := by decide +kernel

theorem fresh3 : ∀ t : Fin grid0.N, cfg0.fresh 3 t.val = decide (t.val = 0) := by decide +kernel
theorem fresh4 : ∀ t : Fin grid0.N, cfg0.fresh 4 t.val = decide (t.val = 0) := by decide +kernel

variable {A}

theorem before0 (c : Dev nD) (Φ0 : sProp 𝕄) (ow : CellTallies nD τ sig Ix) (rc : Set (SemLoc sig × Ix)) (t : Fin cfg0.N) (d) : (dat (Ix := Ix) (U := U) (Lvl := Lvl) A c Φ0 ow rc).before 0 t d = zAt A c t :=
  ((dat (Ix := Ix) (U := U) (Lvl := Lvl) A c Φ0 ow rc).before_in_eq_fetched 0 rfl (fun _ => rfl) (fun _ _ _ => rfl) (fun _ => rfl) t d).trans rfl

theorem before1 (c : Dev nD) (Φ0 : sProp 𝕄) (ow : CellTallies nD τ sig Ix) (rc : Set (SemLoc sig × Ix)) (t : Fin cfg0.N) (d) : (dat (Ix := Ix) (U := U) (Lvl := Lvl) A c Φ0 ow rc).before 1 t d = eAt A c t :=
  ((dat (Ix := Ix) (U := U) (Lvl := Lvl) A c Φ0 ow rc).before_in_eq_fetched 1 rfl (fun _ => rfl) (fun _ _ _ => rfl) (fun _ => rfl) t d).trans rfl

theorem before3 (c : Dev nD) (Φ0 : sProp 𝕄) (ow : CellTallies nD τ sig Ix) (rc : Set (SemLoc sig × Ix)) (t : Fin cfg0.N) (ht : t.val ≠ 0) (d) :
    (dat (Ix := Ix) (U := U) (Lvl := Lvl) A c Φ0 ow rc).before 3 t d = accAt A c (t.val - 1) (by omega) := by
  rw [(dat (Ix := Ix) (U := U) (Lvl := Lvl) A c Φ0 ow rc).before_out_traj 3 rfl (fun _ _ => rfl) (fun _ _ h => by cases h) t.val t rfl d,
    fresh3 t, decide_eq_false ht]
  rfl

theorem before4 (c : Dev nD) (Φ0 : sProp 𝕄) (ow : CellTallies nD τ sig Ix) (rc : Set (SemLoc sig × Ix)) (t : Fin cfg0.N) (ht : t.val ≠ 0) (d) :
    (dat (Ix := Ix) (U := U) (Lvl := Lvl) A c Φ0 ow rc).before 4 t d = k0_pay5 (eAt A c t0_0) := by
  rw [(dat (Ix := Ix) (U := U) (Lvl := Lvl) A c Φ0 ow rc).before_out_traj 4 rfl (fun _ _ => rfl) (fun _ _ _ _ => rfl) t.val t rfl d,
    fresh4 t, decide_eq_false ht]
  rfl

theorem defs₀_row (t : Fin cfg0.N) : defs₀ (F := F) .tc cfg0.body (cfg0.bodyArgs t (cfg0.slots t)) = bodyAt0 t := by
  rfl

/-- The body keeps the proof data, at any invariant and any debt. -/
theorem body_obligation (c : Dev nD) (Φ0 : sProp 𝕄) (ow : CellTallies nD τ sig Ix) (rc : Set (SemLoc sig × Ix)) (𝒱 : Variants) (ι : Ix) :
    Pipeline.BodyObligation (dat (Ix := Ix) (U := U) (Lvl := Lvl) A c Φ0 ow rc) (defs₀ (F := F)) 𝒱 ι Set.univ := fun t => by
  rw [bigSep_W0, bigSep_W0, defs₀_row]
  have hΦ : (dat (Ix := Ix) (U := U) (Lvl := Lvl) A c Φ0 ow rc).Φ t.succ = (dat (Ix := Ix) (U := U) (Lvl := Lvl) A c Φ0 ow rc).Φ t.castSucc := rfl
  have hO : (dat (Ix := Ix) (U := U) (Lvl := Lvl) A c Φ0 ow rc).owesAt ι t.succ = (dat (Ix := Ix) (U := U) (Lvl := Lvl) A c Φ0 ow rc).owesAt ι t.castSucc := rfl
  have hi : cfg0.idle 4 (cfg0.grid.coords t) = !(k0_cond2 (grid0.coords t) == 1#1) := rfl
  rw [hΦ, hO, hi]
  by_cases ht : t.val = 0
  · have hc : k0_cond2 (grid0.coords t) = 1#1 := (cond2_iff t).mpr ht
    have ht0 : t = t0_0 := Fin.ext ht
    have hb : (!(k0_cond2 (grid0.coords t) == 1#1)) = false := by rw [hc]; rfl
    have e3 : ∀ X, k0_pay6 (k0_pay8 (zAt A c t) (eAt A c t)) (if k0_cond2 (grid0.coords t) = 1#1 then k0_pay4 else X)
        = (dat (Ix := Ix) (U := U) (Lvl := Lvl) A c Φ0 ow rc).after 3 t := fun X => by rw [if_pos hc, ht0]; rfl
    have e4 : ∀ X, (if k0_cond2 (grid0.coords t) = 1#1 then k0_pay5 (eAt A c t) else X)
        = (dat (Ix := Ix) (U := U) (Lvl := Lvl) A c Φ0 ow rc).after 4 t := fun X => by rw [if_pos hc, ht0]; rfl
    rw [hb]
    dsimp only
    iintro ⟨HΦ, HO, H0, H1, H2, H3, H4⟩
    icases H0 with ⟨%d0, H0⟩
    icases H1 with ⟨%d1, H1⟩
    icases H2 with ⟨%d2, H2⟩
    icases H3 with ⟨%d3, H3⟩
    icases H4 with ⟨%d4, H4⟩
    rw [before0, before1]
    iapply (body_wp 𝒱 c (grid0.coords t) _ (hstage0_0 _) _ (hstage0_1 _) _ (hstage0_2 _) _ (hstage0_3 _) _ (hstage0_4 _)
      (zAt A c t) (eAt A c t) ((dat (Ix := Ix) (U := U) (Lvl := Lvl) A c Φ0 ow rc).before 2 t d2)
      ((dat (Ix := Ix) (U := U) (Lvl := Lvl) A c Φ0 ow rc).before 3 t d3) ((dat (Ix := Ix) (U := U) (Lvl := Lvl) A c Φ0 ow rc).before 4 t d4) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [HO]; · iexact HO
    isplitl [H0]; · iexact H0
    isplitl [H1]; · iexact H1
    isplitl [H2]; · iexact H2
    rw [e3, e4]
    isplitl [H3]; · iexact H3
    iexact H4
  · have hc : ¬k0_cond2 (grid0.coords t) = 1#1 := fun h => ht ((cond2_iff t).mp h)
    have hb : (!(k0_cond2 (grid0.coords t) == 1#1)) = true := by rw [beq_false_of_ne hc]; rfl
    have e3 : ∀ d3, k0_pay6 (k0_pay8 (zAt A c t) (eAt A c t)) (if k0_cond2 (grid0.coords t) = 1#1 then k0_pay4 else
          (dat (Ix := Ix) (U := U) (Lvl := Lvl) A c Φ0 ow rc).before 3 t d3)
        = (dat (Ix := Ix) (U := U) (Lvl := Lvl) A c Φ0 ow rc).after 3 t := by
      intro d3
      rw [if_neg hc, before3 c Φ0 ow rc t ht]
      obtain ⟨n, hn⟩ := t
      cases n with
      | zero => exact absurd rfl ht
      | succ n => rfl
    have e4 : ∀ X, (if k0_cond2 (grid0.coords t) = 1#1 then k0_pay5 (eAt A c t) else X) = X := fun X => if_neg hc
    have e5 : ∀ d4, (dat (Ix := Ix) (U := U) (Lvl := Lvl) A c Φ0 ow rc).before 4 t d4
        = (dat (Ix := Ix) (U := U) (Lvl := Lvl) A c Φ0 ow rc).after 4 t := fun d4 => before4 c Φ0 ow rc t ht d4
    rw [hb]
    cases hf : (cfg0.win 4).flush t
    · dsimp only
      iintro ⟨HΦ, HO, H0, H1, H2, H3, H4⟩
      icases H0 with ⟨%d0, H0⟩
      icases H1 with ⟨%d1, H1⟩
      icases H2 with ⟨%d2, H2⟩
      icases H3 with ⟨%d3, H3⟩
      icases H4 with ⟨%d4, H4⟩
      rw [before0, before1]
      iapply (body_wp 𝒱 c (grid0.coords t) _ (hstage0_0 _) _ (hstage0_1 _) _ (hstage0_2 _) _ (hstage0_3 _) _ (hstage0_4 _)
    (zAt A c t) (eAt A c t) ((dat (Ix := Ix) (U := U) (Lvl := Lvl) A c Φ0 ow rc).before 2 t d2)
        ((dat (Ix := Ix) (U := U) (Lvl := Lvl) A c Φ0 ow rc).before 3 t d3) ((dat (Ix := Ix) (U := U) (Lvl := Lvl) A c Φ0 ow rc).before 4 t d4) Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [HO]; · iexact HO
      isplitl [H0]; · iexact H0
      isplitl [H1]; · iexact H1
      isplitl [H2]; · iexact H2
      rw [e3 d3, e4]
      isplitl [H3]; · iexact H3
      iexists d4; iexact H4
    · dsimp only
      iintro ⟨HΦ, HO, H0, H1, H2, H3, H4⟩
      icases H0 with ⟨%d0, H0⟩
      icases H1 with ⟨%d1, H1⟩
      icases H2 with ⟨%d2, H2⟩
      icases H3 with ⟨%d3, H3⟩
      icases H4 with ⟨%d4, H4⟩
      rw [before0, before1]
      iapply (body_wp 𝒱 c (grid0.coords t) _ (hstage0_0 _) _ (hstage0_1 _) _ (hstage0_2 _) _ (hstage0_3 _) _ (hstage0_4 _)
        (zAt A c t) (eAt A c t) ((dat (Ix := Ix) (U := U) (Lvl := Lvl) A c Φ0 ow rc).before 2 t d2)
        ((dat (Ix := Ix) (U := U) (Lvl := Lvl) A c Φ0 ow rc).before 3 t d3) ((dat (Ix := Ix) (U := U) (Lvl := Lvl) A c Φ0 ow rc).before 4 t d4) Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [HO]; · iexact HO
      isplitl [H0]; · iexact H0
      isplitl [H1]; · iexact H1
      isplitl [H2]; · iexact H2
      rw [e3 d3, e4, e5]
      isplitl [H3]; · iexact H3
      iexact H4

end Cert.Proof.KernelIdealBody

end
-- ==== Proof.KernelIdealRegion.lean ====
/-
  The distance call inside the whole program: entered from any contents of the TensorCore's buffers, it leaves its three
  results at what its proof data computes and every other buffer as it was. Around it the core goes on owing the
  lookup's start signals; its own waits are all at the index that no handshake uses.
-/
module

public import proofs.«01_k».proof.Proof.KernelIdealTile
public import proofs.«01_k».proof.Proof.KernelIdealBody
public import proofs.«01_k».proof.Proof.Gen.KernelIdeal.Launch
public import Idealize.ShloMosaic.Lib.Pipeline.RegionsLoop

@[expose] public section

noncomputable section

namespace Cert.Proof.KernelIdealRun

open Cert.KernelIdeal Cert.KernelIdeal.Gen Cert.Proof.KernelIdealBody

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The pipeline's rounds, inside the certificate's ghost state. -/
abbrev EP : Emb (URounds (GSem nD τ sig) Unit) (MT nD τ sig (HIx 1) (Elt F) ℕ UU ℕ) :=
  (Emb.inl : Emb (URounds (GSem nD τ sig) Unit) (URounds (GSem nD τ sig) Unit × Counters)).trans embR

/-- Before the lookup is started the core owes nothing at the index its own waits are at. -/
theorem owed_none (d : Dev nD) (g : GSem nD τ sig) : (K (F := F)).Otc d 0 g none = 0 := by
  by_contra h
  have := (K (F := F)).lev_of_Otc_pos (Nat.pos_of_ne_zero h)
  rw [show (K (F := F)).lev g none = 0 from rfl] at this
  omega

/-- The pairs the core may have waited on so far. -/
abbrev rc0 : Set (SemLoc sig × HIx 1) := {p | p.2 = none}

variable (W : (c : Dev nD) → (b : Ref sig .tc) → Buf (Elt F) ((c : Thread nD τ).loc b))

abbrev adm : (p : Fin 1) → (pcfgs (F := F) p).Adm := fun q => (cfgs q).toPCfg_adm

/-- The call's proof data at entry contents `W`. -/
abbrev rdat (c : Dev nD) : Pipeline.Dat τ (Elt F) (HIx 1) ℕ UU ℕ cfg0 c :=
  dat (Ix := HIx 1) (U := UU) (Lvl := ℕ) (fun b c => W c b) c (Pipeline.scopedRest (Ix := HIx 1) (Name := ℕ) (U := UU) (Lvl := ℕ) (Val := Elt F) spec0 c)
    ((K (F := F)).Otc c 0) rc0

abbrev rdats : (p : Fin 1) → (c : Dev nD) → Pipeline.Dat τ (Elt F) (HIx 1) ℕ UU ℕ (Pipeline.pin (pcfgs (F := F)) adm p) c :=
  fun _ c => rdat W c

/-- What the core owes around the call. -/
abbrev owing (c : Dev nD) : sProp 𝕄 :=
  iprop(∃ Ws, ⌜∀ p ∈ Ws, p ∈ (rc0 : Set (SemLoc sig × HIx 1))⌝ ∗ owes (c : Thread nD τ) ((K (F := F)).Otc c 0) Ws)

variable (W' : (c : Dev nD) → (b : Ref sig .tc) → Buf (Elt F) ((c : Thread nD τ).loc b))

set_option backward.isDefEq.respectTransparency.types false in
/-- The call as a stretch of the program, from contents `W` to contents `W'`. -/
def reg (h2 : ∀ c, W' c main_v1_0 = (rdat W c).arrAt 2 cfg0.N) (h3 : ∀ c, W' c main_v1_1 = (rdat W c).arrAt 3 cfg0.N)
    (h4 : ∀ c, W' c main_v1_2 = (rdat W c).arrAt 4 cfg0.N)
    (hne : ∀ c (b : Ref sig .tc), b ≠ main_v1_0 → b ≠ main_v1_1 → b ≠ main_v1_2 → W' c b = W c b) :
    Pipeline.RegionSeg (pcfgs (F := F)) adm (rdats W) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation c _ _ _ _ _).loose
  hwaits c := Pipeline.cellsWaits_intro _ _ _ _ _ fun w s t => (K (F := F)).mayWait_none _ (fun g => owed_none c g)
  pre c := iprop(unscopedBufs c (W c) ∗ owing c)
  post c := iprop(unscopedBufs c (W' c) ∗ owing c)
  X _ := BI.emp
  Y _ := BI.emp
  Z c := Pipeline.unscopedRest (Ix := HIx 1) (Name := ℕ) (U := UU) (Lvl := ℕ) spec0 c (W c)
  hentry c := by
    rw [Pipeline.ownSems0_none]
    have hsplit := Pipeline.arrays_of_unscopedBufs (p := 0) (pcfgs (F := F)) adm (rdats W) launch0.win launch0.arr_whole c
      ((rdats W 0 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Ws, %hW, HO⟩; iexists Ws; isplitr; · ipureintro; exact fun p hp => Or.inl (hW p hp)
      iexact HO
    isplitr; · iempintro
    iexact Hrest
  hin c := by
    rw [show (rdats W 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (rdats W 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (rdats W) ((rdats W 0 c).share_full fun _ => rfl) (W c) (W' c) ((rdats W 0 c).arrAt · cfg0.N)
      (fun w => by
        match w with
        | ⟨0, _⟩ => exact ((rdats W 0 c).arrAt_in 0 rfl _).trans (hne c main_v0 (by decide) (by decide) (by decide)).symm
        | ⟨1, _⟩ => exact ((rdats W 0 c).arrAt_in 1 rfl _).trans (hne c main_arg1 (by decide) (by decide) (by decide)).symm
        | ⟨2, _⟩ => exact (h2 c).symm
        | ⟨3, _⟩ => exact (h3 c).symm
        | ⟨4, _⟩ => exact (h4 c).symm)
      (fun b hb => hne c b (fun h => hb (h ▸ Finset.mem_image.mpr ⟨2, Finset.mem_univ _, rfl⟩))
        (fun h => hb (h ▸ Finset.mem_image.mpr ⟨3, Finset.mem_univ _, rfl⟩)) (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%Ws, %hW, HO⟩; iexists Ws; isplitr; swap; (· iexact HO)
    ipureintro
    intro p hp
    rcases hW hp with h | ⟨w, s, rfl⟩
    · exact h
    · exact rfl

end Cert.Proof.KernelIdealRun

end
-- ==== Proof.KernelIdealLaunch.lean ====
/-
  The whole program's run. The TensorCore reshapes the tokens, runs the distance call, lays its codes flat, starts the
  lookup, and makes the two float results; each stretch takes the contents of its buffers to known contents. From any
  memory whose computed codes all name rows, every execution ends with every buffer at those contents and every
  semaphore at zero.
-/
module

public import proofs.«01_k».proof.Proof.KernelIdealRegion

@[expose] public section

noncomputable section

namespace Cert.Proof.KernelIdealRun

open Cert.KernelIdeal Cert.KernelIdeal.Gen Cert.Proof.KernelIdealBody

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (after held seq)

variable {F : FTy → Type} [FloatOps F]

local notation "𝕄" => MT nD τ sig (HIx 1) (Elt F) ℕ UU ℕ

/-! ## The stretches of host operations -/

/-- Before the distance call: the tokens as rows. -/
abbrev ops1 : List (HloOp τ sig (Elt F)) :=
  [StableHlo.reshape main_arg0 main_v0 (rfl : (.f32 : EltTy) = .f32) shapeCasts_S32x1024x64_S32768x64]

/-- Between the calls: the codes laid flat. -/
abbrev ops2 : List (HloOp τ sig (Elt F)) :=
  [StableHlo.reshape main_v1_0 main_v2 (rfl : (.i32 : EltTy) = .i32) shapeCasts_S256x128_S32768]

/-- After the lookup: the rows' 64 words, as tokens; the loss. -/
abbrev ops3 : List (HloOp τ sig (Elt F)) :=
  [StableHlo.unary main_v3 main_v4 ((extractStridedSlice S32768x64 ![0, 0] · slices_S32768x128_S32768x64_0_0) : (⟨S32768x128, .f32⟩ : BufTy).Contents (Elt F) → (⟨S32768x64, .f32⟩ : BufTy).Contents (Elt F)),
   StableHlo.reshape main_v4 main_v5 (rfl : (.f32 : EltTy) = .f32) shapeCasts_S32768x64_S32x1024x64,
   StableHlo.reshape main_v1_1 main_v6 (rfl : (.f32 : EltTy) = .f32) shapeCasts_S1x1_S_,
   StableHlo.nullary main_cst (constant S_ .f32 0x4A000000#32),
   StableHlo.binary main_v6 main_cst main_v7 (Host.divf : (⟨S_, .f32⟩ : BufTy).Contents (Elt F) → (⟨S_, .f32⟩ : BufTy).Contents (Elt F) → (⟨S_, .f32⟩ : BufTy).Contents (Elt F)),
   StableHlo.nullary main_cst_0 (constant S_ .f32 0x3E800000#32),
   StableHlo.binary main_cst_0 main_v7 main_v8 (mulf : (⟨S_, .f32⟩ : BufTy).Contents (Elt F) → (⟨S_, .f32⟩ : BufTy).Contents (Elt F) → (⟨S_, .f32⟩ : BufTy).Contents (Elt F))]

/-- The program is those stretches around the two calls. -/
theorem main_eq (d : Dev nD) : main (F := F) d
    = seq ops1 >>= fun _ => SparseCore.liftProg (Prog.lift (.customCall (Pipeline.entry 0) ())) >>= fun _ =>
        seq ops2 >>= fun _ => sc.run d 0 >>= fun _ => seq ops3 >>= fun _ => pure ⟨⟩ := by
  simp only [main, seq, bind_assoc, pure_bind]
  rfl

/-- The TensorCore's unscoped buffers. -/
def ucRefs : Finset (DevRef τ sig) := (StableHlo.tcRefs τ sig).filter fun b => ¬ b.isScoped

theorem mem_ucRefs (b : Ref sig .tc) (h : b.isScoped = false) : Proc.devRef (τ := τ) .tc b ∈ ucRefs :=
  Finset.mem_filter.mpr ⟨StableHlo.devRef_mem_tcRefs b, by rw [show (Proc.devRef (τ := τ) .tc b).isScoped = b.isScoped from rfl, h]; decide⟩

omit [FloatOps F] in
theorem unscopedBufs_held (c : Dev nD) (W : Valuation τ sig (Elt F)) :
    (unscopedBufs c (fun b => W (Proc.devRef .tc b)) : sProp 𝕄) = held (c : Thread nD τ) ucRefs W := by
  unfold unscopedBufs StableHlo.held ucRefs StableHlo.tcRefs
  rw [Finset.filter_map, bigSep_map]
  rfl

theorem sub1 : ∀ op ∈ ops1 (F := F), op.bufs ⊆ ucRefs := by
  intro op hop
  rw [List.mem_singleton] at hop; subst hop
  rw [StableHlo.reshape_bufs]
  intro b hb
  simp only [Finset.mem_insert, Finset.mem_singleton] at hb
  rcases hb with rfl | rfl <;> exact mem_ucRefs _ (by decide)

theorem sub2 : ∀ op ∈ ops2 (F := F), op.bufs ⊆ ucRefs := by
  intro op hop
  rw [List.mem_singleton] at hop; subst hop
  rw [StableHlo.reshape_bufs]
  intro b hb
  simp only [Finset.mem_insert, Finset.mem_singleton] at hb
  rcases hb with rfl | rfl <;> exact mem_ucRefs _ (by decide)

theorem sub3 : ∀ op ∈ ops3 (F := F), op.bufs ⊆ ucRefs := by
  intro op hop b hb
  simp only [List.mem_cons, List.not_mem_nil, or_false] at hop
  rcases hop with rfl | rfl | rfl | rfl | rfl | rfl | rfl <;>
    simp only [StableHlo.unary_bufs, StableHlo.reshape_bufs, StableHlo.nullary_bufs, StableHlo.binary_bufs, Finset.mem_insert, Finset.mem_singleton] at hb
  · rcases hb with rfl | rfl <;> exact mem_ucRefs _ (by decide)
  · rcases hb with rfl | rfl <;> exact mem_ucRefs _ (by decide)
  · rcases hb with rfl | rfl <;> exact mem_ucRefs _ (by decide)
  · subst hb; exact mem_ucRefs _ (by decide)
  · rcases hb with rfl | rfl | rfl <;> exact mem_ucRefs _ (by decide)
  · subst hb; exact mem_ucRefs _ (by decide)
  · rcases hb with rfl | rfl | rfl <;> exact mem_ucRefs _ (by decide)

theorem fresh1 : ∀ op ∈ ops1 (F := F), op.fresh = ∅ := List.forall_iff_forall_mem.mp (StableHlo.forall_fresh_of_map rfl)
theorem fresh2 : ∀ op ∈ ops2 (F := F), op.fresh = ∅ := List.forall_iff_forall_mem.mp (StableHlo.forall_fresh_of_map rfl)
theorem fresh3' : ∀ op ∈ ops3 (F := F), op.fresh = ∅ := List.forall_iff_forall_mem.mp (StableHlo.forall_fresh_of_map rfl)

/-! ## The contents, stretch by stretch -/

variable (m : (ℓ : Loc nD τ sig) → Buf (Elt F) ℓ) (ρ : Dev nD → PrngReg)

/-- As launched; -/
def V0 (d : Dev nD) : Valuation τ sig (Elt F) := fun b => m (d, b)
/-- with the tokens reshaped; -/
def V1 (d : Dev nD) : Valuation τ sig (Elt F) := after ops1 (V0 m d)

abbrev W1 (c : Dev nD) (b : Ref sig .tc) : Buf (Elt F) ((c : Thread nD τ).loc b) := V1 m c (Proc.devRef .tc b)

/-- after the distance call; -/
def V2 (d : Dev nD) : Valuation τ sig (Elt F) :=
  Function.update (Function.update (Function.update (V1 m d) (Proc.devRef .tc main_v1_0) ((rdat (W1 m) d).arrAt 2 cfg0.N))
    (Proc.devRef .tc main_v1_1) ((rdat (W1 m) d).arrAt 3 cfg0.N)) (Proc.devRef .tc main_v1_2) ((rdat (W1 m) d).arrAt 4 cfg0.N)

abbrev W2 (c : Dev nD) (b : Ref sig .tc) : Buf (Elt F) ((c : Thread nD τ).loc b) := V2 m c (Proc.devRef .tc b)

/-- with the codes laid flat; -/
def V3 (d : Dev nD) : Valuation τ sig (Elt F) := after ops2 (V2 m d)

abbrev tab3 (d : Dev nD) : Buf (Elt F) (tLoc d) := V3 m d (Proc.devRef .tc main_v1_2)
abbrev idx3 (d : Dev nD) : Buf (Elt F) (iLoc d) := V3 m d (Proc.devRef .tc main_v2)
abbrev out3 (d : Dev nD) : Buf (Elt F) (oLoc d) := V3 m d (Proc.devRef .tc main_v3)

/-- after the lookup; -/
def V4 (d : Dev nD) : Valuation τ sig (Elt F) := Function.update (V3 m d) (Proc.devRef .tc main_v3) (want (tab3 m) (idx3 m) d)
/-- and at the end. -/
def V5 (d : Dev nD) : Valuation τ sig (Elt F) := after ops3 (V4 m d)

theorem W2_codes (c : Dev nD) : W2 m c main_v1_0 = (rdat (W1 m) c).arrAt 2 cfg0.N := by
  unfold W2 V2
  rw [Function.update_of_ne (StableHlo.devRef_ne_of_ne (by decide)), Function.update_of_ne (StableHlo.devRef_ne_of_ne (by decide)), Function.update_self]

theorem W2_total (c : Dev nD) : W2 m c main_v1_1 = (rdat (W1 m) c).arrAt 3 cfg0.N := by
  unfold W2 V2
  rw [Function.update_of_ne (StableHlo.devRef_ne_of_ne (by decide)), Function.update_self]

theorem W2_table (c : Dev nD) : W2 m c main_v1_2 = (rdat (W1 m) c).arrAt 4 cfg0.N := by
  unfold W2 V2
  rw [Function.update_self]

theorem W2_ne (c : Dev nD) (b : Ref sig .tc) (h0 : b ≠ main_v1_0) (h1 : b ≠ main_v1_1) (h2 : b ≠ main_v1_2) : W2 m c b = W1 m c b := by
  unfold W2 V2
  rw [Function.update_of_ne (StableHlo.devRef_ne_of_ne h2), Function.update_of_ne (StableHlo.devRef_ne_of_ne h1), Function.update_of_ne (StableHlo.devRef_ne_of_ne h0)]

abbrev region := reg (W1 m) (W2 m) (W2_codes m) (W2_total m) (W2_table m) (W2_ne m)

abbrev P3 := P (tab3 m) (idx3 m) (out3 m)

/-! ## The three buffers the lookup is handed -/

abbrev three : Finset (DevRef τ sig) := {Proc.devRef .tc main_v1_2, Proc.devRef .tc main_v2, Proc.devRef .tc main_v3}

theorem three_sub : three ⊆ ucRefs := by
  intro b hb
  simp only [Finset.mem_insert, Finset.mem_singleton] at hb
  rcases hb with rfl | rfl | rfl <;> exact mem_ucRefs _ (by decide)

omit [FloatOps F] in
theorem held_three (d : Dev nD) (X : Valuation τ sig (Elt F)) : (held (T d) three X : sProp 𝕄)
    = iprop((tLoc d ↦{fullShare} X (Proc.devRef .tc main_v1_2)) ∗ (iLoc d ↦{fullShare} X (Proc.devRef .tc main_v2)) ∗ oLoc d ↦{fullShare} X (Proc.devRef .tc main_v3)) := by
  unfold StableHlo.held
  rw [SparseCore.bigSep_insert' (by
      simp only [Finset.mem_insert, Finset.mem_singleton, not_or]
      exact ⟨StableHlo.devRef_ne_of_ne (by decide), StableHlo.devRef_ne_of_ne (by decide)⟩),
    SparseCore.bigSep_insert' (by rw [Finset.mem_singleton]; exact StableHlo.devRef_ne_of_ne (by decide)), bigSep_singleton]

/-- The lookup's start takes the three out, -/
theorem held_out (d : Dev nD) : (held (T d) ucRefs (V3 m d) : sProp 𝕄)
    = iprop(((tLoc d ↦{fullShare} tab3 m d) ∗ (iLoc d ↦{fullShare} idx3 m d) ∗ oLoc d ↦{fullShare} out3 m d) ∗ held (T d) (ucRefs \ three) (V3 m d)) := by
  rw [StableHlo.held_sub_split (T d) three_sub, held_three]

/-- and its end puts them back. -/
theorem held_in (d : Dev nD) : (held (T d) ucRefs (V4 m d) : sProp 𝕄)
    = iprop(((tLoc d ↦{fullShare} tab3 m d) ∗ (iLoc d ↦{fullShare} idx3 m d) ∗ oLoc d ↦{fullShare} want (tab3 m) (idx3 m) d) ∗ held (T d) (ucRefs \ three) (V3 m d)) := by
  rw [StableHlo.held_sub_split (T d) three_sub, held_three, StableHlo.held_congr (T d) (S := ucRefs \ three) (V := V4 m d) (V' := V3 m d) fun b hb =>
    Function.update_of_ne (fun e => (Finset.mem_sdiff.mp hb).2 (by rw [e]; simp)) _ _]
  rw [show V4 m d (Proc.devRef .tc main_v1_2) = tab3 m d from Function.update_of_ne (StableHlo.devRef_ne_of_ne (by decide)) _ _,
    show V4 m d (Proc.devRef .tc main_v2) = idx3 m d from Function.update_of_ne (StableHlo.devRef_ne_of_ne (by decide)) _ _,
    show V4 m d (Proc.devRef .tc main_v3) = want (tab3 m) (idx3 m) d from Function.update_self _ _ _]

/-! ## The launch's ghost state -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What the distance call's cells start from. -/
abbrev G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P3 m).x q thr) := by
  unfold u₀
  iintro Hu
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj), 1) : URounds (GSem nD τ sig) Unit × Counters)) $$ Hu
  icases H with ⟨HH, HR⟩
  ihave HR := (own_pair_emb (embR : Emb (URounds (GSem nD τ sig) Unit × Counters) 𝕄)
    (initOf (Pipeline.cells (Pipeline.pin (pcfgs (F := F)) adm) cellOf_inj) (Pipeline.launchToks (Pipeline.pin (pcfgs (F := F)) adm) cellOf_inj)) (1 : Counters)) $$ HR
  icases HR with ⟨HP, -⟩
  imod (Pipeline.fund_ghost (Pipeline.pin (pcfgs (F := F)) adm) EP cellOf_inj) $$ HP with ⟨HC, HT⟩
  imodintro
  isplitl [HH]; · iexact HH
  isplitl [HC HT]
  · rw [bigSep_sep']
    isplitl [HC]
    · iapply (Entails.of_eq (show (bigSep Finset.univ fun c : Dev nD => bigSep Finset.univ fun p : Fin 1 => Pipeline.cellsGhost (Pipeline.pin (pcfgs (F := F)) adm) EP p c)
        = bigSep Finset.univ fun c : Dev nD => Pipeline.cellsGhost (Pipeline.pin (pcfgs (F := F)) adm) EP 0 c from bigSep_congr fun _ _ => bigSep_univ_of_subsingleton (0 : Fin 1)))
      iexact HC
    · iapply (Entails.of_eq (show (bigSep Finset.univ fun c : Dev nD => bigSep Finset.univ fun p : Fin 1 => Pipeline.toksInit (Pipeline.pin (pcfgs (F := F)) adm) EP p c)
        = bigSep Finset.univ fun c : Dev nD => (Pipeline.toksInit (Pipeline.pin (pcfgs (F := F)) adm) EP 0 c : sProp 𝕄) from bigSep_congr fun _ _ => bigSep_univ_of_subsingleton (0 : Fin 1)))
      iexact HT
  rw [show (bigSep Finset.univ fun thr : Thread nD τ => bigSep Finset.univ fun q : Fin 1 => (P3 m).x q thr) = bigSep Finset.univ fun _ => iprop(emp) from
    bigSep_congr fun _ _ => bigSep_univ_of_subsingleton (0 : Fin 1), bigSep_nothing]
  iempintro

/-! ## @main -/

/-- The distance call, in the whole program. -/
theorem call_wp [∀ e, Nonempty (Elt F e)] (d : Dev nD) (Q : PUnit → sProp 𝕄) :
    iprop((iprop(boundary (T d) ∗ unscopedBufs d (W2 m d) ∗ owing (F := F) d) -∗ Q ⟨⟩)
        ∗ boundary (T d) ∗ (unscopedBufs d (W1 m d) ∗ owing (F := F) d) ∗ levAts (K (F := F)).L (K (F := F)).lev ∗ G d)
      ⊢ wp frame (wpE ((K (F := F)).defs (D (F := F))) 𝒱 (T d) none) Set.univ (SparseCore.liftProg (Prog.lift (.customCall (Pipeline.entry 0) ()))) Q := by
  refine BIBase.Entails.trans ?_ ((K (F := F)).wp_liftProg (D (F := F)) 𝒱 (T d) Set.univ none _ Q)
  have h := (region m).wp (pcfgs (F := F)) adm (rdats (W1 m)) none cellOf_inj EP defs₀ 𝒱₀ (K (F := F)).L (K (F := F)).lev d none (fun _ h => by cases h) Prog.ret Q
  rw [show (region m).post d = iprop(unscopedBufs d (W2 m d) ∗ owing (F := F) d) from rfl,
    show (region m).pre d = iprop(unscopedBufs d (W1 m d) ∗ owing (F := F) d) from rfl] at h
  refine BIBase.Entails.trans ?_ h
  iintro ⟨Hk, Hb, Hpre, Hl, Hg, Ht⟩
  isplitl [Hk]
  · iintro H
    rw [show (Prog.ret PUnit.unit : Prog (TpuEff nD τ sig (Elt F) (ΛP (F := F)) .tc) PUnit) = pure PUnit.unit from rfl, wp_pure]
    icases H with ⟨Hb, Hub, HO⟩
    imodintro
    iapply Hk
    isplitl [Hb]; · iexact Hb
    isplitl [Hub] <;> iassumption
  isplitl [Hb]; · iexact Hb
  isplitl [Hpre]; · iexact Hpre
  isplitl [Hl]; · iexact Hl
  isplitl [Hg] <;> iassumption

omit [FloatOps F] in
theorem launch_held (d : Dev nD) : (unscopedBufs d (fun b => m ((SparseCore.T d).loc b)) : sProp 𝕄) = held (T d) ucRefs (V0 m d) := by
  unfold V0
  exact unscopedBufs_held d (fun b => m (d, b))

/-- The whole program: from the launch contents to `V5`. -/
theorem hmain [∀ e, Nonempty (Elt F e)] (κ : GSem nD τ sig → ℕ) (d : Dev nD) :
    iprop((K (F := F)).ctx EH (P3 m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ held (T d) ucRefs (V5 m d) ∗ (K (F := F)).tcEnd d) := by
  unfold SparseCore.Cfg.tcRes SparseCore.Cfg.tcEnd
  rw [launch_held, main_eq]
  iintro ⟨#Hctx, Hst, ⟨Hb, Hall, Hts, -⟩, HG⟩
  iapply (StableHlo.wp_seq 𝒱 none Set.univ d ucRefs _ ops1 sub1 fresh1 (V0 m d)) $$ [Hb Hall]; · isplitl [Hb] <;> iassumption
  iintro ⟨Hb, Hall⟩
  rw [wp_bind]
  ihave Hlev := ((K (F := F)).ctx_levAts κ) $$ Hctx
  unfold SparseCore.Cfg.tcSt
  icases Hst with ⟨⟨%W, %hW, HO⟩, Hst⟩
  iapply (call_wp m d)
  isplitl [Hst Hts]
  · iintro ⟨Hb, Hub, ⟨%W, %hW, HO⟩⟩
    ihave Hall := (Entails.of_eq (unscopedBufs_held d (V2 m d))) $$ Hub
    iapply (StableHlo.wp_seq 𝒱 none Set.univ d ucRefs _ ops2 sub2 fresh2 (V2 m d)) $$ [Hb Hall]; · isplitl [Hb] <;> iassumption
    iintro ⟨Hb, Hall⟩
    ihave Hall := (Entails.of_eq ((show (held (d.tc : Thread nD τ) ucRefs (after ops2 (V2 m d)) : sProp 𝕄) = held (SparseCore.T d) ucRefs (V3 m d) from rfl).trans (held_out m d))) $$ Hall
    icases Hall with ⟨H3, Hrest⟩
    rw [wp_bind]
    iapply ((K (F := F)).wp_run (D (F := F)) 𝒱 (EH := EH) (P := P3 m) κ d 0) $$ [Hst H3 HO Hrest Hb Hts]
    isplitr; · iexact Hctx
    isplitl [Hst HO]
    · unfold SparseCore.Cfg.tcSt
      isplitl [HO]; swap; (· iexact Hst)
      iexists W; isplitr; swap; (· iexact HO)
      ipureintro
      intro p hp
      rw [show p.2 = none from hW p hp]
      exact Nat.zero_le _
    isplitl [H3]
    · rw [st_eq]; iexact H3
    iintro ⟨Hst, Hdn⟩
    ihave H3 := (Entails.of_eq (dn_eq (tab3 m) (idx3 m) (out3 m) d)) $$ Hdn
    ihave Hall := (Entails.of_eq (held_in m d).symm) $$ [H3 Hrest]; · isplitl [H3] <;> iassumption
    iapply (StableHlo.wp_seq 𝒱 none Set.univ d ucRefs _ ops3 sub3 fresh3' (V4 m d)) $$ [Hb Hall]; · isplitl [Hb] <;> iassumption
    iintro ⟨Hb, Hall⟩
    rw [wp_pure]
    imodintro
    unfold SparseCore.Cfg.tcSt
    isplitl [Hst]; · iexact Hst
    isplitl [Hall]; · iexact Hall
    isplitl [Hb] <;> iassumption
  isplitl [Hb]; · iexact Hb
  isplitl [Hall HO]
  · isplitl [Hall]
    · iapply (Entails.of_eq (unscopedBufs_held d (V1 m d)).symm); iexact Hall
    · iexists W; isplitr; swap; (· iexact HO)
      ipureintro
      intro p hp
      have h := hW p hp
      rw [show 8 * (SparseCore.Cfg.Blocks.fst (Q := 1) (N := 1) 0) = 0 from rfl] at h
      show p.2 = none
      cases e : p.2 with
      | none => rfl
      | some q => rw [e] at h; exact absurd ((K (F := F)).lev_some_pos (T d, p.1) q) (by omega)
  isplitl [Hlev]; · iexact Hlev
  iexact HG

theorem hfin (d : Dev nD) (s' : Phys nD τ sig (Elt F)) :
    iprop(held (T d) ucRefs (V5 m d) ∗ SI s') ⊢ (⌜∀ b ∈ ucRefs, s'.mem.mem (d, b) = V5 m d b⌝ : sProp 𝕄) := by
  unfold StableHlo.held
  iintro H
  ihave Hr := (pointsTo_read_all ucRefs (fun b => ((d, b) : Loc nD τ sig)) (fun b => V5 m d b) s') $$ H
  icases Hr with ⟨%h, -⟩
  ipureintro
  exact h

/-- THE RUN: every unscoped buffer ends at `V5`, every semaphore at zero. -/
theorem run_main [∀ e, Nonempty (Elt F e)] (hok : CodesOK (idx3 m)) :
    θ_run (Cert.KernelIdeal.defs (F := F)) (Cert.KernelIdeal.threads (F := F)) ⟨m, fun _ => 0, ρ⟩
      (fun r => (∀ (d : Dev nD), ∀ b ∈ ucRefs, r.2.mem (d, b) = V5 m d b) ∧ r.2.sem = fun _ => 0) :=
  SparseCore.Cfg.θ_run_sc_quiescent (K := K (F := F)) (D := D (F := F)) (𝒱 := 𝒱) (EH := EH) (P := P3 m) (A := ∅) facts v₀
    (fun q hq => match q with | 0 => nomatch hq)
    (fun q _ => match q with | 0 => tileObl (tab3 m) (idx3 m) (out3 m) facts hok)
    (fun q _ => match q with | 0 => SparseCore.Cfg.VecSplit.of_plain (vecSplit (tab3 m) (idx3 m) (out3 m)))
    m ρ main G (fun d => held (T d) ucRefs (V5 m d)) (u₀ (F := F)) (sep_elim_left.trans (hu₀ m)) (hmain m ρ)
    (fun d s' => ∀ b ∈ ucRefs, s'.mem.mem (d, b) = V5 m d b) (hfin m) _ (fun _ h hz => ⟨h, hz⟩)

end Cert.Proof.KernelIdealRun

end
-- ==== Proof.Nearest.lean ====
/- The nearest entry of a table of 1024 rows, on the extended reals: the first index at which a family of 1024 values
   is least, the minimum read there, and the two ways of finding it that the programs use. -/
module

public import Idealize.ShloMosaic.PureOps.Ideal.Laws
public import Idealize.ShloMosaic.PureOps.Reduce
public import Idealize.ShloMosaic.Lib.ValueIdx

@[expose] public section

noncomputable section

namespace Cert.Proof.Nearest

open Idealize.ShloMosaic Idealize.ShloMosaic.ValueIdx
open scoped BigOperators

/-- `k` is the first index at which `f` is least. -/
def IsFirst (f : Fin 1024 → EReal) (k : Fin 1024) : Prop := (∀ j, f k ≤ f j) ∧ ∀ j, f j = f k → k ≤ j

/-- There is such an index. -/
theorem exists_first (f : Fin 1024 → EReal) : ∃ k, IsFirst f k := by
  obtain ⟨m, hm⟩ := Finite.exists_min f
  have hne : (Finset.univ.filter fun k => f k = f m).Nonempty := ⟨m, by simp⟩
  refine ⟨(Finset.univ.filter fun k => f k = f m).min' hne, ?_⟩
  have hk := Finset.min'_mem _ hne
  rw [Finset.mem_filter] at hk
  refine ⟨fun j => hk.2.le.trans (hm j), fun j hj => Finset.min'_le _ _ ?_⟩
  rw [Finset.mem_filter]
  exact ⟨Finset.mem_univ _, hj.trans hk.2⟩

/-- The first index at which `f` is least. -/
def first (f : Fin 1024 → EReal) : Fin 1024 := (exists_first f).choose

theorem first_spec (f : Fin 1024 → EReal) : IsFirst f (first f) := (exists_first f).choose_spec

theorem IsFirst.eq_first {f : Fin 1024 → EReal} {k : Fin 1024} (h : IsFirst f k) : k = first f := by
  have h' := first_spec f
  have e : f (first f) = f k := le_antisymm (h'.1 k) (h.1 _)
  exact le_antisymm (h.2 _ e) (h'.2 _ e.symm)

/-- The fold of the minimum from the top value is the least value. -/
theorem fold_min (f : Fin 1024 → EReal) : (Finset.univ : Finset (Fin 1024)).fold min ⊤ f = f (first f) := by
  apply le_antisymm
  · exact (Finset.fold_min_le _).mpr (.inr ⟨first f, Finset.mem_univ _, le_rfl⟩)
  · exact (Finset.le_fold_min _).mpr ⟨le_top, fun j _ => (first_spec f).1 j⟩

/-- The sum of real numbers, in the extended reals. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## The one-hot rows -/

/-- The indices at which `f` is least. -/
def ties (f : Fin 1024 → EReal) : Finset (Fin 1024) := Finset.univ.filter fun k => f k = f (first f)

theorem first_mem_ties (f : Fin 1024 → EReal) : first f ∈ ties f := by simp [ties]

/-- A sum weighted by the indicator of the least indices is the sum over them. -/
theorem sum_hot (f : Fin 1024 → EReal) (w : Fin 1024 → ℝ) :
    ∑ k, (if f k = f (first f) then (1 : EReal) else 0) * ((w k : ℝ) : EReal) = ((∑ k ∈ ties f, w k : ℝ) : EReal) := by
  have e : ∀ k, (if f k = f (first f) then (1 : EReal) else 0) * ((w k : ℝ) : EReal)
      = (((if f k = f (first f) then w k else 0) : ℝ) : EReal) := fun k => by
    split
    · rw [one_mul]
    · rw [zero_mul, EReal.coe_zero]
  rw [Finset.sum_congr rfl fun k _ => e k, ← coe_sum, ties, Finset.sum_filter]

/-- Every row has a least index, so 2048 rows with no more than 2048.5 least indices have one each. -/
theorem ties_eq (f : Fin 2048 → Fin 1024 → EReal)
    (h : ¬ (((2048.5 : ℝ) : EReal) < ∑ r, ((∑ _k ∈ ties (f r), (1 : ℝ) : ℝ) : EReal))) (r : Fin 2048) :
    ties (f r) = {first (f r)} := by
  have h1 : ∀ r, 1 ≤ (ties (f r)).card := fun r => Finset.card_pos.mpr ⟨_, first_mem_ties (f r)⟩
  have hs : ∑ r, (ties (f r)).card < 2049 := by
    rw [← coe_sum, EReal.coe_lt_coe_iff, not_lt] at h
    have e : (∑ r, ∑ _k ∈ ties (f r), (1 : ℝ)) = ((∑ r, (ties (f r)).card : ℕ) : ℝ) := by
      rw [Nat.cast_sum]
      exact Finset.sum_congr rfl fun r _ => by rw [Finset.sum_const, nsmul_eq_mul, mul_one]
    rw [e] at h
    have : ((∑ r, (ties (f r)).card : ℕ) : ℝ) < ((2049 : ℕ) : ℝ) := lt_of_le_of_lt h (by norm_num)
    exact_mod_cast this
  have hc : (ties (f r)).card = 1 := by
    by_contra hne
    have h2 : 2 ≤ (ties (f r)).card := by have := h1 r; omega
    have hlt : ∑ _r : Fin 2048, 1 < ∑ r, (ties (f r)).card :=
      Finset.sum_lt_sum (fun r _ => h1 r) ⟨r, Finset.mem_univ _, h2⟩
    simp at hlt
    omega
  obtain ⟨a, ha⟩ := Finset.card_eq_one.mp hc
  have := first_mem_ties (f r)
  rw [ha] at this ⊢
  rw [Finset.mem_singleton.mp this]

/-! ## Words -/

/-- The conversion of a natural number below 1024 to a word is the number. -/
theorem fptosi_nat (n : ℕ) (hn : n < 1024) : Ideal.fptosi 32 (((n : ℝ)) : EReal) = BitVec.ofNat 32 n := by
  have h0 : (0 : ℝ) ≤ (n : ℝ) := Nat.cast_nonneg n
  have hf : ⌊(n : ℝ)⌋ = (n : ℤ) := by simp
  have e : Ideal.toIntClamped (-(2 ^ (32 - 1) : Nat)) ((2 ^ (32 - 1) : Nat) - 1) (((n : ℝ)) : EReal) = (n : ℤ) := by
    rw [Ideal.toIntClamped_coe, if_pos h0, hf]
    omega
  rw [Ideal.fptosi, e, BitVec.ofInt_natCast]

/-- The signed minimum of a family of words, folded from a word that none of them exceeds, is the word `b` that is one of
    them and is at most each. -/
theorem fold_minsi (g : Fin 1024 → BitVec 32) (z b : BitVec 32) (k : Fin 1024) (hk : g k = b) (hz : b.toInt ≤ z.toInt)
    (hb : ∀ j, b.toInt ≤ (g j).toInt) : (Finset.univ : Finset (Fin 1024)).fold IntOp.minsi z g = b := by
  have hm : ∀ x y : BitVec 32, (IntOp.minsi x y).toInt = min x.toInt y.toInt := fun x y => by
    unfold IntOp.minsi
    by_cases h : x.toInt ≤ y.toInt
    · rw [min_eq_left h]; simp only [BitVec.slt, decide_eq_true_eq]; split <;> omega
    · rw [min_eq_right (by omega)]; simp only [BitVec.slt, decide_eq_true_eq]; split <;> omega
  have hf : ((Finset.univ : Finset (Fin 1024)).fold IntOp.minsi z g).toInt
      = (Finset.univ : Finset (Fin 1024)).fold min z.toInt fun j => (g j).toInt := by
    rw [← Finset.fold_hom (op := IntOp.minsi) (op' := min) (m := BitVec.toInt) (fun x y => (hm x y))]
  apply BitVec.eq_of_toInt_eq
  rw [hf]
  apply le_antisymm
  · exact (Finset.fold_min_le _).mpr (.inr ⟨k, Finset.mem_univ _, by rw [hk]⟩)
  · exact (Finset.le_fold_min _).mpr ⟨hz, fun j _ => hb j⟩

/-- The signed minimum over the lanes at which `f` is least, with 1024 at the others, is the first such lane. -/
theorem fold_lanes (f : Fin 1024 → EReal) (g : Fin 1024 → BitVec 32)
    (hg : ∀ j, g j = if f j = f (first f) then BitVec.ofNat 32 j.val else 1024#32) :
    (Finset.univ : Finset (Fin 1024)).fold IntOp.minsi 2147483647#32 g = BitVec.ofNat 32 (first f).val := by
  have ht : ∀ n : ℕ, n ≤ 1024 → (BitVec.ofNat 32 n).toInt = (n : ℤ) := fun n hn => by
    rw [BitVec.toInt_eq_toNat_of_lt (by rw [BitVec.toNat_ofNat]; omega), BitVec.toNat_ofNat]
    omega
  refine fold_minsi g _ _ (first f) (by rw [hg, if_pos rfl]) ?_ fun j => ?_
  · rw [ht _ (by omega)]
    have : (2147483647#32 : BitVec 32).toInt = 2147483647 := by decide
    rw [this]; omega
  · rw [ht _ (by omega), hg]
    split
    · rename_i h
      rw [ht _ (by omega)]
      exact_mod_cast (first_spec f).2 j h
    · rw [ht 1024 le_rfl]; omega

/-! ## Distances -/

/-- The distance of a row `a` to each row of the table `E`, as the squares and the product give it. -/
def dist2 (a : Fin 64 → EReal) (E : Fin 1024 → Fin 64 → EReal) (k : Fin 1024) : EReal :=
  ((∑ i, a i * a i) - 2 * ∑ i, a i * E k i) + ∑ i, E k i * E k i

/-- On real rows it is the sum of the squared differences. -/
theorem dist_real (a : Fin 64 → ℝ) (E : Fin 1024 → Fin 64 → ℝ) (k : Fin 1024) :
    dist2 (fun i => ((a i : ℝ) : EReal)) (fun k i => ((E k i : ℝ) : EReal)) k = ((∑ i, (E k i - a i) * (E k i - a i) : ℝ) : EReal) := by
  unfold dist2
  have h2 : (2 : EReal) = ((2 : ℝ) : EReal) := rfl
  simp only [← EReal.coe_mul, ← coe_sum, h2, ← EReal.coe_sub, ← EReal.coe_add]
  congr 1
  rw [Finset.mul_sum, ← Finset.sum_sub_distrib, ← Finset.sum_add_distrib]
  exact Finset.sum_congr rfl fun i _ => by ring

/-- The product with a doubled row is twice the product, on real rows. -/
theorem dist_double (a : Fin 64 → ℝ) (E : Fin 1024 → Fin 64 → ℝ) (k : Fin 1024) :
    ((∑ i, ((a i : ℝ) : EReal) * ((a i : ℝ) : EReal)) - ∑ i, (2 * ((a i : ℝ) : EReal)) * ((E k i : ℝ) : EReal))
        + ∑ i, ((E k i : ℝ) : EReal) * ((E k i : ℝ) : EReal)
      = dist2 (fun i => ((a i : ℝ) : EReal)) (fun k i => ((E k i : ℝ) : EReal)) k := by
  unfold dist2
  have h2 : (2 : EReal) = ((2 : ℝ) : EReal) := rfl
  simp only [← EReal.coe_mul, ← coe_sum, h2, ← EReal.coe_sub, ← EReal.coe_add]
  congr 3
  rw [Finset.mul_sum]
  exact Finset.sum_congr rfl fun i _ => by ring

/-! ## The reference's arg-min -/

/-- A pair (value, index) that comes no later than another one: by value, then by index. -/
def Le (p q : EReal × BitVec 32) : Prop := p.1 < q.1 ∨ (p.1 = q.1 ∧ p.2.toInt ≤ q.2.toInt)

theorem Le.refl (p : EReal × BitVec 32) : Le p p := .inr ⟨rfl, le_rfl⟩

theorem Le.trans {p q r : EReal × BitVec 32} (h : Le p q) (h' : Le q r) : Le p r := by
  rcases h with h | ⟨h, h2⟩ <;> rcases h' with h' | ⟨h', h2'⟩
  · exact .inl (h.trans h')
  · exact .inl (h' ▸ h)
  · exact .inl (h ▸ h')
  · exact .inr ⟨h.trans h', h2.trans h2'⟩

/-- A choice between two pairs that keeps the earlier one. -/
def Keeps (g : EReal × BitVec 32 → EReal × BitVec 32 → EReal × BitVec 32) : Prop :=
  ∀ a b, (g a b = a ∧ Le a b) ∨ (g a b = b ∧ Le b a)

/-- The fold of such a choice is the earliest of the pairs. -/
theorem foldl_keeps {g : EReal × BitVec 32 → EReal × BitVec 32 → EReal × BitVec 32} (hg : Keeps g) (L : List (EReal × BitVec 32))
    (p : EReal × BitVec 32) : L.foldl g p ∈ p :: L ∧ ∀ q ∈ p :: L, Le (L.foldl g p) q := by
  induction L generalizing p with
  | nil => exact ⟨List.mem_singleton.mpr rfl, fun q hq => by rw [List.mem_singleton.mp hq]; exact Le.refl _⟩
  | cons a L ih =>
    obtain ⟨h1, h2⟩ := ih (g p a)
    rw [List.foldl_cons]
    have hm := h2 (g p a) List.mem_cons_self
    rcases hg p a with ⟨e, hle⟩ | ⟨e, hle⟩ <;> rw [e] at h1 h2 hm ⊢
    · refine ⟨?_, fun q hq => ?_⟩
      · rcases List.mem_cons.mp h1 with h | h
        · rw [h]; exact List.mem_cons_self
        · exact List.mem_cons_of_mem _ (List.mem_cons_of_mem _ h)
      · rcases List.mem_cons.mp hq with rfl | hq
        · exact hm
        · rcases List.mem_cons.mp hq with rfl | hq
          · exact hm.trans hle
          · exact h2 _ (List.mem_cons_of_mem _ hq)
    · refine ⟨List.mem_cons_of_mem _ h1, fun q hq => ?_⟩
      rcases List.mem_cons.mp hq with rfl | hq
      · exact hm.trans hle
      · exact h2 _ hq

/-- A row's index with the column inserted. -/
theorem lift_row {N M : ℕ} (hr : (⟨2, ![N, M]⟩ : Shape).Reduces [1] ⟨1, ![N]⟩) (j : (⟨1, ![N]⟩ : Shape).Idx) (k : Fin M) :
    hr.lift j k = ix2 (j 0) k := by
  funext c
  refine Fin.ext ((hr.lift_val j k c).trans ?_)
  match c with
  | 0 => rfl
  | 1 => rfl

/-- The arg-min over the second axis, the indices counted along it, from the top value at index 0: the first least index. -/
theorem argReduce_first {N : ℕ} {u : Shape} {g : EReal × BitVec 32 → EReal × BitVec 32 → EReal × BitVec 32} (hg : Keeps g)
    (x : FVec Ideal ⟨2, ![N, 1024]⟩ .f32) (y : (⟨2, ![N, 1024]⟩ : Shape).Idx → BitVec 32) (a : u.Idx → Ideal .f32) (b : u.Idx → BitVec 32)
    (h : (⟨2, ![N, 1024]⟩ : Shape).ReducesTo [1] ⟨1, ![N]⟩) (hu : 0 < u.numel) (hr : (⟨2, ![N, 1024]⟩ : Shape).Reduces [1] ⟨1, ![N]⟩)
    (hy : ∀ i, y i = BitVec.ofNat 32 (i 1).val) (ha : ∀ i, a i = ⊤) (hb : ∀ i, b i = 0#32) (j : (⟨1, ![N]⟩ : Shape).Idx) :
    (Host.argReduce (F := Ideal) (φ := .f32) g x y a b h hu j).2 = BitVec.ofNat 32 (first fun k => x (ix2 (j 0) k)).val := by
  rw [Ideal.argReduce_eq_reduce2, Host.reduce2_eq_foldl_fiber, ha, hb]
  obtain ⟨hm, hle⟩ := foldl_keeps hg (Host.argReduceFiber x y h j) (⊤, 0#32)
  generalize hR : (Host.argReduceFiber x y h j).foldl g (⊤, 0#32) = R at hm hle ⊢
  have hl : ∀ k : Fin 1024, hr.lift j k = ix2 (j 0) k := fun k => lift_row hr j k
  have hmem : ∀ p, p ∈ Host.argReduceFiber x y h j ↔ ∃ k : Fin 1024, p = (x (ix2 (j 0) k), BitVec.ofNat 32 k.val) := fun p => by
    unfold Host.argReduceFiber
    rw [List.mem_map]
    constructor
    · rintro ⟨n, hn, rfl⟩
      rw [List.mem_filter, decide_eq_true_eq, Shape.ReducesTo.drop_eq_drop h hr] at hn
      refine ⟨(Shape.rowMajor _).symm n 1, ?_⟩
      have e := (hl ((Shape.rowMajor _).symm n 1)).symm.trans ((congrArg (fun j => hr.lift j ((Shape.rowMajor _).symm n 1)) hn.2.symm).trans (hr.lift_drop _))
      refine Prod.ext (congrArg x e.symm) (hy _)
    · rintro ⟨k, rfl⟩
      refine ⟨Shape.rowMajor _ (ix2 (j 0) k), ?_, ?_⟩
      · rw [List.mem_filter, decide_eq_true_eq, Equiv.symm_apply_apply, Shape.ReducesTo.drop_eq_drop h hr]
        exact ⟨List.mem_finRange _, (congrArg hr.drop (hl k).symm).trans (hr.drop_lift j k)⟩
      · rw [Equiv.symm_apply_apply, hy]
        rfl
  have hf := first_spec fun k => x (ix2 (j 0) k)
  set f : Fin 1024 → EReal := fun k => x (ix2 (j 0) k) with hfd
  have ht : ∀ n : ℕ, n ≤ 1024 → (BitVec.ofNat 32 n).toInt = (n : ℤ) := fun n hn => by
    rw [BitVec.toInt_eq_toNat_of_lt (by rw [BitVec.toNat_ofNat]; omega), BitVec.toNat_ofNat]
    omega
  have key : ∀ k : Fin 1024, R = (f k, BitVec.ofNat 32 k.val) → R.2 = BitVec.ofNat 32 (first f).val := fun k e => by
    have hk : IsFirst f k := by
      refine ⟨fun i => ?_, fun i hi => ?_⟩
      · have := hle _ (List.mem_cons_of_mem _ ((hmem _).mpr ⟨i, rfl⟩))
        rw [e] at this
        rcases this with h | ⟨h, -⟩
        · exact le_of_lt h
        · exact le_of_eq h
      · have := hle _ (List.mem_cons_of_mem _ ((hmem _).mpr ⟨i, rfl⟩))
        rw [e] at this
        rcases this with h | ⟨-, h⟩
        · exact absurd hi.symm (ne_of_lt h)
        · dsimp only at h
          rw [ht _ (by omega), ht _ (by omega)] at h
          exact_mod_cast h
    rw [e, hk.eq_first]
  rcases List.mem_cons.mp hm with e | e
  · have h0 : f 0 = ⊤ := by
      have := hle _ (List.mem_cons_of_mem _ ((hmem _).mpr ⟨0, rfl⟩))
      rw [e] at this
      rcases this with h | ⟨h, -⟩
      · exact absurd h not_top_lt
      · exact h.symm
    exact key 0 (by rw [e, h0]; rfl)
  · obtain ⟨k, e⟩ := (hmem _).mp e
    exact key k e

end Cert.Proof.Nearest

end
-- ==== Proof.KernelIdealBlock.lean ====
/- The distance call's block read at an index: the distances, the minima, the one-hot products and the codes. -/
module

public import proofs.«01_k».proof.Proof.KernelIdealBody
public import proofs.«01_k».proof.Proof.Nearest
public import Idealize.ShloMosaic.Lib.IdealHost
public import Idealize.ShloMosaic.Lib.MatmulPlain
public import Idealize.ShloMosaic.Lib.ValueLayout
public import Idealize.ShloMosaic.Lib.ValueLayoutCasts
public import Idealize.ShloMosaic.Lib.Pipeline.Value
public import Idealize.ShloMosaic.Lib.Pointwise.ShapeOpsCore

@[expose] public section

set_option maxRecDepth 16384

noncomputable section

namespace Cert.Proof.KernelIdealBlock

open Cert.KernelIdeal Cert.KernelIdeal.Gen Cert.Proof.KernelIdealBody Cert.Proof.Nearest
open Idealize.ShloMosaic hiding ix0 ix1 ix2 ix3 eq_ix1 eq_ix2 eq_ix3 sum_idx2
open Idealize.ShloMosaic.ValueIdx
open scoped BigOperators

section Casts

variable {α : Type}

/-- A column as a vector. -/
theorem cast_a1_a {a : ℕ} (x : (⟨2, ![a, 1]⟩ : Shape).Idx → α) (h : (⟨2, ![a, 1]⟩ : Shape).ShapeCasts ⟨1, ![a]⟩) (i : Fin a) :
    shapeCast ⟨1, ![a]⟩ x h (ix1 i) = x (ix2 i 0) :=
  shapeCast_apply x h _ _ (by
    rw [Shape.rowMajor_val_two, Shape.rowMajor_val_one]
    show i.val * 1 + 0 = i.val
    omega)

/-- A vector of 2048 as sixteen rows of 128. -/
theorem cast_rows (x : (⟨1, ![2048]⟩ : Shape).Idx → α) (h : (⟨1, ![2048]⟩ : Shape).ShapeCasts ⟨2, ![16, 128]⟩) (a : Fin 16) (l : Fin 128) :
    shapeCast ⟨2, ![16, 128]⟩ x h (ix2 a l) = x (ix1 (⟨a.val * 128 + l.val, by omega⟩ : Fin 2048)) :=
  shapeCast_apply x h _ _ (by
    rw [Shape.rowMajor_val_two, Shape.rowMajor_val_one]
    rfl)

/-- A column spread over a row. -/
theorem spread_a1_ab {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p 0) := by
  refine broadcastTo_apply v h (ix2 p c) (ix2 p (0 : Fin 1)) fun ax => ?_
  match ax with
  | ⟨0, _⟩ =>
    show p.val = if a = 1 then 0 else p.val
    split <;> omega
  | ⟨1, _⟩ => rfl

end Casts

theorem two_f32 : Ideal.ofBits .f32 0x40000000#32 = 2 := by
  rw [show (2 : EReal) = ((2 : ℝ) : EReal) from rfl]
  simp [Ideal.ofBits, Ideal.ieee, -EReal.coe_mul]; norm_num

theorem thirtytwo_f32 : Ideal.ofBits .f32 0x42000000#32 = ((32 : ℝ) : EReal) := by
  simp [Ideal.ofBits, Ideal.ieee, -EReal.coe_mul]; norm_num

theorem ties_f32 : Ideal.ofBits .f32 0x45000800#32 = ((2048.5 : ℝ) : EReal) := by
  simp [Ideal.ofBits, Ideal.ieee, -EReal.coe_mul]; norm_num

theorem top_f32 : Ideal.ofBits .f32 0x7F800000#32 = ⊤ := by
  simp [Ideal.ofBits, Ideal.ieee]

/-- Row `r`'s distances to the rows of the table. -/
def D (z : Vec Ideal S2048x64 .f32) (e : Vec Ideal S1024x64 .f32) (r : Fin 2048) : Fin 1024 → EReal :=
  dist2 (fun k => z (ix2 r k)) fun c k => e (ix2 c k)

theorem pay7_apply (z : Vec Ideal S2048x64 .f32) (e : Vec Ideal S1024x64 .f32) (r : Fin 2048) (c : Fin 1024) :
    k0_pay7 (F := Ideal) z e (ix2 r c) = D z e r c := by
  unfold k0_pay7 D dist2
  rw [shapeCast_self]
  rw [addf_apply, subf_apply, mulf_apply]
  refine congrArg₂ (· + ·) (congrArg₂ (· - ·) ?_ (congrArg₂ (· * ·) two_f32 ?_)) ?_
  · refine (spread_a1_ab _ _ r c).trans ((shapeCast_a_a1_apply _ _ r 0).trans ?_)
    refine (Ideal.multiReduction_add_single _ _ _ _ _ _).trans ?_
    exact Finset.sum_congr rfl fun k _ => congrArg (fun i => z i * z i) (lift_row _ _ _)
  · refine (Ideal.matmul_transposedRhs_apply (M := 2048) (K := 64) (N := 1024) none z e _ r c).trans ?_
    rw [constant_apply]
    refine (congrArg (· + _) Ideal.ofBits_zero_f32).trans (zero_add _)
  · refine (broadcastTo_1b_ab_apply _ _ r c).trans ((shapeCast_a_1a_apply _ _ 0 c).trans ?_)
    refine (Ideal.multiReduction_add_single _ _ _ _ _ _).trans ?_
    exact Finset.sum_congr rfl fun k _ => congrArg (fun i => e i * e i) (lift_row _ _ _)

theorem pay8_apply (z : Vec Ideal S2048x64 .f32) (e : Vec Ideal S1024x64 .f32) (r : Fin 2048) (u : Fin 1) :
    k0_pay8 (F := Ideal) z e (ix2 r u) = D z e r (first (D z e r)) := by
  unfold k0_pay8
  dsimp only
  refine (shapeCast_a_a1_apply _ _ r u).trans ?_
  refine (multiReduction_minimumf_eq_fold _ _ _ _ _ _).trans ?_
  refine (Shape.Reduces.fold_filter_drop_single _ _ _ _ _).trans ?_
  refine Eq.trans ?_ (fold_min (D z e r))
  refine congrArg₂ (Finset.fold min · · Finset.univ) top_f32 (funext fun k => ?_)
  exact (congrArg (k0_pay7 (F := Ideal) z e) (lift_row _ _ k)).trans (pay7_apply z e r k)

/-- A selection on whether two values are equal. -/
theorem hot_bit {α : Type} (x y : EReal) (u v : α) {x' y' : EReal} (hx : x = x') (hy : y = y') :
    Scalar.select (FloatOps.cmpf (F := Ideal) (φ := .f32) .oeq x y) u v = if x' = y' then u else v := by
  subst hx hy
  by_cases h : x = y
  · rw [if_pos h]
    have : FloatOps.cmpf (F := Ideal) (φ := .f32) .oeq x y = 1#1 := by
      show Ideal.cmp .oeq x y = 1#1
      simp [Ideal.cmp, h]
    rw [this]; rfl
  · rw [if_neg h]
    have : FloatOps.cmpf (F := Ideal) (φ := .f32) .oeq x y = 0#1 := by
      show Ideal.cmp .oeq x y = 0#1
      simp [Ideal.cmp, h]
    rw [this]; rfl

/-- The weights of the three columns that the one-hot rows are multiplied with. -/
def wt (c : Fin 3) (k : Fin 1024) : ℝ := if c = 0 then ((k.val / 32 : ℕ) : ℝ) else if c = 1 then ((k.val % 32 : ℕ) : ℝ) else 1

/-- The word from which a column's weight is converted. -/
def wtWord (c : Fin 3) (k : Fin 1024) : BitVec 32 :=
  Scalar.select (IntOp.cmpi .eq (BitVec.ofNat 32 c.val) 0#32) (IntOp.shrsi .vector (BitVec.ofNat 32 k.val) 5#32)
    (Scalar.select (IntOp.cmpi .eq (BitVec.ofNat 32 c.val) 1#32) (IntOp.andi (BitVec.ofNat 32 k.val) 31#32) 1#32)

theorem wtWord_toInt : ∀ (c : Fin 3) (k : Fin 1024),
    (wtWord c k).toInt = ((if c = 0 then k.val / 32 else if c = 1 then k.val % 32 else 1 : ℕ) : ℤ) := by
  decide +kernel

theorem wtWord_real (c : Fin 3) (k : Fin 1024) : (((wtWord c k).toInt : ℝ)) = wt c k := by
  rw [wtWord_toInt, wt, Int.cast_natCast]
  split
  · rfl
  · split
    · rfl
    · exact Nat.cast_one

theorem pay9_apply (z : Vec Ideal S2048x64 .f32) (e : Vec Ideal S1024x64 .f32) (r : Fin 2048) (c : Fin 3) :
    k0_pay9 (F := Ideal) z e (ix2 r c) = ((∑ k ∈ ties (D z e r), wt c k : ℝ) : EReal) := by
  unfold k0_pay9
  dsimp only
  refine (Ideal.matmul_plain_apply (M := 2048) (K := 1024) (N := 3) none _ _ _ r c).trans ?_
  rw [constant_apply]
  refine (congrArg (· + _) Ideal.ofBits_zero_f32).trans ((zero_add _).trans ?_)
  refine Eq.trans ?_ (sum_hot (D z e r) (wt c))
  refine Finset.sum_congr rfl fun k _ => congrArg₂ (· * ·) ?_ ?_
  · rw [truncf_apply, select_apply, cmpf_apply]
    refine (hot_bit _ _ _ _ (pay7_apply z e r k) ((spread_a1_ab _ _ r k).trans (pay8_apply z e r 0))).trans ?_
    exact if_congr Iff.rfl Ideal.ofBits_one_f32 Ideal.ofBits_zero_f32
  · have e1 : iota .tc S1024x3 32 [1] iota_S1024x3_d1_w32 (ix2 k c) = BitVec.ofNat 32 c.val := iota_single_apply _ _ _ _ _ _
    have e0 : iota .tc S1024x3 32 [0] iota_S1024x3_d0_w32 (ix2 k c) = BitVec.ofNat 32 k.val := iota_single_apply _ _ _ _ _ _
    rw [sitofp_apply, ← wtWord_real]
    refine congrArg (fun b : BitVec 32 => ((b.toInt : ℝ) : EReal)) ?_
    show Scalar.select (IntOp.cmpi .eq (iota .tc S1024x3 32 [1] iota_S1024x3_d1_w32 (ix2 k c)) 0#32)
      (IntOp.shrsi .vector (iota .tc S1024x3 32 [0] iota_S1024x3_d0_w32 (ix2 k c)) 5#32)
      (Scalar.select (IntOp.cmpi .eq (iota .tc S1024x3 32 [1] iota_S1024x3_d1_w32 (ix2 k c)) 1#32)
        (IntOp.andi (iota .tc S1024x3 32 [0] iota_S1024x3_d0_w32 (ix2 k c)) 31#32) 1#32) = wtWord c k
    rw [e1, e0, wtWord]

theorem pay10_apply (z : Vec Ideal S2048x64 .f32) (e : Vec Ideal S1024x64 .f32) (r : Fin 2048) :
    k0_pay10 (F := Ideal) z e (ix1 r) = k0_pay9 (F := Ideal) z e (ix2 r 0) := by
  unfold k0_pay10
  exact (cast_a1_a _ _ r).trans (slice2_axis1_apply 0 _ _ r 0 0 rfl)

theorem pay2_apply (v : FVec Ideal S2048x3 .f32) : k0_pay2 (F := Ideal) v = ∑ r : Fin 2048, v (ix2 r 2) := by
  unfold k0_pay2
  dsimp only
  rw [extractAt_eq]
  refine (shapeCast_apply _ _ _ (ix1 0) (by decide)).trans ?_
  refine (Ideal.multiReduction_add_single _ _ _ _ _ _).trans ?_
  refine Finset.sum_congr rfl fun r _ => (congrArg _ (lift_row _ _ r)).trans ?_
  refine (shapeCast_a_1a_apply _ _ 0 r).trans ((cast_a1_a _ _ r).trans ?_)
  exact slice2_axis1_apply 2 _ _ r 0 2 rfl

theorem pay1_apply (v : FVec Ideal S2048x3 .f32) (h : FVec Ideal S2048 .f32) (l : Ideal .f32) (a : Fin 16) (b : Fin 128) :
    k0_pay1 (F := Ideal) v h l (ix2 a b)
      = Ideal.fptosi 32 (h (ix1 (⟨a.val * 128 + b.val, by omega⟩ : Fin 2048)) * l
          + v (ix2 (⟨a.val * 128 + b.val, by omega⟩ : Fin 2048) 1)) := by
  unfold k0_pay1
  refine (cast_rows _ _ a b).trans ?_
  refine congrArg (Ideal.fptosi 32) ?_
  rw [addf_apply, mulf_apply]
  exact congrArg (_ + ·) ((cast_a1_a _ _ _).trans (slice2_axis1_apply 1 _ _ _ 0 1 rfl))

theorem pay3_apply (z : Vec Ideal S2048x64 .f32) (e : Vec Ideal S1024x64 .f32) (a : Fin 16) (b : Fin 128) :
    k0_pay3 (F := Ideal) (k0_pay7 z e) (k0_pay8 z e) (ix2 a b)
      = BitVec.ofNat 32 (first (D z e (⟨a.val * 128 + b.val, by omega⟩ : Fin 2048))).val := by
  unfold k0_pay3
  dsimp only
  refine (cast_rows _ _ a b).trans ?_
  refine (multiReductionI_eq_fold _ _ _ _ _ _).trans ?_
  refine (Shape.Reduces.fold_filter_drop_single _ _ _ _ _).trans ?_
  refine fold_lanes _ _ fun k => ?_
  refine (congrArg (select (cmpf .oeq (k0_pay7 (F := Ideal) z e) (broadcastTo S2048x1024 (k0_pay8 z e) broadcasts_S2048x1_S2048x1024))
    (iota .tc S2048x1024 32 [1] iota_S2048x1024_d1_w32) (broadcast S2048x1024 1024#32)) (lift_row _ _ k)).trans ?_
  let r : Fin 2048 := ⟨a.val * 128 + b.val, by omega⟩
  refine (hot_bit (k0_pay7 (F := Ideal) z e (ix2 r k)) (broadcastTo S2048x1024 (k0_pay8 (F := Ideal) z e) broadcasts_S2048x1_S2048x1024 (ix2 r k))
    _ _ (pay7_apply z e r k) ((spread_a1_ab _ _ r k).trans (pay8_apply z e r 0))).trans ?_
  exact if_congr Iff.rfl (iota_single_apply _ _ _ _ _ _) rfl

theorem one_idx (i : S1x1.Idx) : i = ix2 0 0 := by
  funext a
  match a with
  | ⟨0, _⟩ => exact Subsingleton.elim (α := Fin 1) _ _
  | ⟨1, _⟩ => exact Subsingleton.elim (α := Fin 1) _ _

theorem pay6_apply (v : FVec Ideal S2048x1 .f32) (x : Vec Ideal S1x1 .f32) (i : S1x1.Idx) :
    k0_pay6 (F := Ideal) v x i = x (ix2 0 0) + ∑ r : Fin 2048, v (ix2 r 0) := by
  unfold k0_pay6
  rw [addf_apply, shapeCast_self]
  refine congrArg₂ (· + ·) (congrArg x (one_idx i)) ?_
  refine (extractAt_eq _ _ _).trans ((shapeCast_apply _ _ _ (ix1 0) (by decide)).trans ?_)
  refine (Ideal.multiReduction_add_total _ _ _ (by decide) _ _ _).trans ?_
  refine (Equiv.sum_comp (Shape.reshapeEquiv shapeCasts_S2048x1_S1x2048x1) v).trans ?_
  rw [sum_idx2]
  exact Finset.sum_congr rfl fun r _ => Fin.sum_univ_one _

/-- The padded table: the embedding's rows, then zeros. -/
theorem pay5_apply (e : Vec Ideal S1024x64 .f32) (r : Fin 1024) (k : Fin 128) :
    k0_pay5 (F := Ideal) e (ix2 r k) = if h : k.val < 64 then e (ix2 r ⟨k.val, h⟩) else 0 := by
  unfold k0_pay5
  by_cases h : k.val < 64
  · rw [dif_pos h]
    exact concatenate_pair_apply_left (t := S1024x128) (s₁ := S1024x64) (s₂ := S1024x64) 1 _ _ _ _ rfl (ix2 r ⟨k.val, h⟩) fun b => by
      match b with
      | ⟨0, _⟩ => rfl
      | ⟨1, _⟩ => rfl
  · rw [dif_neg h]
    refine (concatenate_pair_apply_right (t := S1024x128) (s₁ := S1024x64) (s₂ := S1024x64) 1 _ _ _ _ rfl rfl (ix2 r ⟨k.val - 64, by omega⟩) (fun b hb => ?_) ?_).trans Ideal.ofBits_zero_f32
    · match b with
      | ⟨0, _⟩ => rfl
      | ⟨1, _⟩ => exact absurd rfl hb
    · show k.val - 64 + 64 = k.val
      omega

/-- The branch not taken means that every row of the block has one least distance. -/
theorem ties_single (z : Vec Ideal S2048x64 .f32) (e : Vec Ideal S1024x64 .f32) (h : ¬ tieBit (F := Ideal) z e = 1#1) (r : Fin 2048) :
    ties (D z e r) = {first (D z e r)} := by
  refine ties_eq (D z e) (fun hlt => h ?_) r
  have e2 : k0_pay2 (F := Ideal) (k0_pay9 z e) = ∑ r, ((∑ _k ∈ ties (D z e r), (1 : ℝ) : ℝ) : EReal) :=
    (pay2_apply _).trans (Finset.sum_congr rfl fun r _ => pay9_apply z e r 2)
  unfold tieBit
  have hb : Scalar.cmpf .ogt (k0_pay2 (F := Ideal) (k0_pay9 z e)) (Scalar.ofBits (F := Ideal) .f32 0x45000800#32) = 1#1 := by
    show Ideal.cmp .ogt (k0_pay2 (F := Ideal) (k0_pay9 z e)) (Ideal.ofBits .f32 0x45000800#32) = 1#1
    rw [e2, ties_f32]
    simp only [Ideal.cmp]
    rw [decide_eq_true hlt]
    rfl
  rw [hb]
  decide

/-- Every code of a block is the first index at which the row's distance is least. -/
theorem codeBlk_apply (z : Vec Ideal S2048x64 .f32) (e : Vec Ideal S1024x64 .f32) (a : Fin 16) (b : Fin 128) :
    codeBlk (F := Ideal) z e (ix2 a b) = BitVec.ofNat 32 (first (D z e (⟨a.val * 128 + b.val, by omega⟩ : Fin 2048))).val := by
  unfold codeBlk
  split
  · exact pay3_apply z e a b
  · rename_i h
    have ht := ties_single z e h (⟨a.val * 128 + b.val, by omega⟩ : Fin 2048)
    rw [pay1_apply, pay10_apply, pay9_apply, pay9_apply, ht, Finset.sum_singleton, Finset.sum_singleton]
    generalize first (D z e (⟨a.val * 128 + b.val, by omega⟩ : Fin 2048)) = k
    have e11 : Scalar.ofBits (F := Ideal) .f32 0x42000000#32 = ((32 : ℝ) : EReal) := thirtytwo_f32
    rw [e11, ← EReal.coe_mul, ← EReal.coe_add, ← fptosi_nat k.val k.isLt]
    refine congrArg (fun x : ℝ => Ideal.fptosi 32 (x : EReal)) ?_
    have := Nat.div_add_mod k.val 32
    simp only [wt, if_true, one_ne_zero, if_false]
    have h2 : (((k.val / 32) * 32 + k.val % 32 : ℕ) : ℝ) = ((k.val : ℕ) : ℝ) := congrArg _ (by omega)
    rw [← h2, Nat.cast_add, Nat.cast_mul, Nat.cast_ofNat]

end Cert.Proof.KernelIdealBlock

end
-- ==== Proof.KernelIdealArrays.lean ====
/- What the distance call leaves in its three result arrays: the codes, the sum of the minima and the padded table. -/
module

public import proofs.«01_k».proof.Proof.KernelIdealBody
public import proofs.«01_k».proof.Proof.Gen.KernelIdeal.Points
public import proofs.«01_k».proof.Proof.KernelIdealBlock
public import Idealize.ShloMosaic.Lib.Pipeline.ValueKit

@[expose] public section

set_option maxRecDepth 16384

noncomputable section

namespace Cert.Proof.KernelIdealArrays

open Cert.KernelIdeal Cert.KernelIdeal.Gen Cert.Proof.KernelIdealBody Cert.Proof.Nearest
open Cert.Proof.KernelIdealBlock
open Idealize.ShloMosaic hiding ix0 ix1 ix2 ix3 eq_ix1 eq_ix2 eq_ix3 sum_idx2
open Idealize.ShloMosaic.TcCoe Idealize.ShloMosaic.ValueIdx
open Idealize.SL Idealize.SL.RA Idealize.SL.BI Idealize.SL.Sem
open scoped BigOperators

variable {Ix : Type} [DecidableEq Ix] {U : Type} [URA U] {Lvl : Type} [Preorder Lvl]

local notation "𝕄" => MT nD τ sig Ix (Elt Ideal) ℕ U Lvl

variable (A : (b : Ref sig .tc) → (c : Dev nD) → Buf (Elt Ideal) ((c : Thread nD τ).loc b))

/-- The tokens and the code book as the call finds them. -/
abbrev Z (c : Dev nD) : Vec Ideal S32768x64 .f32 := A (Pipeline.arrRef spec0 0) c
abbrev E (c : Dev nD) : Vec Ideal S1024x64 .f32 := A (Pipeline.arrRef spec0 1) c

/-- Token `t`'s distances to the rows of the code book. -/
def DT (c : Dev nD) (t : Fin 32768) : Fin 1024 → EReal := dist2 (fun k => Z A c (ix2 t k)) fun r k => E A c (ix2 r k)

theorem idx_0 : ∀ t : Fin grid0.N, win0_0.index t = ![t.val, 0] := by decide +kernel
theorem idx_1 : ∀ t : Fin grid0.N, win0_1.index t = ![0, 0] := by decide +kernel
theorem idx_2 : ∀ t : Fin grid0.N, win0_2.index t = ![t.val, 0] := by decide +kernel

theorem t_lt (t : Fin cfg0.N) : t.val < 16 := lt_of_lt_of_eq t.isLt N_0

/-- Row `r` of block `t` as a token. -/
def tok (t : ℕ) (ht : t < 16) (r : Fin 2048) : Fin 32768 := ⟨t * 2048 + r.val, by omega⟩

theorem zAt_apply (c : Dev nD) (t : Fin cfg0.N) (r : Fin 2048) (k : Fin 64) :
    zAt A c t (ix2 r k) = Z A c (ix2 (tok t.val (t_lt t) r) k) := by
  unfold zAt
  show (A (Pipeline.arrRef spec0 0) c) (((cfg0.win 0).blk t).view.emb (ix2 r k)) = _
  refine congrArg (A (Pipeline.arrRef spec0 0) c) (funext fun a => Fin.ext ?_)
  match a with
  | ⟨0, _⟩ => blk_simp [idx_0]; rfl
  | ⟨1, _⟩ => blk_simp [idx_0]

theorem eAt_eq (c : Dev nD) (t : Fin cfg0.N) : eAt A c t = E A c := by
  unfold eAt
  funext i
  show (A (Pipeline.arrRef spec0 1) c) (((cfg0.win 1).blk t).view.emb i) = _
  refine congrArg (A (Pipeline.arrRef spec0 1) c) (funext fun a => Fin.ext ?_)
  match a with
  | ⟨0, _⟩ => blk_simp [idx_1]
  | ⟨1, _⟩ => blk_simp [idx_1]

theorem D_at (c : Dev nD) (t : Fin cfg0.N) (r : Fin 2048) : D (zAt A c t) (eAt A c t) r = DT A c (tok t.val (t_lt t) r) := by
  unfold D DT
  rw [eAt_eq]
  exact congrArg (fun f => dist2 f fun r k => E A c (ix2 r k)) (funext fun k => zAt_apply A c t r k)

/-- The codes: each token's nearest row. -/
def codes (c : Dev nD) : IVec S256x128 32 := fun i =>
  BitVec.ofNat 32 (first (DT A c (⟨(i 0).val * 128 + (i 1).val, by have h0 : (i 0).val < 256 := (i 0).isLt; have h1 : (i 1).val < 128 := (i 1).isLt; omega⟩ : Fin 32768))).val

/-- The sum of every token's least distance. -/
def total (c : Dev nD) : EReal := ∑ t : Fin 32768, DT A c t (first (DT A c t))

/-- The padded table. -/
def table (c : Dev nD) : FVec Ideal S1024x128 .f32 := k0_pay5 (F := Ideal) (E A c)

/-- The call leaves the codes in its result array. -/
theorem arr_codes (c : Dev nD) (Φ0 : sProp 𝕄) (ow : CellTallies nD τ sig Ix) (rc : Set (SemLoc sig × Ix)) :
    (dat (Ix := Ix) (U := U) (Lvl := Lvl) A c Φ0 ow rc).arrAt 2 cfg0.N = codes A c := by
  refine (dat (Ix := Ix) (U := U) (Lvl := Lvl) A c Φ0 ow rc).arrAt_eq_of_covers 2 _ (by decide +kernel) fun t hf y => ?_
  blk_simp
  have e : (dat (Ix := Ix) (U := U) (Lvl := Lvl) A c Φ0 ow rc).after 2 t = codeBlk (zAt A c t) (eAt A c t) := rfl
  rw [e]
  let a : Fin 16 := y 0
  let b : Fin 128 := y 1
  have hy : y = ix2 a b := funext fun x => by
    match x with
    | ⟨0, _⟩ => rfl
    | ⟨1, _⟩ => rfl
  have h0 : (((cfg0.win 2).blk t).view.emb y 0).val = t.val * 16 + a.val := by blk_simp [idx_2]; rfl
  have h1 : (((cfg0.win 2).blk t).view.emb y 1).val = b.val := by blk_simp [idx_2]; rfl
  refine (congrArg (codeBlk (F := Ideal) (zAt A c t) (eAt A c t)) hy).trans ((codeBlk_apply _ _ a b).trans ?_)
  rw [D_at]
  refine congrArg (fun k => BitVec.ofNat 32 (first (DT A c k)).val) (Fin.ext ?_)
  show t.val * 2048 + (a.val * 128 + b.val) = (((cfg0.win 2).blk t).view.emb y 0).val * 128 + (((cfg0.win 2).blk t).view.emb y 1).val
  rw [h0, h1]
  omega

/-- The call leaves the table in its result array. -/
theorem arr_table (c : Dev nD) (Φ0 : sProp 𝕄) (ow : CellTallies nD τ sig Ix) (rc : Set (SemLoc sig × Ix)) :
    (dat (Ix := Ix) (U := U) (Lvl := Lvl) A c Φ0 ow rc).arrAt 4 cfg0.N = table A c := by
  refine (dat (Ix := Ix) (U := U) (Lvl := Lvl) A c Φ0 ow rc).arrAt_eq_of_after_last 4 t0_15 (by decide +kernel) _ fun j => ?_
  blk_simp
  exact congrFun (congrArg (k0_pay5 (F := Ideal)) (eAt_eq A c t0_0)) j

/-- Block `t`'s sum of least distances. -/
def blockSum (c : Dev nD) (t : ℕ) : EReal :=
  if h : t < 16 then ∑ r : Fin 2048, DT A c (tok t h r) (first (DT A c (tok t h r))) else 0

theorem pay8_sum (c : Dev nD) (t : Fin cfg0.N) :
    ∑ r : Fin 2048, k0_pay8 (F := Ideal) (zAt A c t) (eAt A c t) (ix2 r 0) = blockSum A c t.val := by
  unfold blockSum
  rw [dif_pos (t_lt t)]
  exact Finset.sum_congr rfl fun r _ => by rw [pay8_apply, D_at]

theorem accAt_apply (c : Dev nD) (n : ℕ) (h : n < cfg0.N) (i : S1x1.Idx) :
    accAt A c n h i = ∑ t ∈ Finset.range (n + 1), blockSum A c t := by
  induction n generalizing i with
  | zero =>
    rw [accAt, pay6_apply, pay8_sum, Finset.sum_range_one]
    refine (congrArg (· + _) ?_).trans (zero_add _)
    exact Ideal.ofBits_zero_f32
  | succ n ih =>
    rw [accAt, pay6_apply, pay8_sum, Finset.sum_range_succ, ih]

theorem total_eq (c : Dev nD) : ∑ t ∈ Finset.range 16, blockSum A c t = total A c := by
  unfold total
  rw [Finset.sum_range, ← Equiv.sum_comp (finProdFinEquiv (m := 16) (n := 2048)), Fintype.sum_prod_type]
  refine Finset.sum_congr rfl fun t _ => ?_
  unfold blockSum
  rw [dif_pos t.isLt]
  refine Finset.sum_congr rfl fun r _ => ?_
  have e : finProdFinEquiv (t, r) = tok t.val t.isLt r := Fin.ext (by
    show r.val + 2048 * t.val = t.val * 2048 + r.val
    omega)
  rw [← e]

/-- The call leaves the total in its result array. -/
theorem arr_total (c : Dev nD) (Φ0 : sProp 𝕄) (ow : CellTallies nD τ sig Ix) (rc : Set (SemLoc sig × Ix)) :
    (dat (Ix := Ix) (U := U) (Lvl := Lvl) A c Φ0 ow rc).arrAt 3 cfg0.N = fun _ => total A c := by
  obtain ⟨t₀, ht₀⟩ : ∃ t : Fin cfg0.N, t = t0_15 := ⟨_, rfl⟩
  have hv : t₀.val = 15 := by rw [ht₀]; rfl
  have hw : (cfg0.win 3).WholeAt t₀ := by
    rw [ht₀]
    exact (by decide +kernel : (cfg0.win 3).WholeAt t0_15)
  clear ht₀
  refine (dat (Ix := Ix) (U := U) (Lvl := Lvl) A c Φ0 ow rc).arrAt_eq_of_after_last 3 t₀ hw _ fun j => ?_
  have e : ∀ j : S1x1.Idx, accAt A c t₀.val t₀.isLt j = total A c := fun j => by
    rw [accAt_apply, hv, total_eq]
  exact e _

end Cert.Proof.KernelIdealArrays

end
-- ==== Proof.ReferenceMath.lean ====
/-
  What the references' operations compute on finite arrays: the distances as printed are the squared distances, the
  arg-min the first nearest row, and the summed squared differences the sum of the smallest distances.
-/
module

public import proofs.«01_k».proof.Proof.Nearest
public import Idealize.ShloMosaic.Lib.Routing.Ops
public import Idealize.ShloMosaic.Lib.Pipeline.Value
public import Idealize.ShloMosaic.Lib.StackMember
public import Idealize.ShloMosaic.Lib.IdealHost

@[expose] public section

noncomputable section

namespace Cert.Proof.ReferenceMath

open Idealize.ShloMosaic
open Idealize.ShloMosaic.ValueIdx Idealize.ShloMosaic.Routing
open Cert.Proof.Nearest
open scoped BigOperators

/-- An array all of whose entries are real numbers. -/
def RealArr {s : Shape} (x : s.Idx → EReal) : Prop := ∀ j, ∃ r : ℝ, x j = ((r : ℝ) : EReal)

/-- The squared distances of token `t` to the rows. -/
def DD (x : (shape2 32768 64).Idx → EReal) (e : (shape2 1024 64).Idx → EReal) (t : Fin 32768) : Fin 1024 → EReal :=
  dist2 (fun k => x (ix2 t k)) fun r k => e (ix2 r k)

/-- A value whose absolute value is below infinity is a real number. -/
theorem real_of_bit (v b : EReal) (hb : b = ⊤) (h : FloatOps.cmpf (F := Ideal) (φ := .f32) .olt (FloatOps.absf (F := Ideal) (φ := .f32) v) b = 1#1) :
    ∃ r : ℝ, v = ((r : ℝ) : EReal) := by
  subst hb
  replace h : Ideal.cmp .olt (max v (-v)) ⊤ = 1#1 := h
  induction v using EReal.rec with
  | bot => simp [Ideal.cmp] at h
  | coe r => exact ⟨r, rfl⟩
  | top => simp [Ideal.cmp] at h

/-- Both of two bits whose conjunction is one are one. -/
theorem bits_and {p q : BitVec 1} (h : IntOp.andi p q = 1#1) : p = 1#1 ∧ q = 1#1 := by
  revert p q
  decide

/-- The word `0x40000000` is two. -/
theorem two_word : Ideal.ofBits .f32 0x40000000#32 = (2 : EReal) := by
  rw [show (2 : EReal) = ((2 : ℝ) : EReal) from rfl]
  simp [Ideal.ofBits, Ideal.ieee, -EReal.coe_mul]; norm_num

/-- The word `0x7F800000` is infinity. -/
theorem top_word : Ideal.ofBits .f32 0x7F800000#32 = (⊤ : EReal) := by
  simp [Ideal.ofBits, Ideal.ieee]

/-- A sum of each row's entries, from zero. -/
theorem rowSum {N M : ℕ} {u : Shape} (x : FVec Ideal (shape2 N M) .f32) (hu : 0 < u.numel)
    (h : (shape2 N M).ReducesTo [1] (shape1 N)) (hr : (shape2 N M).Reduces [1] (shape1 N)) (t : Fin N) :
    Host.reduceAdd (F := Ideal) x (constant u .f32 0x00000000#32) h hu (ix1 t) = ∑ k : Fin M, x (ix2 t k) := by
  show Ideal.hostReduceAdd h x (Ideal.ofBits .f32 0x00000000#32) (ix1 t) = _
  rw [Ideal.hostReduceAdd_single h hr, Ideal.ofBits_zero_f32, zero_add]
  exact Finset.sum_congr rfl fun k _ => congrArg x (lift_row hr (ix1 t) k)

/-- A sum of all entries, from zero. -/
theorem allSum {s t u : Shape} {axes : List (Fin s.rank)} (x : FVec Ideal s .f32) (hu : 0 < u.numel)
    (h : s.ReducesTo axes t) (ht : ∀ b, t.size b = 1) (j : t.Idx) :
    Host.reduceAdd (F := Ideal) x (constant u .f32 0x00000000#32) h hu j = ∑ i, x i := by
  show Ideal.hostReduceAdd h x (Ideal.ofBits .f32 0x00000000#32) j = _
  rw [Ideal.hostReduceAdd_total h ht, Ideal.ofBits_zero_f32, zero_add]

/-- The printed distances are the squared distances. -/
theorem dists_apply (x : FVec Ideal (shape2 32768 64) .f32) (e : FVec Ideal (shape2 1024 64) .f32) (hx : RealArr x) (he : RealArr e)
    (b1 : (shape1 32768).BroadcastsInDim (shape2 32768 1) (![0] : Fin 1 → Fin (shape2 32768 1).rank))
    (b2 : (shape2 32768 1).BroadcastsInDim (shape2 32768 1024) (![0, 1] : Fin 2 → Fin (shape2 32768 1024).rank))
    (b3 : shape0.BroadcastsInDim (shape2 32768 64) (![] : Fin 0 → Fin (shape2 32768 64).rank))
    (b4 : (shape1 1024).BroadcastsInDim (shape2 1 1024) (![1] : Fin 1 → Fin (shape2 1 1024).rank))
    (b5 : (shape2 1 1024).BroadcastsInDim (shape2 32768 1024) (![0, 1] : Fin 2 → Fin (shape2 32768 1024).rank))
    (r1 : (shape2 32768 64).ReducesTo [1] (shape1 32768)) (r2 : (shape2 1024 64).ReducesTo [1] (shape1 1024))
    (q1 : (shape2 32768 64).Reduces [1] (shape1 32768)) (q2 : (shape2 1024 64).Reduces [1] (shape1 1024))
    (tr : (shape2 1024 64).Transposes [1, 0] (shape2 64 1024)) (h0 : 0 < shape0.numel) (t : Fin 32768) (k : Fin 1024) :
    addf (subf (broadcastInDim (shape2 32768 1024) ![0, 1] b2 (broadcastInDim (shape2 32768 1) ![0] b1
        (Host.reduceAdd (F := Ideal) (mulf x x) (constant shape0 .f32 0x00000000#32) r1 h0)))
      (Host.dotGeneral (DotDims.plain 32768 64 1024) none
        (mulf (broadcastInDim (shape2 32768 64) ![] b3 (constant (F := Ideal) shape0 .f32 0x40000000#32)) x)
        (transpose (shape2 64 1024) [1, 0] e tr)))
      (broadcastInDim (shape2 32768 1024) ![0, 1] b5 (broadcastInDim (shape2 1 1024) ![1] b4
        (Host.reduceAdd (F := Ideal) (mulf e e) (constant shape0 .f32 0x00000000#32) r2 h0))) (ix2 t k) = DD x e t k := by
  have hm : Host.dotGeneral (DotDims.plain 32768 64 1024) none
        (mulf (broadcastInDim (shape2 32768 64) ![] b3 (constant (F := Ideal) shape0 .f32 0x40000000#32)) x)
        (transpose (shape2 64 1024) [1, 0] e tr) (ix2 t k) = ∑ c : Fin 64, (2 * x (ix2 t c)) * e (ix2 k c) := by
    refine (StackMember.dotGeneral_plain_apply none _ _ t k).trans (Finset.sum_congr rfl fun c _ => congrArg₂ (· * ·) ?_ ?_)
    · show (broadcastInDim (shape2 32768 64) ![] b3 (constant (F := Ideal) shape0 .f32 0x40000000#32) (ix2 t c)) * x (ix2 t c) = _
      exact congrArg (· * x (ix2 t c)) ((bc0 b3 _ _).trans two_word)
    · exact transpose_apply _ _ _ _ _ fun b => by
        match b with
        | 0 => rfl
        | 1 => rfl
  have h1 := (bcRows b1 b2 (Host.reduceAdd (F := Ideal) (mulf x x) (constant shape0 .f32 0x00000000#32) r1 h0) t k).trans
    (rowSum (mulf x x) h0 r1 q1 t)
  have h2 := (bcCols b4 b5 (Host.reduceAdd (F := Ideal) (mulf e e) (constant shape0 .f32 0x00000000#32) r2 h0) t k).trans
    (rowSum (mulf e e) h0 r2 q2 k)
  rw [addf_apply, subf_apply]
  refine (congrArg₂ (fun a b : EReal => a + b) (congrArg₂ (fun a b : EReal => a - b) h1 hm) h2).trans ?_
  choose xr hxr using hx
  choose er her using he
  refine Eq.trans ?_ ((dist_double (fun c => xr (ix2 t c)) (fun r c => er (ix2 r c)) k).trans ?_)
  · refine congrArg₂ (fun a b : EReal => a + b) (congrArg₂ (fun a b : EReal => a - b) (Finset.sum_congr rfl fun c _ => ?_)
      (Finset.sum_congr rfl fun c _ => ?_)) (Finset.sum_congr rfl fun c _ => ?_)
    · show x (ix2 t c) * x (ix2 t c) = _
      rw [hxr]
    · rw [hxr, her]
    · show e (ix2 k c) * e (ix2 k c) = _
      rw [her]
  · unfold DD
    simp only [hxr, her]

/-- The printed choice of the arg-min keeps the earlier of two pairs. -/
theorem keeps_argmin : Keeps fun a b =>
    (Scalar.select (IntOp.ori (FloatOps.cmpf (F := Ideal) (φ := .f32) .olt a.1 b.1) (FloatOps.cmpf (F := Ideal) (φ := .f32) .une a.1 a.1)) a.1 b.1,
     Scalar.select (IntOp.ori (IntOp.ori (FloatOps.cmpf (F := Ideal) (φ := .f32) .olt a.1 b.1) (FloatOps.cmpf (F := Ideal) (φ := .f32) .une a.1 a.1))
       (IntOp.andi (FloatOps.cmpf (F := Ideal) (φ := .f32) .oeq a.1 b.1) (IntOp.cmpi .slt a.2 b.2))) a.2 b.2) := by
  rintro ⟨a, i⟩ ⟨b, j⟩
  show (((Scalar.select (IntOp.ori (Ideal.cmp .olt a b) (Ideal.cmp .une a a)) a b,
     Scalar.select (IntOp.ori (IntOp.ori (Ideal.cmp .olt a b) (Ideal.cmp .une a a))
       (IntOp.andi (Ideal.cmp .oeq a b) (IntOp.cmpi .slt i j))) i j) : EReal × BitVec 32) = (a, i) ∧ Le (a, i) (b, j)) ∨
    (((Scalar.select (IntOp.ori (Ideal.cmp .olt a b) (Ideal.cmp .une a a)) a b,
     Scalar.select (IntOp.ori (IntOp.ori (Ideal.cmp .olt a b) (Ideal.cmp .une a a))
       (IntOp.andi (Ideal.cmp .oeq a b) (IntOp.cmpi .slt i j))) i j) : EReal × BitVec 32) = (b, j) ∧ Le (b, j) (a, i))
  rcases lt_trichotomy a b with h | h | h
  · left
    refine ⟨?_, .inl h⟩
    simp [Ideal.cmp, h, h.ne, IntOp.ori, IntOp.andi, Scalar.select]
  · subst h
    by_cases hs : i.toInt < j.toInt
    · left
      refine ⟨?_, .inr ⟨rfl, hs.le⟩⟩
      simp [Ideal.cmp, IntOp.ori, IntOp.andi, Scalar.select, IntOp.cmpi, BitVec.slt_eq_decide, hs]
    · right
      refine ⟨?_, .inr ⟨rfl, not_lt.mp hs⟩⟩
      simp [Ideal.cmp, IntOp.ori, IntOp.andi, Scalar.select, IntOp.cmpi, BitVec.slt_eq_decide, hs]
  · right
    refine ⟨?_, .inl h⟩
    simp [Ideal.cmp, h.not_gt, h.ne', IntOp.ori, IntOp.andi, Scalar.select]

/-- The sum of the squared differences between each token's first nearest row and the token is the sum of the smallest
    squared distances. -/
theorem sum_sq (x : (shape2 32768 64).Idx → EReal) (e : (shape2 1024 64).Idx → EReal) (hx : RealArr x) (he : RealArr e)
    (q : (shape2 32768 64).Idx → EReal) (hq : ∀ t k, q (ix2 t k) = e (ix2 (first (DD x e t)) k)) :
    ∑ i, (q i - x i) * (q i - x i) = ∑ t, DD x e t (first (DD x e t)) := by
  rw [sum_idx2]
  refine Finset.sum_congr rfl fun t _ => ?_
  choose xr hxr using hx
  choose er her using he
  generalize hf : first (DD x e t) = f at *
  have hD : DD x e t f = _ := Eq.trans (by unfold DD; simp only [hxr, her]) (dist_real (fun c => xr (ix2 t c)) (fun r c => er (ix2 r c)) f)
  rw [hD, coe_sum]
  refine Finset.sum_congr rfl fun c _ => ?_
  rw [hq t c, hf, hxr, her, ← EReal.coe_sub, ← EReal.coe_mul]

/-- Moving a real number to another by their difference gives the other. -/
theorem move_real {a b : EReal} (ha : ∃ r : ℝ, a = ((r : ℝ) : EReal)) (hb : ∃ r : ℝ, b = ((r : ℝ) : EReal)) : a + (b - a) = b := by
  obtain ⟨r, rfl⟩ := ha
  obtain ⟨s, rfl⟩ := hb
  rw [← EReal.coe_sub, ← EReal.coe_add]
  congr 1
  ring

end Cert.Proof.ReferenceMath

end
-- ==== Proof.KernelIdealEnd.lean ====
/-
  What the whole program's stretches of host operations leave in the buffers the claim speaks of, and the contents at
  the end in terms of the launch memory: the codes are each token's nearest row, the tokens' rows those of the table.
-/
module

public import proofs.«01_k».proof.Proof.KernelIdealLaunch
public import proofs.«01_k».proof.Proof.KernelIdealArrays
public import proofs.«01_k».proof.Proof.ReferenceMath
public import Idealize.ShloMosaic.Lib.KernelVsHost

@[expose] public section

set_option maxRecDepth 16384

noncomputable section

namespace Cert.Proof.KernelIdealEnd

open Cert.KernelIdeal Cert.KernelIdeal.Gen Cert.Proof.KernelIdealRun Cert.Proof.Nearest
open Idealize.ShloMosaic hiding ix0 ix1 ix2 ix3 eq_ix1 eq_ix2 eq_ix3 sum_idx2
open Idealize.ShloMosaic.TcCoe Idealize.ShloMosaic.ValueIdx Idealize.ShloMosaic.Routing
open Idealize.SL.Sem
open Idealize.ShloMosaic.StableHlo (after)
open Idealize.ShloMosaic.Tactic

section Stretches
variable {F : FTy → Type} [FloatOps F] (V : Valuation τ sig (Elt F))

/-- Before the distance call: the tokens as rows, the arguments kept. -/
theorem after1 : after ops1 V (Proc.devRef .tc main_v0) = shapeCast S32768x64 (V (Proc.devRef .tc main_arg0)) shapeCasts_S32x1024x64_S32768x64 := by
  simp only [ops1]; after_results <;> rfl
theorem keep1_arg0 : after ops1 V (Proc.devRef .tc main_arg0) = V (Proc.devRef .tc main_arg0) := by
  simp only [ops1]; after_results <;> rfl
theorem keep1_arg1 : after ops1 V (Proc.devRef .tc main_arg1) = V (Proc.devRef .tc main_arg1) := by
  simp only [ops1]; after_results <;> rfl

/-- Between the calls: the codes laid flat, the rest kept. -/
theorem after2 : after ops2 V (Proc.devRef .tc main_v2) = shapeCast S32768 (V (Proc.devRef .tc main_v1_0)) shapeCasts_S256x128_S32768 := by
  simp only [ops2]; after_results <;> rfl
theorem keep2_arg0 : after ops2 V (Proc.devRef .tc main_arg0) = V (Proc.devRef .tc main_arg0) := by
  simp only [ops2]; after_results <;> rfl
theorem keep2_arg1 : after ops2 V (Proc.devRef .tc main_arg1) = V (Proc.devRef .tc main_arg1) := by
  simp only [ops2]; after_results <;> rfl
theorem keep2_total : after ops2 V (Proc.devRef .tc main_v1_1) = V (Proc.devRef .tc main_v1_1) := by
  simp only [ops2]; after_results <;> rfl
theorem keep2_table : after ops2 V (Proc.devRef .tc main_v1_2) = V (Proc.devRef .tc main_v1_2) := by
  simp only [ops2]; after_results <;> rfl

/-- After the lookup: the rows' 64 words as tokens, the loss, the rest kept. -/
theorem after3_tokens : after ops3 V (Proc.devRef .tc main_v5)
    = shapeCast S32x1024x64 (extractStridedSlice S32768x64 ![0, 0] (V (Proc.devRef .tc main_v3)) slices_S32768x128_S32768x64_0_0) shapeCasts_S32768x64_S32x1024x64 := by
  simp only [ops3]; after_results <;> rfl
theorem after3_loss : after ops3 V (Proc.devRef .tc main_v8)
    = mulf (constant S_ .f32 0x3E800000#32) (Host.divf (shapeCast S_ (V (Proc.devRef .tc main_v1_1)) shapeCasts_S1x1_S_) (constant S_ .f32 0x4A000000#32)) := by
  simp only [ops3]; after_results <;> rfl
theorem keep3_codes : after ops3 V (Proc.devRef .tc main_v2) = V (Proc.devRef .tc main_v2) := by
  simp only [ops3]; after_results <;> rfl
theorem keep3_arg0 : after ops3 V (Proc.devRef .tc main_arg0) = V (Proc.devRef .tc main_arg0) := by
  simp only [ops3]; after_results <;> rfl
theorem keep3_arg1 : after ops3 V (Proc.devRef .tc main_arg1) = V (Proc.devRef .tc main_arg1) := by
  simp only [ops3]; after_results <;> rfl

end Stretches

variable (m : (ℓ : Loc nD τ sig) → Buf (Elt Ideal) ℓ) (d : Dev nD)

/-- The tokens and the table the program is launched on, the tokens as rows. -/
abbrev zArg : FVec Ideal S32x1024x64 .f32 := m ((d.tc : Thread nD τ).loc main_arg0)
abbrev eArg : FVec Ideal S1024x64 .f32 := m ((d.tc : Thread nD τ).loc main_arg1)
abbrev xRow : FVec Ideal S32768x64 .f32 := shapeCast S32768x64 (zArg m d) shapeCasts_S32x1024x64_S32768x64

/-- The contents the distance call finds. -/
abbrev A1 (b : Ref sig .tc) (c : Dev nD) : Buf (Elt Ideal) ((c : Thread nD τ).loc b) := W1 m c b

theorem Z_eq : KernelIdealArrays.Z (A1 m) d = xRow m d := by
  show V1 m d (Proc.devRef .tc main_v0) = _
  unfold V1
  exact after1 _

theorem E_eq : KernelIdealArrays.E (A1 m) d = eArg m d := by
  show V1 m d (Proc.devRef .tc main_arg1) = _
  unfold V1
  exact keep1_arg1 _

/-- Token `t`'s distances to the table's rows. -/
abbrev near (t : Fin 32768) : Fin 1024 → EReal := dist2 (fun k => xRow m d (ix2 t k)) fun r k => eArg m d (ix2 r k)

theorem DT_eq (t : Fin 32768) : KernelIdealArrays.DT (A1 m) d t = near m d t := by
  unfold KernelIdealArrays.DT
  rw [Z_eq, E_eq]

theorem V2_codes : V2 m d (Proc.devRef .tc main_v1_0) = KernelIdealArrays.codes (A1 m) d :=
  (W2_codes m d).trans (KernelIdealArrays.arr_codes (A1 m) d _ _ _)
theorem V2_total : V2 m d (Proc.devRef .tc main_v1_1) = fun _ => KernelIdealArrays.total (A1 m) d :=
  (W2_total m d).trans (KernelIdealArrays.arr_total (A1 m) d _ _ _)
theorem V2_table : V2 m d (Proc.devRef .tc main_v1_2) = KernelIdealArrays.table (A1 m) d :=
  (W2_table m d).trans (KernelIdealArrays.arr_table (A1 m) d _ _ _)
theorem V2_arg0 : V2 m d (Proc.devRef .tc main_arg0) = zArg m d :=
  (W2_ne m d main_arg0 (by decide) (by decide) (by decide)).trans (by unfold W1 V1; exact keep1_arg0 _)
theorem V2_arg1 : V2 m d (Proc.devRef .tc main_arg1) = eArg m d :=
  (W2_ne m d main_arg1 (by decide) (by decide) (by decide)).trans (by unfold W1 V1; exact keep1_arg1 _)

/-- Each flat code is its token's nearest row, -/
theorem idx3_apply (t : Fin 32768) : idx3 m d (ix1 t) = BitVec.ofNat 32 (first (near m d t)).val := by
  have h : V3 m d (Proc.devRef .tc main_v2) = shapeCast S32768 (KernelIdealArrays.codes (A1 m) d) shapeCasts_S256x128_S32768 := by
    unfold V3
    rw [after2, V2_codes]
  have ht := t.isLt
  refine (congrFun h (ix1 t)).trans ((shapeCast_apply _ _ (ix1 t)
    (ix2 (⟨t.val / 128, by omega⟩ : Fin 256) (⟨t.val % 128, by omega⟩ : Fin 128)) ?_).trans ?_)
  · rw [Shape.rowMajor_val_one, Shape.rowMajor_val_two]
    show t.val / 128 * 128 + t.val % 128 = t.val
    omega
  · unfold KernelIdealArrays.codes
    rw [← DT_eq]
    refine congrArg (fun k => BitVec.ofNat 32 (first (KernelIdealArrays.DT (A1 m) d k)).val) (Fin.ext ?_)
    show t.val / 128 * 128 + t.val % 128 = t.val
    omega

theorem idx3_toNat (t : Fin 32768) : (idx3 m d (ix1 t)).toNat = (first (near m d t)).val := by
  rw [idx3_apply, BitVec.toNat_ofNat]
  exact Nat.mod_eq_of_lt (lt_trans (first (near m d t)).isLt (by norm_num))

/-- so it names a row. -/
theorem codes_ok : CodesOK (idx3 m) := fun d (j : (shape1 32768).Idx) => by
  have h : (idx3 m d j).toNat = (first (near m d (j 0))).val := (congrArg (fun i => (idx3 m d i).toNat) (eq_ix1 j)).trans (idx3_toNat m d (j 0))
  exact lt_of_eq_of_lt h (Fin.isLt _)

/-- The table the lookup reads has the argument's rows in its first 64 columns. -/
theorem tab3_apply (r : Fin 1024) (k : Fin 64) : tab3 m d (ix2 r (⟨k.val, by omega⟩ : Fin 128)) = eArg m d (ix2 r k) := by
  have h : V3 m d (Proc.devRef .tc main_v1_2) = KernelIdealArrays.table (A1 m) d := by
    unfold V3
    rw [keep2_table, V2_table]
  refine (congrFun h _).trans ?_
  unfold KernelIdealArrays.table
  rw [E_eq]
  exact (KernelIdealBlock.pay5_apply (eArg m d) r (⟨k.val, by omega⟩ : Fin 128)).trans (dif_pos (show (⟨k.val, by omega⟩ : Fin 128).val < 64 from k.isLt))

/-- The lookup's rows, cut to 64 words, are each token's nearest row. -/
theorem rows_apply (t : Fin 32768) (k : Fin 64) :
    extractStridedSlice S32768x64 ![0, 0] (want (tab3 m) (idx3 m) d) slices_S32768x128_S32768x64_0_0 (ix2 t k) = eArg m d (ix2 (first (near m d t)) k) := by
  refine (slice2_axis1_apply 0 _ _ t k (⟨k.val, by omega⟩ : Fin 128) (Nat.zero_add _).symm).trans ?_
  refine Eq.trans ?_ (tab3_apply m d (first (near m d t)) k)
  unfold want
  refine congrArg (tab3 m d) (funext fun a => ?_)
  match a with
  | 0 =>
    refine Fin.ext ?_
    have e : (idx3 m d (ix1 t)).toNat % 1024 = (first (near m d t)).val :=
      (congrArg (· % 1024) (idx3_toNat m d t)).trans (Nat.mod_eq_of_lt (Fin.isLt _))
    exact (congrArg (fun i => (idx3 m d i).toNat % 1024) (funext fun b => match b with | 0 => rfl)).trans e
  | 1 => rfl

/-- The contents at the end. -/
theorem V5_arg0 : V5 m d (Proc.devRef .tc main_arg0) = zArg m d := by
  unfold V5 V4
  rw [keep3_arg0, Function.update_of_ne (StableHlo.devRef_ne_of_ne (by decide))]
  unfold V3
  rw [keep2_arg0, V2_arg0]

theorem V5_arg1 : V5 m d (Proc.devRef .tc main_arg1) = eArg m d := by
  unfold V5 V4
  rw [keep3_arg1, Function.update_of_ne (StableHlo.devRef_ne_of_ne (by decide))]
  unfold V3
  rw [keep2_arg1, V2_arg1]

theorem V5_codes : V5 m d (Proc.devRef .tc main_v2) = idx3 m d := by
  unfold V5 V4
  rw [keep3_codes, Function.update_of_ne (StableHlo.devRef_ne_of_ne (by decide))]

theorem V5_tokens : V5 m d (Proc.devRef .tc main_v5)
    = shapeCast S32x1024x64 (extractStridedSlice S32768x64 ![0, 0] (want (tab3 m) (idx3 m) d) slices_S32768x128_S32768x64_0_0) shapeCasts_S32768x64_S32x1024x64 := by
  unfold V5 V4
  rw [after3_tokens, Function.update_self]

theorem V5_loss : V5 m d (Proc.devRef .tc main_v8)
    = mulf (constant S_ .f32 0x3E800000#32) (Host.divf (fun _ => ∑ t : Fin 32768, near m d t (first (near m d t))) (constant (F := Ideal) S_ .f32 0x4A000000#32)) := by
  unfold V5 V4
  rw [after3_loss, Function.update_of_ne (StableHlo.devRef_ne_of_ne (by decide))]
  unfold V3
  rw [keep2_total, V2_total]
  unfold KernelIdealArrays.total
  simp only [DT_eq]
  rfl

end Cert.Proof.KernelIdealEnd

end
-- ==== Proof.ReferenceRun.lean ====
/-
  The reference's run: its host operations in four stretches (the distances, the nearest row of each token, the rows
  taken, the results), what each stretch leaves, and so what the whole leaves.
-/
module

public import proofs.«01_k».proof.Proof.Gen.ReferenceIdeal
public import Idealize.ShloMosaic.Lib.StableHlo.Run
public import Idealize.ShloMosaic.Lib.Quiescent

@[expose] public section

noncomputable section

namespace Cert.Proof.ReferenceRun

open Cert.ReferenceIdeal Cert.ReferenceIdeal.Gen Idealize.ShloMosaic Idealize.ShloMosaic.TcCoe Idealize.SL.Sem Idealize.ShloMosaic.StableHlo

variable {F : FTy → Type} [FloatOps F]

/-- The distances. -/
abbrev opsA : List (HloOp τ sig (Elt F)) :=
  [ StableHlo.reshape main_arg0 main_v0 (rfl : (.f32 : EltTy) = .f32) shapeCasts_S32x1024x64_S32768x64,
    StableHlo.binary main_v0 main_v0 main_v1 (mulf : (⟨S32768x64, .f32⟩ : BufTy).Contents (Elt F) → (⟨S32768x64, .f32⟩ : BufTy).Contents (Elt F) → (⟨S32768x64, .f32⟩ : BufTy).Contents (Elt F)),
    StableHlo.nullary main_cst (constant S_ .f32 0x00000000#32),
    StableHlo.binary main_v1 main_cst main_v2 ((fun x v => Host.reduceAdd x v reducesTo_S32768x64_S32768_d1 h_S_) : (⟨S32768x64, .f32⟩ : BufTy).Contents (Elt F) → (⟨S_, .f32⟩ : BufTy).Contents (Elt F) → (⟨S32768, .f32⟩ : BufTy).Contents (Elt F)),
    StableHlo.unary main_v2 main_v3 (broadcastInDim S32768x1 ![0] bcast_S32768_S32768x1_0 : (⟨S32768, .f32⟩ : BufTy).Contents (Elt F) → (⟨S32768x1, .f32⟩ : BufTy).Contents (Elt F)),
    StableHlo.nullary main_cst_0 (constant S_ .f32 0x40000000#32),
    StableHlo.unary main_cst_0 main_v4 (broadcastInDim S32768x64 ![] bcast_S_S32768x64 : (⟨S_, .f32⟩ : BufTy).Contents (Elt F) → (⟨S32768x64, .f32⟩ : BufTy).Contents (Elt F)),
    StableHlo.binary main_v4 main_v0 main_v5 (mulf : (⟨S32768x64, .f32⟩ : BufTy).Contents (Elt F) → (⟨S32768x64, .f32⟩ : BufTy).Contents (Elt F) → (⟨S32768x64, .f32⟩ : BufTy).Contents (Elt F)),
    StableHlo.unary main_arg1 main_v6 ((transpose S64x1024 [1, 0] · transposes_S1024x64_S64x1024_1_0) : (⟨S1024x64, .f32⟩ : BufTy).Contents (Elt F) → (⟨S64x1024, .f32⟩ : BufTy).Contents (Elt F)),
    StableHlo.binary main_v5 main_v6 main_v7 ((fun l r => Host.dotGeneral dot_S32768x64_S64x1024_S32768x1024_1_0_0_1_n_n none l r) : (⟨S32768x64, .f32⟩ : BufTy).Contents (Elt F) → (⟨S64x1024, .f32⟩ : BufTy).Contents (Elt F) → (⟨S32768x1024, .f32⟩ : BufTy).Contents (Elt F)),
    StableHlo.unary main_v3 main_v8 (broadcastInDim S32768x1024 ![0, 1] bcast_S32768x1_S32768x1024_0_1 : (⟨S32768x1, .f32⟩ : BufTy).Contents (Elt F) → (⟨S32768x1024, .f32⟩ : BufTy).Contents (Elt F)),
    StableHlo.binary main_v8 main_v7 main_v9 (subf : (⟨S32768x1024, .f32⟩ : BufTy).Contents (Elt F) → (⟨S32768x1024, .f32⟩ : BufTy).Contents (Elt F) → (⟨S32768x1024, .f32⟩ : BufTy).Contents (Elt F)),
    StableHlo.binary main_arg1 main_arg1 main_v10 (mulf : (⟨S1024x64, .f32⟩ : BufTy).Contents (Elt F) → (⟨S1024x64, .f32⟩ : BufTy).Contents (Elt F) → (⟨S1024x64, .f32⟩ : BufTy).Contents (Elt F)),
    StableHlo.nullary main_cst_1 (constant S_ .f32 0x00000000#32),
    StableHlo.binary main_v10 main_cst_1 main_v11 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    StableHlo.unary main_v11 main_v12 (broadcastInDim S1x1024 ![1] bcast_S1024_S1x1024_1 : (⟨S1024, .f32⟩ : BufTy).Contents (Elt F) → (⟨S1x1024, .f32⟩ : BufTy).Contents (Elt F)),
    StableHlo.unary main_v12 main_v13 (broadcastInDim S32768x1024 ![0, 1] bcast_S1x1024_S32768x1024_0_1 : (⟨S1x1024, .f32⟩ : BufTy).Contents (Elt F) → (⟨S32768x1024, .f32⟩ : BufTy).Contents (Elt F)),
    StableHlo.binary main_v9 main_v13 main_v14 (addf : (⟨S32768x1024, .f32⟩ : BufTy).Contents (Elt F) → (⟨S32768x1024, .f32⟩ : BufTy).Contents (Elt F) → (⟨S32768x1024, .f32⟩ : BufTy).Contents (Elt F)) ]

/-- The nearest row of each token. -/
abbrev opsB : List (HloOp τ sig (Elt F)) :=
  [ TRef.nullary (TRef.of (T := ⟨S32768x1024, .i32⟩) main_call0_v0) (iotaInDim S32768x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S32768x1024, .f32⟩) main_v14) (TRef.of (T := ⟨S32768x1024, .i32⟩) main_call0_v0) (TRef.of (T := ⟨S_, .f32⟩) main_call0_cst) (TRef.of (T := ⟨S_, .i32⟩) main_call0_c) (TRef.of (T := ⟨S32768, .f32⟩) main_call0_v1_0) (fun x y u v j => (Host.argReduce reducer_argmin_f32_i32 x y u v reducesTo_S32768x1024_S32768_d1 h_S_ j).1),
    TRef.quaternary (TRef.of (T := ⟨S32768x1024, .f32⟩) main_v14) (TRef.of (T := ⟨S32768x1024, .i32⟩) main_call0_v0) (TRef.of (T := ⟨S_, .f32⟩) main_call0_cst) (TRef.of (T := ⟨S_, .i32⟩) main_call0_c) (TRef.of (T := ⟨S32768, .i32⟩) main_v15) (fun x y u v j => (Host.argReduce reducer_argmin_f32_i32 x y u v reducesTo_S32768x1024_S32768_d1 h_S_ j).2) ]

/-- The rows taken. -/
abbrev opsC : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S32768, .i32⟩) main_call1_v0) (broadcastInDim S32768 ![] bcast_S_S32768),
    TRef.binary (TRef.of (T := ⟨S32768, .i32⟩) main_v15) (TRef.of (T := ⟨S32768, .i32⟩) main_call1_v0) (TRef.of (T := ⟨S32768, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S32768, .i32⟩) main_call1_v2) (broadcastInDim S32768 ![] bcast_S_S32768),
    TRef.binary (TRef.of (T := ⟨S32768, .i32⟩) main_v15) (TRef.of (T := ⟨S32768, .i32⟩) main_call1_v2) (TRef.of (T := ⟨S32768, .i32⟩) main_call1_v3) addi,
    TRef.ternary (TRef.of (T := ⟨S32768, .i1⟩) main_call1_v1) (TRef.of (T := ⟨S32768, .i32⟩) main_call1_v3) (TRef.of (T := ⟨S32768, .i32⟩) main_v15) (TRef.of (T := ⟨S32768, .i32⟩) main_call1_v4) select,
    TRef.unary (TRef.of (T := ⟨S32768, .i32⟩) main_call1_v4) (TRef.of (T := ⟨S32768x1, .i32⟩) main_call1_v5) (broadcastInDim S32768x1 ![0] bcast_S32768_S32768x1_0),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S32768x1, .i32⟩) main_call1_v6) (broadcastInDim S32768x1 ![] bcast_S_S32768x1),
    TRef.binary (TRef.of (T := ⟨S32768x1, .i32⟩) main_call1_v5) (TRef.of (T := ⟨S32768x1, .i32⟩) main_call1_v6) (TRef.of (T := ⟨S32768x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S32768x1, .i32⟩) main_call1_v9) (broadcastInDim S32768x1 ![0, 1] bcast_S1x1_S32768x1_0_1),
    TRef.binary (TRef.of (T := ⟨S32768x1, .i32⟩) main_call1_v5) (TRef.of (T := ⟨S32768x1, .i32⟩) main_call1_v9) (TRef.of (T := ⟨S32768x1, .i1⟩) main_call1_v10) (cmpi .sle),
    TRef.binary (TRef.of (T := ⟨S32768x1, .i1⟩) main_call1_v7) (TRef.of (T := ⟨S32768x1, .i1⟩) main_call1_v10) (TRef.of (T := ⟨S32768x1, .i1⟩) main_call1_v11) andi,
    TRef.nullary (TRef.of (T := ⟨S_, .i1⟩) main_call1_c_3) (constantI S_ 1 1#1),
    TRef.binary (TRef.of (T := ⟨S32768x1, .i1⟩) main_call1_v11) (TRef.of (T := ⟨S_, .i1⟩) main_call1_c_3) (TRef.of (T := ⟨S32768, .i1⟩) main_call1_v12) (fun x v => Host.reduce IntOp.andi x v reducesTo_S32768x1_S32768_d1 h_S_),
    TRef.binary (TRef.of (T := ⟨S1024x64, .f32⟩) main_arg1) (TRef.of (T := ⟨S32768x1, .i32⟩) main_call1_v5) (TRef.of (T := ⟨S32768x64, .f32⟩) main_call1_v13) (fun x i => Host.gather gather_S1024x64_S32768x1_S32768x64_1_0_n_n_0_1_164 x i),
    TRef.unary (TRef.of (T := ⟨S32768, .i1⟩) main_call1_v12) (TRef.of (T := ⟨S32768x64, .i1⟩) main_call1_v14) (broadcastInDim S32768x64 ![0] bcast_S32768_S32768x64_0),
    TRef.nullary (TRef.of (T := ⟨S_, .f32⟩) main_call1_cst) (constant S_ .f32 0x7FC00000#32),
    TRef.unary (TRef.of (T := ⟨S_, .f32⟩) main_call1_cst) (TRef.of (T := ⟨S32768x64, .f32⟩) main_call1_v15) (broadcastInDim S32768x64 ![] bcast_S_S32768x64),
    TRef.ternary (TRef.of (T := ⟨S32768x64, .i1⟩) main_call1_v14) (TRef.of (T := ⟨S32768x64, .f32⟩) main_call1_v13) (TRef.of (T := ⟨S32768x64, .f32⟩) main_call1_v15) (TRef.of (T := ⟨S32768x64, .f32⟩) main_v16) select ]

/-- The results. -/
abbrev opsD : List (HloOp τ sig (Elt F)) :=
  [ StableHlo.reshape main_v16 main_v17 (rfl : (.f32 : EltTy) = .f32) shapeCasts_S32768x64_S32x1024x64,
    StableHlo.binary main_v17 main_arg0 main_v18 (subf : (⟨S32x1024x64, .f32⟩ : BufTy).Contents (Elt F) → (⟨S32x1024x64, .f32⟩ : BufTy).Contents (Elt F) → (⟨S32x1024x64, .f32⟩ : BufTy).Contents (Elt F)),
    StableHlo.binary main_arg0 main_v18 main_v19 (addf : (⟨S32x1024x64, .f32⟩ : BufTy).Contents (Elt F) → (⟨S32x1024x64, .f32⟩ : BufTy).Contents (Elt F) → (⟨S32x1024x64, .f32⟩ : BufTy).Contents (Elt F)),
    StableHlo.binary main_v17 main_arg0 main_v20 (subf : (⟨S32x1024x64, .f32⟩ : BufTy).Contents (Elt F) → (⟨S32x1024x64, .f32⟩ : BufTy).Contents (Elt F) → (⟨S32x1024x64, .f32⟩ : BufTy).Contents (Elt F)),
    StableHlo.binary main_v20 main_v20 main_v21 (mulf : (⟨S32x1024x64, .f32⟩ : BufTy).Contents (Elt F) → (⟨S32x1024x64, .f32⟩ : BufTy).Contents (Elt F) → (⟨S32x1024x64, .f32⟩ : BufTy).Contents (Elt F)),
    StableHlo.nullary main_cst_2 (constant S_ .f32 0x00000000#32),
    StableHlo.binary main_v21 main_cst_2 main_v22 ((fun x v => Host.reduceAdd x v reducesTo_S32x1024x64_S_d0_1_2 h_S_) : (⟨S32x1024x64, .f32⟩ : BufTy).Contents (Elt F) → (⟨S_, .f32⟩ : BufTy).Contents (Elt F) → (⟨S_, .f32⟩ : BufTy).Contents (Elt F)),
    StableHlo.nullary main_cst_3 (constant S_ .f32 0x4A000000#32),
    StableHlo.binary main_v22 main_cst_3 main_v23 (Host.divf : (⟨S_, .f32⟩ : BufTy).Contents (Elt F) → (⟨S_, .f32⟩ : BufTy).Contents (Elt F) → (⟨S_, .f32⟩ : BufTy).Contents (Elt F)),
    StableHlo.nullary main_cst_4 (constant S_ .f32 0x3E800000#32),
    StableHlo.binary main_cst_4 main_v23 main_v24 (mulf : (⟨S_, .f32⟩ : BufTy).Contents (Elt F) → (⟨S_, .f32⟩ : BufTy).Contents (Elt F) → (⟨S_, .f32⟩ : BufTy).Contents (Elt F)) ]

theorem subA : (opsA : List (HloOp τ sig (Elt F))).Forall fun op => op.bufs ⊆ tcRefs τ sig :=
  ⟨reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub ..⟩

theorem subB : (opsB : List (HloOp τ sig (Elt F))).Forall fun op => op.bufs ⊆ tcRefs τ sig :=
  ⟨nullary_bufs_sub .., nullary_bufs_sub .., nullary_bufs_sub .., quaternary_bufs_sub .., quaternary_bufs_sub ..⟩

theorem subC : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem subD : (opsD : List (HloOp τ sig (Elt F))).Forall fun op => op.bufs ⊆ tcRefs τ sig :=
  ⟨reshape_bufs_sub .., binary_bufs_sub .., binary_bufs_sub .., binary_bufs_sub .., binary_bufs_sub .., nullary_bufs_sub .., binary_bufs_sub .., nullary_bufs_sub .., binary_bufs_sub .., nullary_bufs_sub .., binary_bufs_sub ..⟩

/-- All the operations. -/
abbrev ops : List (HloOp τ sig (Elt F)) := opsA ++ (opsB ++ (opsC ++ opsD))

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨subA, List.forall_append.2 ⟨subB, List.forall_append.2 ⟨subC, subD⟩⟩⟩

theorem after_app (l₁ l₂ : List (HloOp τ sig (Elt F))) (V : Valuation τ sig (Elt F)) : after (l₁ ++ l₂) V = after l₂ (after l₁ V) := by
  induction l₁ generalizing V with
  | nil => rfl
  | cons op l ih => exact ih _

/-- Every token's distance to every row. -/
def dists (x : FVec F S32768x64 .f32) (e : FVec F S1024x64 .f32) : FVec F S32768x1024 .f32 :=
  addf (subf (broadcastInDim S32768x1024 ![0, 1] bcast_S32768x1_S32768x1024_0_1 (broadcastInDim S32768x1 ![0] bcast_S32768_S32768x1_0
      (Host.reduceAdd (mulf x x) (constant S_ .f32 0x00000000#32) reducesTo_S32768x64_S32768_d1 h_S_)))
    (Host.dotGeneral dot_S32768x64_S64x1024_S32768x1024_1_0_0_1_n_n none
      (mulf (broadcastInDim S32768x64 ![] bcast_S_S32768x64 (constant S_ .f32 0x40000000#32)) x)
      (transpose S64x1024 [1, 0] e transposes_S1024x64_S64x1024_1_0)))
    (broadcastInDim S32768x1024 ![0, 1] bcast_S1x1024_S32768x1024_0_1 (broadcastInDim S1x1024 ![1] bcast_S1024_S1x1024_1
      (Host.reduceAdd (mulf e e) (constant S_ .f32 0x00000000#32) reducesTo_S1024x64_S1024_d1 h_S_)))

/-- The place of each token's smallest distance. -/
def near (x : FVec F S32768x1024 .f32) : IVec S32768 32 := fun j =>
  (Host.argReduce reducer_argmin_f32_i32 x (iotaInDim S32768x1024 32 1) (constant S_ .f32 0x7F800000#32) (constantI S_ 32 0#32)
    reducesTo_S32768x1024_S32768_d1 h_S_ j).2

/-- A place moved up by the table's height where negative. -/
def moved (i : IVec S32768 32) : IVec S32768x1 32 :=
  broadcastInDim S32768x1 ![0] bcast_S32768_S32768x1_0 (select (cmpi .slt i (broadcastInDim S32768 ![] bcast_S_S32768 (constantI S_ 32 0#32)))
    (addi i (broadcastInDim S32768 ![] bcast_S_S32768 (constantI S_ 32 1024#32))) i)

/-- The rows at those places. -/
def rows (e : FVec F S1024x64 .f32) (i : IVec S32768 32) : FVec F S32768x64 .f32 :=
  select (broadcastInDim S32768x64 ![0] bcast_S32768_S32768x64_0 (Host.reduce IntOp.andi
      (andi (cmpi .sge (moved i) (broadcastInDim S32768x1 ![] bcast_S_S32768x1 (constantI S_ 32 0#32)))
        (cmpi .sle (moved i) (broadcastInDim S32768x1 ![0, 1] bcast_S1x1_S32768x1_0_1 (broadcastInDim S1x1 ![1] bcast_S1_S1x1_1 (constantI S1 32 1023#32)))))
      (constantI S_ 1 1#1) reducesTo_S32768x1_S32768_d1 h_S_))
    (Host.gather gather_S1024x64_S32768x1_S32768x64_1_0_n_n_0_1_164 e (moved i))
    (broadcastInDim S32768x64 ![] bcast_S_S32768x64 (constant S_ .f32 0x7FC00000#32))

variable (V : Valuation τ sig (Elt F))

set_option maxHeartbeats 2000000 in
/-- The first stretch leaves the distances, -/
theorem afterA : after opsA V (Proc.devRef .tc main_v14) = dists (shapeCast S32768x64 (V (Proc.devRef .tc main_arg0)) shapeCasts_S32x1024x64_S32768x64) (V (Proc.devRef .tc main_arg1)) := by
  simp only [opsA]; after_results <;> rfl

set_option maxHeartbeats 2000000 in
/-- the second the nearest places, -/
theorem afterB : after opsB V (Proc.devRef .tc main_v15) = near (V (Proc.devRef .tc main_v14)) := by
  simp only [opsB, TRef.binary, TRef.nullary, TRef.ternary, TRef.unary, TRef.quaternary, TRef.toBuf, TRef.ofBuf, cast_eq]; after_results <;> rfl

set_option maxHeartbeats 2000000 in
/-- the third the rows at them. -/
theorem afterC : after opsC V (Proc.devRef .tc main_v16) = rows (V (Proc.devRef .tc main_arg1)) (V (Proc.devRef .tc main_v15)) := by
  simp only [opsC, TRef.binary, TRef.nullary, TRef.ternary, TRef.unary, TRef.quaternary, TRef.toBuf, TRef.ofBuf, cast_eq]; after_results <;> rfl

set_option maxHeartbeats 2000000 in
theorem keepA_main_arg0 : after opsA V (Proc.devRef .tc main_arg0) = V (Proc.devRef .tc main_arg0) := by
  simp only [opsA, TRef.binary, TRef.nullary, TRef.ternary, TRef.unary, TRef.quaternary, TRef.toBuf, TRef.ofBuf, cast_eq]; after_results <;> rfl

set_option maxHeartbeats 2000000 in
theorem keepA_main_arg1 : after opsA V (Proc.devRef .tc main_arg1) = V (Proc.devRef .tc main_arg1) := by
  simp only [opsA, TRef.binary, TRef.nullary, TRef.ternary, TRef.unary, TRef.quaternary, TRef.toBuf, TRef.ofBuf, cast_eq]; after_results <;> rfl

set_option maxHeartbeats 2000000 in
theorem keepB_main_arg0 : after opsB V (Proc.devRef .tc main_arg0) = V (Proc.devRef .tc main_arg0) := by
  simp only [opsB, TRef.binary, TRef.nullary, TRef.ternary, TRef.unary, TRef.quaternary, TRef.toBuf, TRef.ofBuf, cast_eq]; after_results <;> rfl

set_option maxHeartbeats 2000000 in
theorem keepB_main_arg1 : after opsB V (Proc.devRef .tc main_arg1) = V (Proc.devRef .tc main_arg1) := by
  simp only [opsB, TRef.binary, TRef.nullary, TRef.ternary, TRef.unary, TRef.quaternary, TRef.toBuf, TRef.ofBuf, cast_eq]; after_results <;> rfl

set_option maxHeartbeats 2000000 in
theorem keepC_main_arg0 : after opsC V (Proc.devRef .tc main_arg0) = V (Proc.devRef .tc main_arg0) := by
  simp only [opsC, TRef.binary, TRef.nullary, TRef.ternary, TRef.unary, TRef.quaternary, TRef.toBuf, TRef.ofBuf, cast_eq]; after_results <;> rfl

set_option maxHeartbeats 2000000 in
theorem keepC_main_arg1 : after opsC V (Proc.devRef .tc main_arg1) = V (Proc.devRef .tc main_arg1) := by
  simp only [opsC, TRef.binary, TRef.nullary, TRef.ternary, TRef.unary, TRef.quaternary, TRef.toBuf, TRef.ofBuf, cast_eq]; after_results <;> rfl

set_option maxHeartbeats 2000000 in
theorem keepD_main_arg0 : after opsD V (Proc.devRef .tc main_arg0) = V (Proc.devRef .tc main_arg0) := by
  simp only [opsD, TRef.binary, TRef.nullary, TRef.ternary, TRef.unary, TRef.quaternary, TRef.toBuf, TRef.ofBuf, cast_eq]; after_results <;> rfl

set_option maxHeartbeats 2000000 in
theorem keepD_main_arg1 : after opsD V (Proc.devRef .tc main_arg1) = V (Proc.devRef .tc main_arg1) := by
  simp only [opsD, TRef.binary, TRef.nullary, TRef.ternary, TRef.unary, TRef.quaternary, TRef.toBuf, TRef.ofBuf, cast_eq]; after_results <;> rfl

set_option maxHeartbeats 2000000 in
theorem keepC_main_v15 : after opsC V (Proc.devRef .tc main_v15) = V (Proc.devRef .tc main_v15) := by
  simp only [opsC, TRef.binary, TRef.nullary, TRef.ternary, TRef.unary, TRef.quaternary, TRef.toBuf, TRef.ofBuf, cast_eq]; after_results <;> rfl

/-- The summed squares of the differences between the rows taken, as tokens, and the tokens. -/
def sqsum (q x : FVec F S32x1024x64 .f32) : FVec F S_ .f32 :=
  Host.reduceAdd (mulf (subf q x) (subf q x)) (constant S_ .f32 0x00000000#32) reducesTo_S32x1024x64_S_d0_1_2 h_S_

set_option maxHeartbeats 2000000 in
/-- The last stretch leaves the tokens moved to their rows, -/
theorem afterD_tokens : after opsD V (Proc.devRef .tc main_v19) = addf (V (Proc.devRef .tc main_arg0))
    (subf (shapeCast S32x1024x64 (V (Proc.devRef .tc main_v16)) shapeCasts_S32768x64_S32x1024x64) (V (Proc.devRef .tc main_arg0))) := by
  simp only [opsD]; after_results <;> rfl

set_option maxHeartbeats 2000000 in
/-- the loss -/
theorem afterD_loss : after opsD V (Proc.devRef .tc main_v24) = mulf (constant S_ .f32 0x3E800000#32) (Host.divf
    (sqsum (shapeCast S32x1024x64 (V (Proc.devRef .tc main_v16)) shapeCasts_S32768x64_S32x1024x64) (V (Proc.devRef .tc main_arg0))) (constant S_ .f32 0x4A000000#32)) := by
  simp only [opsD]; after_results <;> rfl

set_option maxHeartbeats 2000000 in
/-- and the codes as they are. -/
theorem keepD_codes : after opsD V (Proc.devRef .tc main_v15) = V (Proc.devRef .tc main_v15) := by
  simp only [opsD]; after_results <;> rfl

/-- The codes of tokens and a table. -/
abbrev codes (z : FVec F S32x1024x64 .f32) (e : FVec F S1024x64 .f32) : IVec S32768 32 :=
  near (dists (shapeCast S32768x64 z shapeCasts_S32x1024x64_S32768x64) e)

/-- Their rows, as tokens. -/
abbrev taken (z : FVec F S32x1024x64 .f32) (e : FVec F S1024x64 .f32) : FVec F S32x1024x64 .f32 :=
  shapeCast S32x1024x64 (rows e (codes z e)) shapeCasts_S32768x64_S32x1024x64

/-- THE RUN: the moved tokens, the codes and the loss, of the arguments as launched; the arguments as they were. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v19) = addf (m ((c.tc : Thread nD τ).loc main_arg0))
          (subf (taken (m ((c.tc : Thread nD τ).loc main_arg0)) (m ((c.tc : Thread nD τ).loc main_arg1))) (m ((c.tc : Thread nD τ).loc main_arg0)))
      ∧ r.2.mem ((c.tc : Thread nD τ).loc main_v15) = codes (m ((c.tc : Thread nD τ).loc main_arg0)) (m ((c.tc : Thread nD τ).loc main_arg1))
      ∧ r.2.mem ((c.tc : Thread nD τ).loc main_v24) = mulf (constant S_ .f32 0x3E800000#32) (Host.divf
          (sqsum (taken (m ((c.tc : Thread nD τ).loc main_arg0)) (m ((c.tc : Thread nD τ).loc main_arg1))) (m ((c.tc : Thread nD τ).loc main_arg0))) (constant S_ .f32 0x4A000000#32)))
      ∧ r.2.sem = fun _ => 0 := by
  refine (θ_run defs _ _).mono (fun r h => ⟨fun c => ⟨(h c main_arg0).trans ?_, (h c main_arg1).trans ?_, (h c main_v19).trans ?_, (h c main_v15).trans ?_,
      (h c main_v24).trans ?_⟩, sem_eq_zero_of_no_sems (by decide) r.2⟩)
    (run_seq scopedRefs_eq scopedSems_eq defs main (fun _ => ops) main_eq (fun _ => ops_sub) m ρ)
  · rw [after_app, after_app, after_app, keepD_main_arg0, keepC_main_arg0, keepB_main_arg0, keepA_main_arg0]
  · rw [after_app, after_app, after_app, keepD_main_arg1, keepC_main_arg1, keepB_main_arg1, keepA_main_arg1]
  · rw [after_app, after_app, after_app, afterD_tokens, afterC, keepC_main_arg0, keepB_main_arg0, keepB_main_arg1, keepA_main_arg0, keepA_main_arg1, afterB, afterA]
  · rw [after_app, after_app, after_app, keepD_codes, keepC_main_v15, afterB, afterA]
  · rw [after_app, after_app, after_app, afterD_loss, afterC, keepC_main_arg0, keepB_main_arg0, keepB_main_arg1, keepA_main_arg0, keepA_main_arg1, afterB, afterA]

end Cert.Proof.ReferenceRun

end
-- ==== Proof.Take.lean ====
/-
  `jnp.take` of whole rows as it prints: the index moved up by the table's height where negative, the bounds tested, the
  rows gathered, and the rows out of bounds replaced by a fill. At indices that name rows it is those rows.
-/
module

public import Idealize.ShloMosaic.Lib.Routing.Ops
public import Idealize.ShloMosaic.Lib.ReduceAll
public import Idealize.ShloMosaic.Lib.Pipeline.Value

@[expose] public section

namespace Cert.Proof.Take

open Idealize.ShloMosaic Idealize.ShloMosaic.ValueIdx Idealize.ShloMosaic.Routing

/-- The row that an index below 1024 names is read; the tests before and after it pass. -/
theorem take_rows {α : Type} {B : Nat} (idx : IVec (shape1 32768) 32) (tab : (shape2 1024 B).Idx → α) (fill : (shape2 32768 B).Idx → α)
    (d : GatherDims (shape2 1024 B) (shape2 32768 1) (shape2 32768 B)) (hoff : d.offsetDims = [1])
    (hcoll : d.collapsedSliceDims = [0]) (hob : d.operandBatchingDims = []) (hsim : d.startIndexMap = [0]) (hivd : d.indexVectorDim = 1)
    (b1 : shape0.BroadcastsInDim (shape1 32768) (![] : Fin 0 → Fin (shape1 32768).rank))
    (b2 : (shape1 32768).BroadcastsInDim (shape2 32768 1) (![0] : Fin 1 → Fin (shape2 32768 1).rank))
    (b3 : shape0.BroadcastsInDim (shape2 32768 1) (![] : Fin 0 → Fin (shape2 32768 1).rank))
    (b4 : (shape1 1).BroadcastsInDim (shape2 1 1) (![1] : Fin 1 → Fin (shape2 1 1).rank))
    (b5 : (shape2 1 1).BroadcastsInDim (shape2 32768 1) (![0, 1] : Fin 2 → Fin (shape2 32768 1).rank))
    (b6 : (shape1 32768).BroadcastsInDim (shape2 32768 B) (![0] : Fin 1 → Fin (shape2 32768 B).rank))
    (r : (shape2 32768 1).ReducesTo [1] (shape1 32768)) (h0 : 0 < shape0.numel)
    (c0 c1 : IVec shape0 32) (hc0 : c0 = constantI _ 32 0#32) (hc1 : c1 = constantI _ 32 1024#32)
    (t : Fin 32768) (y : Fin B) (row : Fin 1024) (hall : ∀ j, (idx j).toNat < 1024) (hrow : (idx (ix1 t)).toNat = row.val) :
    select (broadcastInDim (shape2 32768 B) ![0] b6
        (Host.reduce IntOp.andi
          (andi
            (cmpi .sge (broadcastInDim (shape2 32768 1) ![0] b2 (select (cmpi .slt idx (broadcastInDim (shape1 32768) ![] b1 c0))
              (addi idx (broadcastInDim (shape1 32768) ![] b1 c1)) idx)) (broadcastInDim (shape2 32768 1) ![] b3 c0))
            (cmpi .sle (broadcastInDim (shape2 32768 1) ![0] b2 (select (cmpi .slt idx (broadcastInDim (shape1 32768) ![] b1 c0))
              (addi idx (broadcastInDim (shape1 32768) ![] b1 c1)) idx))
              (broadcastInDim (shape2 32768 1) ![0, 1] b5 (broadcastInDim (shape2 1 1) ![1] b4 (constantI (shape1 1) 32 1023#32)))))
          (constantI shape0 1 1#1) r h0))
      (Host.gather d tab (broadcastInDim (shape2 32768 1) ![0] b2 (select (cmpi .slt idx (broadcastInDim (shape1 32768) ![] b1 c0))
              (addi idx (broadcastInDim (shape1 32768) ![] b1 c1)) idx))) fill (ix2 t y) = tab (ix2 row y) := by
  subst hc0 hc1
  have hs : (select (cmpi .slt idx (broadcastInDim (shape1 32768) ![] b1 (constantI shape0 32 0#32)))
      (addi idx (broadcastInDim (shape1 32768) ![] b1 (constantI shape0 32 1024#32))) idx) = idx := by
    funext j
    have hj := hall j
    have h : cmpi .slt idx (broadcastInDim (shape1 32768) ![] b1 (constantI shape0 32 0#32)) j = 0#1 := by
      show IntOp.cmpi .slt (idx j) 0#32 = 0#1
      simp only [IntOp.cmpi, BitVec.slt_eq_decide, BitVec.toInt_eq_toNat_cond, BitVec.toNat_ofNat, Nat.reducePow]
      rw [decide_eq_false (by simp; omega)]; rfl
    rw [select_apply, h, select_zero]
  rw [hs]
  have hc : broadcastInDim (shape2 32768 1) ![0] b2 idx (ix2 t (0 : Fin 1)) = idx (ix1 t) := bcCol b2 idx t
  rw [select_apply]
  have hm : broadcastInDim (shape2 32768 B) ![0] b6
        (Host.reduce IntOp.andi (andi (cmpi .sge (broadcastInDim (shape2 32768 1) ![0] b2 idx) (broadcastInDim (shape2 32768 1) ![] b3 (constantI shape0 32 0#32)))
            (cmpi .sle (broadcastInDim (shape2 32768 1) ![0] b2 idx)
              (broadcastInDim (shape2 32768 1) ![0, 1] b5 (broadcastInDim (shape2 1 1) ![1] b4 (constantI (shape1 1) 32 1023#32)))))
          (constantI shape0 1 1#1) r h0) (ix2 t y) = 1#1 := by
    unfold broadcastInDim
    refine Host.reduce_andi_one _ _ _ _ _ rfl fun j => ?_
    show IntOp.andi (IntOp.cmpi .sge (idx _) 0#32) (IntOp.cmpi .sle (idx _) 1023#32) = 1#1
    generalize hv : idx _ = v
    have hj : v.toNat < 1024 := hv ▸ hall _
    simp only [IntOp.cmpi, BitVec.sle_eq_decide, BitVec.toInt_eq_toNat_cond, BitVec.toNat_ofNat, Nat.reducePow]
    rw [decide_eq_true (by simp; omega), decide_eq_true (by simp; omega)]; rfl
  rw [hm, select_one]
  refine gather_row d hoff hcoll hob hsim hivd tab _ t y row ?_ (by decide)
  rw [hc, ← hrow]; simp

end Cert.Proof.Take
-- ==== Proof.KernelIdealValue.lean ====
/-
  The whole program against its reference: the same moved tokens, the same codes and the same loss, for finite tokens and
  a finite table. And both programs' frames.
-/
module

public import proofs.«01_k».proof.Proof.KernelIdealEnd
public import proofs.«01_k».proof.Proof.ReferenceRun
public import proofs.«01_k».proof.Proof.ReferenceMath
public import proofs.«01_k».proof.Proof.Take
public import proofs.«01_k».proof.Proof.Gen.Pre_finite
public import proofs.«01_k».proof.Defs
public import Idealize.ShloMosaic.Lib.KernelVsHost

@[expose] public section

set_option maxRecDepth 16384

noncomputable section

namespace Cert.Proof.KernelClaims

open Idealize.ShloMosaic hiding ix0 ix1 ix2 ix3 eq_ix1 eq_ix2 eq_ix3 sum_idx2
open Idealize.ShloMosaic.ValueIdx Idealize.ShloMosaic.Routing Idealize.ShloMosaic.TcCoe Idealize.SL.Sem
open Cert.Proof.Nearest Cert.Proof.ReferenceMath
open scoped BigOperators

theorem red_tokens : (shape2 32768 64).Reduces [1] (shape1 32768) := by decide
theorem red_rows : (shape2 1024 64).Reduces [1] (shape1 1024) := by decide
theorem red_dists : (shape2 32768 1024).Reduces [1] (shape1 32768) := by decide

/-- The reference's code of one token, as the pair reduction's second half, -/
theorem near_fun (D : FVec Ideal Cert.ReferenceIdeal.S32768x1024 .f32) :
    ReferenceRun.near (F := Ideal) D = fun j => (Host.argReduce (F := Ideal) (φ := .f32) Cert.ReferenceIdeal.reducer_argmin_f32_i32 D (iotaInDim Cert.ReferenceIdeal.S32768x1024 32 1)
      (constant (F := Ideal) Cert.ReferenceIdeal.S_ .f32 0x7F800000#32) (constantI Cert.ReferenceIdeal.S_ 32 0#32) Cert.ReferenceIdeal.Gen.reducesTo_S32768x1024_S32768_d1 Cert.ReferenceIdeal.Gen.h_S_ j).2 := rfl

theorem keeps_ref : Keeps (Cert.ReferenceIdeal.reducer_argmin_f32_i32 (F := Ideal)) := keeps_argmin

theorem places (i : (shape2 32768 1024).Idx) : iotaInDim Cert.ReferenceIdeal.S32768x1024 32 1 i = BitVec.ofNat 32 (i 1).val := rfl

/-- which is the first place of the smallest entry. -/
theorem near_first (D : FVec Ideal (shape2 32768 1024) .f32) (j : (shape1 32768).Idx) :
    ReferenceRun.near (F := Ideal) D j = BitVec.ofNat 32 (first fun k => D (ix2 (j 0) k)).val :=
  (congrFun (near_fun D) j).trans (argReduce_first keeps_ref D (iotaInDim Cert.ReferenceIdeal.S32768x1024 32 1)
    (constant (F := Ideal) Cert.ReferenceIdeal.S_ .f32 0x7F800000#32) (constantI Cert.ReferenceIdeal.S_ 32 0#32) Cert.ReferenceIdeal.Gen.reducesTo_S32768x1024_S32768_d1 Cert.ReferenceIdeal.Gen.h_S_
    red_dists places (fun _ => top_word) (fun _ => rfl) j)

section Reference
variable (x : FVec Ideal (shape2 32768 64) .f32) (e : FVec Ideal (shape2 1024 64) .f32) (hx : RealArr x) (he : RealArr e)
include hx he

/-- The reference's distances are the squared distances, -/
theorem ref_dists (t : Fin 32768) (k : Fin 1024) : ReferenceRun.dists (F := Ideal) x e (ix2 t k) = DD x e t k := by
  unfold ReferenceRun.dists
  exact dists_apply x e hx he _ _ _ _ _ _ _ red_tokens red_rows _ _ t k

/-- its codes the first nearest rows, -/
theorem ref_near (j : (shape1 32768).Idx) : ReferenceRun.near (F := Ideal) (ReferenceRun.dists (F := Ideal) x e) j = BitVec.ofNat 32 (first (DD x e (j 0))).val :=
  (near_first _ j).trans (congrArg (fun f => BitVec.ofNat 32 (first f).val) (funext fun k => ref_dists x e hx he (j 0) k))

theorem near_toNat (j : (shape1 32768).Idx) :
    (ReferenceRun.near (F := Ideal) (ReferenceRun.dists (F := Ideal) x e) j).toNat = (first (DD x e (j 0))).val := by
  rw [ref_near x e hx he j, BitVec.toNat_ofNat]
  exact Nat.mod_eq_of_lt (lt_trans (first (DD x e (j 0))).isLt (by norm_num))

/-- and its rows those. -/
theorem ref_rows (t : Fin 32768) (k : Fin 64) :
    ReferenceRun.rows (F := Ideal) e (ReferenceRun.near (F := Ideal) (ReferenceRun.dists (F := Ideal) x e)) (ix2 t k) = e (ix2 (first (DD x e t)) k) := by
  unfold ReferenceRun.rows ReferenceRun.moved
  exact Take.take_rows (ReferenceRun.near (F := Ideal) (ReferenceRun.dists (F := Ideal) x e)) e _ _ rfl rfl rfl rfl rfl _ _ _ _ _ _ _ _ _ _ rfl rfl t k _
    (fun j => lt_of_eq_of_lt (near_toNat x e hx he j) (Fin.isLt _)) (near_toNat x e hx he (ix1 t))

end Reference

/-- A reshape of real entries has real entries, -/
theorem cast_real {s t : Shape} (x : s.Idx → EReal) (h : s.ShapeCasts t) (hx : RealArr x) : RealArr (shapeCast t x h) := fun j => hx (Shape.reshapeEquiv h j)

/-- and the same sum. -/
theorem cast_sum {s t : Shape} (f : s.Idx → EReal) (h : s.ShapeCasts t) : ∑ j, shapeCast t f h j = ∑ i, f i := Equiv.sum_comp (Shape.reshapeEquiv h) f

/-- The printed precondition makes every entry a real number. -/
theorem real_args (z : FVec Ideal Cert.Pre_finite.S32x1024x64 .f32) (e : FVec Ideal Cert.Pre_finite.S1024x64 .f32)
    (h : Cert.Pre_finite.fn (F := Ideal) z e = fun _ => 1#1) : RealArr z ∧ RealArr e := by
  dsimp only [Cert.Pre_finite.fn] at h
  haveI : Subsingleton Cert.Pre_finite.S_.Idx := ⟨fun a b => funext fun i => i.elim0⟩
  obtain ⟨h1, h2⟩ := bits_and (congrFun h ix0)
  exact ⟨fun j => real_of_bit _ _ ((broadcastInDim_scalar_apply _ _ _).trans top_word) (Host.reduce_andi_all _ _ _ _ (fun a => a.elim0) h1 j),
    fun j => real_of_bit _ _ ((broadcastInDim_scalar_apply _ _ _).trans top_word) (Host.reduce_andi_all _ _ _ _ (fun a => a.elim0) h2 j)⟩

section Sides
variable (m : (ℓ : Loc Cert.KernelIdeal.nD Cert.KernelIdeal.τ Cert.KernelIdeal.sig) → Buf (Elt Ideal) ℓ) (c : Dev Cert.KernelIdeal.nD)

/-- The rows the reference takes, -/
abbrev refRows : FVec Ideal (shape2 32768 64) .f32 :=
  ReferenceRun.rows (F := Ideal) (KernelIdealEnd.eArg m c) (ReferenceRun.near (F := Ideal) (ReferenceRun.dists (F := Ideal) (KernelIdealEnd.xRow m c) (KernelIdealEnd.eArg m c)))

variable (hz : RealArr (KernelIdealEnd.zArg m c)) (he : RealArr (KernelIdealEnd.eArg m c))
include hz he

theorem x_real : RealArr (KernelIdealEnd.xRow m c) := cast_real _ _ hz

/-- are each token's nearest row, -/
theorem rows_ref (t : Fin 32768) (k : Fin 64) : refRows m c (ix2 t k) = KernelIdealEnd.eArg m c (ix2 (first (KernelIdealEnd.near m c t)) k) :=
  ref_rows (KernelIdealEnd.xRow m c) (KernelIdealEnd.eArg m c) (x_real m c hz he) he t k

/-- as the lookup's are; -/
theorem rows_eq : refRows m c = extractStridedSlice Cert.KernelIdeal.S32768x64 ![0, 0]
    (KernelIdealRun.want (KernelIdealRun.tab3 m) (KernelIdealRun.idx3 m) c) Cert.KernelIdeal.Gen.slices_S32768x128_S32768x64_0_0 := by
  funext (i : (shape2 32768 64).Idx)
  have hi := eq_ix2 i
  generalize i 0 = t at hi
  generalize i 1 = k at hi
  subst hi
  exact (rows_ref m c hz he t k).trans (KernelIdealEnd.rows_apply m c t k).symm

theorem rows_real : RealArr (refRows m c) := fun (i : (shape2 32768 64).Idx) => by
  have hi := eq_ix2 i
  generalize i 0 = t at hi
  generalize i 1 = k at hi
  subst hi
  obtain ⟨r, hr⟩ := he (ix2 (first (KernelIdealEnd.near m c t)) k)
  exact ⟨r, (rows_ref m c hz he t k).trans hr⟩

/-- the codes are the same, -/
theorem codes_eq : ReferenceRun.codes (F := Ideal) (KernelIdealEnd.zArg m c) (KernelIdealEnd.eArg m c) = KernelIdealRun.idx3 m c := by
  funext (j : (shape1 32768).Idx)
  have hj := eq_ix1 j
  generalize j 0 = t at hj
  subst hj
  exact (ref_near (KernelIdealEnd.xRow m c) (KernelIdealEnd.eArg m c) (x_real m c hz he) he (ix1 t)).trans (KernelIdealEnd.idx3_apply m c t).symm

/-- the tokens moved to their rows are those rows, -/
theorem tokens_eq : addf (KernelIdealEnd.zArg m c) (subf (ReferenceRun.taken (F := Ideal) (KernelIdealEnd.zArg m c) (KernelIdealEnd.eArg m c)) (KernelIdealEnd.zArg m c))
    = KernelIdealRun.V5 m c (Proc.devRef .tc Cert.KernelIdeal.main_v5) := by
  rw [KernelIdealEnd.V5_tokens, ← rows_eq m c hz he]
  funext i
  exact move_real (hz i) (cast_real _ _ (rows_real m c hz he) i)

/-- and so is the sum of the squared differences. -/
theorem sum_eq (j : shape0.Idx) : ReferenceRun.sqsum (F := Ideal) (ReferenceRun.taken (F := Ideal) (KernelIdealEnd.zArg m c) (KernelIdealEnd.eArg m c)) (KernelIdealEnd.zArg m c) j
    = ∑ t : Fin 32768, KernelIdealEnd.near m c t (first (KernelIdealEnd.near m c t)) := by
  have hback : KernelIdealEnd.zArg m c = shapeCast Cert.KernelIdeal.S32x1024x64 (KernelIdealEnd.xRow m c) Cert.KernelIdeal.Gen.shapeCasts_S32768x64_S32x1024x64 :=
    (shapeCast_shapeCast _ _ _).symm
  refine (allSum _ _ _ (fun b => b.elim0) j).trans (Eq.trans ?_ (sum_sq (KernelIdealEnd.xRow m c) (KernelIdealEnd.eArg m c) (x_real m c hz he) he
    (refRows m c) (rows_ref m c hz he)))
  refine Eq.trans (Finset.sum_congr rfl fun i _ => ?_)
    (cast_sum (t := Cert.KernelIdeal.S32x1024x64) (fun i => (refRows m c i - KernelIdealEnd.xRow m c i) * (refRows m c i - KernelIdealEnd.xRow m c i))
      Cert.KernelIdeal.Gen.shapeCasts_S32768x64_S32x1024x64)
  exact congrArg (fun v : EReal => (refRows m c (Shape.reshapeEquiv Cert.KernelIdeal.Gen.shapeCasts_S32768x64_S32x1024x64 i) - v)
    * (refRows m c (Shape.reshapeEquiv Cert.KernelIdeal.Gen.shapeCasts_S32768x64_S32x1024x64 i) - v)) (congrFun hback i)

end Sides

/-- THE VALUE CLAIM: all three results, for finite tokens and a finite table. -/
theorem value : Cert.algebraic_KernelIdeal_ReferenceIdeal_pre_finite := fun m g m' g' hpre hargs => by
  refine ⟨fun c => KernelIdealRun.V5 m c (Proc.devRef .tc Cert.KernelIdeal.main_v5), fun c => KernelIdealRun.V5 m c (Proc.devRef .tc Cert.KernelIdeal.main_v2),
    fun c => KernelIdealRun.V5 m c (Proc.devRef .tc Cert.KernelIdeal.main_v8),
    (θ_run Cert.KernelIdeal.defs _ _).mono (fun r h c => ⟨h.1 c _ (KernelIdealRun.mem_ucRefs _ (by decide)), h.1 c _ (KernelIdealRun.mem_ucRefs _ (by decide)),
      h.1 c _ (KernelIdealRun.mem_ucRefs _ (by decide)), (h.1 c _ (KernelIdealRun.mem_ucRefs Cert.KernelIdeal.main_arg0 (by decide))).trans (KernelIdealEnd.V5_arg0 m c),
      (h.1 c _ (KernelIdealRun.mem_ucRefs Cert.KernelIdeal.main_arg1 (by decide))).trans (KernelIdealEnd.V5_arg1 m c)⟩)
      (KernelIdealRun.run_main m g (KernelIdealEnd.codes_ok m)),
    (θ_run Cert.ReferenceIdeal.defs _ _).mono (fun r h c => ⟨(h.1 c).2.2.1.trans ?_, (h.1 c).2.2.2.1.trans ?_, (h.1 c).2.2.2.2.trans ?_,
      (h.1 c).1, (h.1 c).2.1⟩) (ReferenceRun.run m' g')⟩ <;> rw [(hargs c).1, (hargs c).2] <;> obtain ⟨hz, he⟩ := real_args _ _ (hpre c)
  · exact tokens_eq m c hz he
  · exact (codes_eq m c hz he).trans (KernelIdealEnd.V5_codes m c).symm
  · refine Eq.trans ?_ (KernelIdealEnd.V5_loss m c).symm
    exact congrArg (fun v : FVec Ideal Cert.KernelIdeal.S_ .f32 => mulf (constant (F := Ideal) Cert.KernelIdeal.S_ .f32 0x3E800000#32) (Host.divf v
      (constant (F := Ideal) Cert.KernelIdeal.S_ .f32 0x4A000000#32))) (funext fun j => sum_eq m c hz he j)

/-- The whole program runs, from any memory, and leaves its arguments and every counter as they were. -/
theorem frame_ideal : Cert.quiescent_KernelIdeal := fun m g _ =>
  (θ_run Cert.KernelIdeal.defs _ _).mono (fun r h => ⟨fun c =>
    ⟨(h.1 c _ (KernelIdealRun.mem_ucRefs Cert.KernelIdeal.main_arg0 (by decide))).trans (KernelIdealEnd.V5_arg0 m c),
      (h.1 c _ (KernelIdealRun.mem_ucRefs Cert.KernelIdeal.main_arg1 (by decide))).trans (KernelIdealEnd.V5_arg1 m c)⟩, h.2⟩)
    (KernelIdealRun.run_main m g (KernelIdealEnd.codes_ok m))

theorem frame_ideal_pre : Cert.quiescent_KernelIdeal_pre_finite := fun m g _ => frame_ideal m g trivial

/-- The reference runs and leaves its arguments and every counter as they were. -/
theorem frame_reference : Cert.quiescent_ReferenceIdeal := fun m g _ =>
  (θ_run Cert.ReferenceIdeal.defs _ _).mono (fun r h => ⟨fun c => ⟨(h.1 c).1, (h.1 c).2.1⟩, h.2⟩) (ReferenceRun.run m g)

theorem frame_reference_pre : Cert.quiescent_ReferenceIdeal_pre_finite := fun m g _ => frame_reference m g trivial

end Cert.Proof.KernelClaims

end
-- ==== Proof.CodesRun.lean ====
/- The distance call's run: it ends with every counter at zero, its arrays at what the proof data says. -/
module

public import proofs.«01_k».proof.Proof.CodesBody
public import proofs.«01_k».proof.Proof.Gen.Codes.Launch
public import proofs.«01_k».proof.Proof.Gen.Codes.Points

@[expose] public section

set_option maxRecDepth 16384

noncomputable section

namespace Cert.Proof.CodesRun

open Cert.Codes Cert.Codes.Gen Cert.Proof.CodesBody

open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- Core `c`'s buffers as launched. -/
abbrev A0 (b : Ref sig .tc) (c : Dev nD) : Buf (Elt F) ((c : Thread nD τ).loc b) := m ((c : Thread nD τ).loc b)

/-- The proof data of the program's one call. -/
abbrev dats : (p : Fin 1) → (c : Dev nD) → Pipeline.Dat τ (Elt F) Unit ℕ (UR sig nD τ) ℕ (cfgs p) c :=
  fun _ c => dat (Ix := Unit) (U := UR sig nD τ) (Lvl := ℕ) (A0 m) c (Pipeline.ΦA spec0 c) 0

/-- The run, its post the arrays' contents and the counters at zero. -/
theorem run_main : θ_run (defs (F := F)) (onTc (τ := τ) (main (F := F))) (s₀ m ρ)
    (fun r => Pipeline.FramePost cfgs (dats m) 0 (V m) r ∧ r.2.sem = fun _ => 0) :=
  Pipeline.θ_run_frame cfgs (dats m) 0 launch0 defs₀ Variants.none m ρ main
    (hbody := fun c => (body_obligation c _ 0 Variants.none ()).loose)
    (hshare := fun c => (dats m 0 c).share_full fun _ => rfl)
    (howed := fun _ _ => rfl)
    (V := V m)
    (hmain := hmain m Variants.none)
    (hA := fun _ _ => rfl)
    (hΦ := fun _ _ => rfl)
    (Q' := fun r => Pipeline.FramePost cfgs (dats m) 0 (V m) r ∧ r.2.sem = fun _ => 0)

/-- The frame: the arguments are left alone and every counter is back at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
      ⟨((h.1 c).1 0).trans ((dats m 0 c).arrAt_in 0 rfl _), ((h.1 c).1 1).trans ((dats m 0 c).arrAt_in 1 rfl _)⟩, h.2⟩) (run_main m ρ)

end Cert.Proof.CodesRun

end
-- ==== Proof.CodesIdealBody.lean ====
/- The body of the distance call, run at a symbolic grid point over whole staging buffers. -/
module

public import proofs.«01_k».proof.Proof.Gen.CodesIdeal.Skeleton
public import proofs.«01_k».proof.Proof.Gen.CodesIdeal.Frame
public import Idealize.ShloMosaic.Lib.Pipeline.TableIdle
public import Idealize.ShloMosaic.Lib.Tactic
public import Idealize.ShloMosaic.Lib.VecWindow

@[expose] public section

set_option maxRecDepth 16384

noncomputable section

namespace Cert.Proof.CodesIdealBody

open Cert.CodesIdeal Cert.CodesIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {U : Type} [URA U] {Lvl : Type} [Preorder Lvl]

local notation "𝕄" => MT nD τ sig Ix (Elt F) ℕ U Lvl

/-- The branch word of one block: 1 where the one-hot rows count more lanes than rows. -/
def tieBit (z : Vec F S2048x64 .f32) (e : Vec F S1024x64 .f32) : BitVec 1 :=
  Scalar.cmpi .ne (Scalar.extui (Scalar.cmpf .ogt (k0_pay2 (k0_pay9 z e)) (Scalar.ofBits (F := F) .f32 0x45000800#32)) : BitVec 32) 0#32

/-- The codes of one block of tokens. -/
def codeBlk (z : Vec F S2048x64 .f32) (e : Vec F S1024x64 .f32) : IVec S16x128 32 :=
  if tieBit z e = 1#1 then k0_pay3 (k0_pay7 z e) (k0_pay8 z e) else k0_pay1 (k0_pay9 z e) (k0_pay10 z e) (k0_pay11 (F := F))

/-- A whole buffer held at contents that read `X` is owned at `X`. -/
theorem own_of {s : Shape} {e : EltTy} (c : Dev nD) (M : Memref sig .tc .vmem s e) (hM : M.IsWhole)
    (g : Buf (Elt F) (M.view.loc (c : Thread nD τ))) (X : s.Idx → Elt F e) (hX : M.view.read (Elt F) g = X) :
    iprop(M.view.loc (c : Thread nD τ) ↦{fullShare} g) ⊢ (owns (c : Thread nD τ) M fullShare X : sProp 𝕄) := by
  unfold owns
  rw [hM.set_eq_univ]
  iintro H
  iexists g
  isplitr
  · ipureintro; exact hX
  · iexact H

/-- A whole buffer owned at `X` is held at contents that read `X`. -/
theorem of_own {s : Shape} {e : EltTy} (c : Dev nD) (M : Memref sig .tc .vmem s e) (hM : M.IsWhole) (X : s.Idx → Elt F e) :
    (owns (c : Thread nD τ) M fullShare X : sProp 𝕄)
      ⊢ iprop(∃ g, ⌜M.view.read (Elt F) g = X⌝ ∗ (M.view.loc (c : Thread nD τ) ↦{fullShare} g)) := by
  unfold owns
  rw [hM.set_eq_univ]

/-- The body at grid point `i`: from the five whole staging buffers it returns with the inputs as they were, the codes of
    the block, the running sum grown by the block's sum of minima (started at zero at the first point), and the padded
    table written at the first point. -/
theorem body_wp (𝒱 : Variants) (c : Dev nD) (i : grid0.Coords)
    (M0 : Memref sig .tc .vmem S2048x64 .f32) (h0 : M0.IsWhole) (M1 : Memref sig .tc .vmem S1024x64 .f32) (h1 : M1.IsWhole)
    (M2 : Memref sig .tc .vmem S16x128 .i32) (h2 : M2.IsWhole) (M3 : Memref sig .tc .vmem S1x1 .f32) (h3 : M3.IsWhole)
    (M4 : Memref sig .tc .vmem S1024x128 .f32) (h4 : M4.IsWhole)
    (X0 : Vec F S2048x64 .f32) (X1 : Vec F S1024x64 .f32) (X2 : Vec F S16x128 .i32) (X3 : Vec F S1x1 .f32) (X4 : Vec F S1024x128 .f32)
    (E : Set ℕ) (Q : PUnit → sProp 𝕄) :
    iprop(owns (c : Thread nD τ) M0 fullShare X0 ∗ owns (c : Thread nD τ) M1 fullShare X1
        ∗ owns (c : Thread nD τ) M2 fullShare X2 ∗ owns (c : Thread nD τ) M3 fullShare X3 ∗ owns (c : Thread nD τ) M4 fullShare X4
        ∗ (iprop(owns (c : Thread nD τ) M0 fullShare X0 ∗ owns (c : Thread nD τ) M1 fullShare X1
            ∗ owns (c : Thread nD τ) M2 fullShare (codeBlk X0 X1)
            ∗ owns (c : Thread nD τ) M3 fullShare (k0_pay6 (k0_pay8 X0 X1) (if k0_cond2 i = 1#1 then k0_pay4 else X3))
            ∗ owns (c : Thread nD τ) M4 fullShare (if k0_cond2 i = 1#1 then k0_pay5 X1 else X4)) -∗ Q ⟨⟩))
      ⊢ wp frame (wpE (defs₀ (F := F)) 𝒱 (c : Thread nD τ) none) E (cc0__vq_block i M0 h0 M1 h1 M2 h2 M3 h3 M4 h4) Q := by
  simp only [cc0__vq_block_eq_skeleton]; unfold cc0__vq_block_skel
  simp only [k0_part1_eq_skeleton]
  by_cases hc : k0_cond2 i = 1#1
  · rw [if_pos hc, if_pos hc]
    iintro ⟨H0, H1, H2, H3, H4, Hk⟩
    ihave H0 := (of_own c M0 h0 X0) $$ H0
    ihave H1 := (of_own c M1 h1 X1) $$ H1
    ihave H2 := (of_own c M2 h2 X2) $$ H2
    ihave H3 := (of_own c M3 h3 X3) $$ H3
    ihave H4 := (of_own c M4 h4 X4) $$ H4
    icases H0 with ⟨%f0, %e0, H0⟩
    icases H1 with ⟨%f1, %e1, H1⟩
    icases H2 with ⟨%f2, %e2, H2⟩
    icases H3 with ⟨%f3, %e3, H3⟩
    icases H4 with ⟨%f4, %e4, H4⟩
    have r0 : M0.view.readAt (Elt F) (Rect.unit (s := S2048x64) ![0, 0] S2048x64.size inb_S2048x64_S2048x64_0_0).toLoadRect f0 = X0 :=
      (View.readAt_full M0.view f0 _).trans e0
    have r1 : M1.view.readAt (Elt F) (Rect.unit (s := S1024x64) ![0, 0] S1024x64.size inb_S1024x64_S1024x64_0_0).toLoadRect f1 = X1 :=
      (View.readAt_full M1.view f1 _).trans e1
    sl_exec
    sl_step
    iapply Hk
    isplitl [H0]
    · iapply (own_of c M0 h0 f0 X0 e0) $$ H0
    isplitl [H1]
    · iapply (own_of c M1 h1 f1 X1 e1) $$ H1
    isplitl [H2]
    · iapply (own_of c M2 h2 _ (codeBlk X0 X1) ?_) $$ H2
      rw [← r0, ← r1]
      unfold codeBlk
      split
      · rename_i ht
        exact (View.read_writes_full M2.view f2 _ _ _).trans (if_pos ht).symm
      · rename_i ht
        exact (View.read_writes_full M2.view f2 _ _ _).trans (if_neg ht).symm
    isplitl [H3]
    · iapply (own_of c M3 h3 _ _ ?_) $$ H3
      rw [← r0, ← r1]
      exact (View.read_writes_full M3.view f3 _ _ _).trans (congrArg (k0_pay6 _) (View.readCov_full M3.view _ _ _ _))
    · iapply (own_of c M4 h4 _ _ ?_) $$ H4
      rw [← r1]
      exact View.read_writes_full M4.view f4 _ _ _
  · rw [if_neg hc, if_neg hc]
    iintro ⟨H0, H1, H2, H3, H4, Hk⟩
    ihave H0 := (of_own c M0 h0 X0) $$ H0
    ihave H1 := (of_own c M1 h1 X1) $$ H1
    ihave H2 := (of_own c M2 h2 X2) $$ H2
    ihave H3 := (of_own c M3 h3 X3) $$ H3
    ihave H4 := (of_own c M4 h4 X4) $$ H4
    icases H0 with ⟨%f0, %e0, H0⟩
    icases H1 with ⟨%f1, %e1, H1⟩
    icases H2 with ⟨%f2, %e2, H2⟩
    icases H3 with ⟨%f3, %e3, H3⟩
    icases H4 with ⟨%f4, %e4, H4⟩
    have r0 : M0.view.readAt (Elt F) (Rect.unit (s := S2048x64) ![0, 0] S2048x64.size inb_S2048x64_S2048x64_0_0).toLoadRect f0 = X0 :=
      (View.readAt_full M0.view f0 _).trans e0
    have r1 : M1.view.readAt (Elt F) (Rect.unit (s := S1024x64) ![0, 0] S1024x64.size inb_S1024x64_S1024x64_0_0).toLoadRect f1 = X1 :=
      (View.readAt_full M1.view f1 _).trans e1
    sl_exec
    sl_step
    iapply Hk
    isplitl [H0]
    · iapply (own_of c M0 h0 f0 X0 e0) $$ H0
    isplitl [H1]
    · iapply (own_of c M1 h1 f1 X1 e1) $$ H1
    isplitl [H2]
    · iapply (own_of c M2 h2 _ (codeBlk X0 X1) ?_) $$ H2
      rw [← r0, ← r1]
      unfold codeBlk
      split
      · rename_i ht
        exact (View.read_writes_full M2.view f2 _ _ _).trans (if_pos ht).symm
      · rename_i ht
        exact (View.read_writes_full M2.view f2 _ _ _).trans (if_neg ht).symm
    isplitl [H3]
    · iapply (own_of c M3 h3 _ _ ?_) $$ H3
      rw [← r0, ← r1]
      exact (View.read_writes_full M3.view f3 _ _ _).trans (congrArg (k0_pay6 _) ((View.readAt_full M3.view f3 _).trans e3))
    · iapply (own_of c M4 h4 _ _ e4) $$ H4

/-! ## The proof data -/

variable (A : (b : Ref sig .tc) → (c : Dev nD) → Buf (Elt F) ((c : Thread nD τ).loc b))

/-- The block of the tokens at grid point `t`. -/
def zAt (c : Dev nD) (t : Fin cfg0.N) : Vec F S2048x64 .f32 :=
  ((cfg0.win 0).blk t).view.read (Elt F) (A (Pipeline.arrRef spec0 0) c)

/-- The code book as staged at grid point `t`. -/
def eAt (c : Dev nD) (t : Fin cfg0.N) : Vec F S1024x64 .f32 :=
  ((cfg0.win 1).blk t).view.read (Elt F) (A (Pipeline.arrRef spec0 1) c)

/-- The running sum of the minima after grid point `n`. -/
def accAt (c : Dev nD) : (n : ℕ) → n < cfg0.N → FVec F S1x1 .f32
  | 0, h => k0_pay6 (k0_pay8 (zAt A c ⟨0, h⟩) (eAt A c ⟨0, h⟩)) k0_pay4
  | n + 1, h => k0_pay6 (k0_pay8 (zAt A c ⟨n + 1, h⟩) (eAt A c ⟨n + 1, h⟩)) (accAt c n (Nat.lt_of_succ_lt h))

/-- The proof data of the call: the arrays as found, what each staging buffer holds after each point, an invariant that
    does not change, and the tallies owed throughout. -/
def dat (c : Dev nD) (Φ0 : sProp 𝕄) (ow : CellTallies nD τ sig Ix) : Pipeline.Dat τ (Elt F) Ix ℕ U Lvl cfg0 c where
  A w := A (Pipeline.arrRef spec0 w) c
  after w t := match w with
    | ⟨0, _⟩ => zAt A c t
    | ⟨1, _⟩ => eAt A c t
    | ⟨2, _⟩ => codeBlk (zAt A c t) (eAt A c t)
    | ⟨3, _⟩ => accAt A c t.val t.isLt
    | ⟨4, _⟩ => k0_pay5 (eAt A c t0_0)
  Φ _ := Φ0
  q _ := fullShare
  owed _ := ow

theorem cond2_iff : ∀ t : Fin grid0.N, k0_cond2 (grid0.coords t) = 1#1 ↔ t.val = 0 := by decide +kernel

theorem fresh3 : ∀ t : Fin grid0.N, cfg0.fresh 3 t.val = decide (t.val = 0) := by decide +kernel
theorem fresh4 : ∀ t : Fin grid0.N, cfg0.fresh 4 t.val = decide (t.val = 0) := by decide +kernel

variable {A}

theorem before0 (c : Dev nD) (Φ0 : sProp 𝕄) (ow : CellTallies nD τ sig Ix) (t : Fin cfg0.N) (d) : (dat (Ix := Ix) (U := U) (Lvl := Lvl) A c Φ0 ow).before 0 t d = zAt A c t :=
  ((dat (Ix := Ix) (U := U) (Lvl := Lvl) A c Φ0 ow).before_in_eq_fetched 0 rfl (fun _ => rfl) (fun _ _ _ => rfl) (fun _ => rfl) t d).trans rfl

theorem before1 (c : Dev nD) (Φ0 : sProp 𝕄) (ow : CellTallies nD τ sig Ix) (t : Fin cfg0.N) (d) : (dat (Ix := Ix) (U := U) (Lvl := Lvl) A c Φ0 ow).before 1 t d = eAt A c t :=
  ((dat (Ix := Ix) (U := U) (Lvl := Lvl) A c Φ0 ow).before_in_eq_fetched 1 rfl (fun _ => rfl) (fun _ _ _ => rfl) (fun _ => rfl) t d).trans rfl

theorem before3 (c : Dev nD) (Φ0 : sProp 𝕄) (ow : CellTallies nD τ sig Ix) (t : Fin cfg0.N) (ht : t.val ≠ 0) (d) :
    (dat (Ix := Ix) (U := U) (Lvl := Lvl) A c Φ0 ow).before 3 t d = accAt A c (t.val - 1) (by omega) := by
  rw [(dat (Ix := Ix) (U := U) (Lvl := Lvl) A c Φ0 ow).before_out_traj 3 rfl (fun _ _ => rfl) (fun _ _ h => by cases h) t.val t rfl d,
    fresh3 t, decide_eq_false ht]
  rfl

theorem before4 (c : Dev nD) (Φ0 : sProp 𝕄) (ow : CellTallies nD τ sig Ix) (t : Fin cfg0.N) (ht : t.val ≠ 0) (d) :
    (dat (Ix := Ix) (U := U) (Lvl := Lvl) A c Φ0 ow).before 4 t d = k0_pay5 (eAt A c t0_0) := by
  rw [(dat (Ix := Ix) (U := U) (Lvl := Lvl) A c Φ0 ow).before_out_traj 4 rfl (fun _ _ => rfl) (fun _ _ _ _ => rfl) t.val t rfl d,
    fresh4 t, decide_eq_false ht]
  rfl

theorem defs₀_row (t : Fin cfg0.N) : defs₀ (F := F) .tc cfg0.body (cfg0.bodyArgs t (cfg0.slots t)) = bodyAt0 t := by
  unfold defs₀; rw [Defs.onTc_tc]

/-- The body keeps the proof data, at any invariant and any debt. -/
theorem body_obligation (c : Dev nD) (Φ0 : sProp 𝕄) (ow : CellTallies nD τ sig Ix) (𝒱 : Variants) (ι : Ix) :
    Pipeline.BodyObligation (dat (Ix := Ix) (U := U) (Lvl := Lvl) A c Φ0 ow) (defs₀ (F := F)) 𝒱 ι Set.univ := fun t => by
  rw [bigSep_W0, bigSep_W0, defs₀_row]
  have hΦ : (dat (Ix := Ix) (U := U) (Lvl := Lvl) A c Φ0 ow).Φ t.succ = (dat (Ix := Ix) (U := U) (Lvl := Lvl) A c Φ0 ow).Φ t.castSucc := rfl
  have hO : (dat (Ix := Ix) (U := U) (Lvl := Lvl) A c Φ0 ow).owesAt ι t.succ = (dat (Ix := Ix) (U := U) (Lvl := Lvl) A c Φ0 ow).owesAt ι t.castSucc := rfl
  have hi : cfg0.idle 4 (cfg0.grid.coords t) = !(k0_cond2 (grid0.coords t) == 1#1) := rfl
  rw [hΦ, hO, hi]
  by_cases ht : t.val = 0
  · have hc : k0_cond2 (grid0.coords t) = 1#1 := (cond2_iff t).mpr ht
    have ht0 : t = t0_0 := Fin.ext ht
    have hb : (!(k0_cond2 (grid0.coords t) == 1#1)) = false := by rw [hc]; rfl
    have e3 : ∀ X, k0_pay6 (k0_pay8 (zAt A c t) (eAt A c t)) (if k0_cond2 (grid0.coords t) = 1#1 then k0_pay4 else X)
        = (dat (Ix := Ix) (U := U) (Lvl := Lvl) A c Φ0 ow).after 3 t := fun X => by rw [if_pos hc, ht0]; rfl
    have e4 : ∀ X, (if k0_cond2 (grid0.coords t) = 1#1 then k0_pay5 (eAt A c t) else X)
        = (dat (Ix := Ix) (U := U) (Lvl := Lvl) A c Φ0 ow).after 4 t := fun X => by rw [if_pos hc, ht0]; rfl
    rw [hb]
    dsimp only
    iintro ⟨HΦ, HO, H0, H1, H2, H3, H4⟩
    icases H0 with ⟨%d0, H0⟩
    icases H1 with ⟨%d1, H1⟩
    icases H2 with ⟨%d2, H2⟩
    icases H3 with ⟨%d3, H3⟩
    icases H4 with ⟨%d4, H4⟩
    rw [before0, before1]
    iapply (body_wp 𝒱 c (grid0.coords t) _ (hstage0_0 _) _ (hstage0_1 _) _ (hstage0_2 _) _ (hstage0_3 _) _ (hstage0_4 _)
      (zAt A c t) (eAt A c t) ((dat (Ix := Ix) (U := U) (Lvl := Lvl) A c Φ0 ow).before 2 t d2)
      ((dat (Ix := Ix) (U := U) (Lvl := Lvl) A c Φ0 ow).before 3 t d3) ((dat (Ix := Ix) (U := U) (Lvl := Lvl) A c Φ0 ow).before 4 t d4) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [HO]; · iexact HO
    isplitl [H0]; · iexact H0
    isplitl [H1]; · iexact H1
    isplitl [H2]; · iexact H2
    rw [e3, e4]
    isplitl [H3]; · iexact H3
    iexact H4
  · have hc : ¬k0_cond2 (grid0.coords t) = 1#1 := fun h => ht ((cond2_iff t).mp h)
    have hb : (!(k0_cond2 (grid0.coords t) == 1#1)) = true := by rw [beq_false_of_ne hc]; rfl
    have e3 : ∀ d3, k0_pay6 (k0_pay8 (zAt A c t) (eAt A c t)) (if k0_cond2 (grid0.coords t) = 1#1 then k0_pay4 else
          (dat (Ix := Ix) (U := U) (Lvl := Lvl) A c Φ0 ow).before 3 t d3)
        = (dat (Ix := Ix) (U := U) (Lvl := Lvl) A c Φ0 ow).after 3 t := by
      intro d3
      rw [if_neg hc, before3 c Φ0 ow t ht]
      obtain ⟨n, hn⟩ := t
      cases n with
      | zero => exact absurd rfl ht
      | succ n => rfl
    have e4 : ∀ X, (if k0_cond2 (grid0.coords t) = 1#1 then k0_pay5 (eAt A c t) else X) = X := fun X => if_neg hc
    have e5 : ∀ d4, (dat (Ix := Ix) (U := U) (Lvl := Lvl) A c Φ0 ow).before 4 t d4
        = (dat (Ix := Ix) (U := U) (Lvl := Lvl) A c Φ0 ow).after 4 t := fun d4 => before4 c Φ0 ow t ht d4
    rw [hb]
    cases hf : (cfg0.win 4).flush t
    · dsimp only
      iintro ⟨HΦ, HO, H0, H1, H2, H3, H4⟩
      icases H0 with ⟨%d0, H0⟩
      icases H1 with ⟨%d1, H1⟩
      icases H2 with ⟨%d2, H2⟩
      icases H3 with ⟨%d3, H3⟩
      icases H4 with ⟨%d4, H4⟩
      rw [before0, before1]
      iapply (body_wp 𝒱 c (grid0.coords t) _ (hstage0_0 _) _ (hstage0_1 _) _ (hstage0_2 _) _ (hstage0_3 _) _ (hstage0_4 _)
    (zAt A c t) (eAt A c t) ((dat (Ix := Ix) (U := U) (Lvl := Lvl) A c Φ0 ow).before 2 t d2)
        ((dat (Ix := Ix) (U := U) (Lvl := Lvl) A c Φ0 ow).before 3 t d3) ((dat (Ix := Ix) (U := U) (Lvl := Lvl) A c Φ0 ow).before 4 t d4) Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [HO]; · iexact HO
      isplitl [H0]; · iexact H0
      isplitl [H1]; · iexact H1
      isplitl [H2]; · iexact H2
      rw [e3 d3, e4]
      isplitl [H3]; · iexact H3
      iexists d4; iexact H4
    · dsimp only
      iintro ⟨HΦ, HO, H0, H1, H2, H3, H4⟩
      icases H0 with ⟨%d0, H0⟩
      icases H1 with ⟨%d1, H1⟩
      icases H2 with ⟨%d2, H2⟩
      icases H3 with ⟨%d3, H3⟩
      icases H4 with ⟨%d4, H4⟩
      rw [before0, before1]
      iapply (body_wp 𝒱 c (grid0.coords t) _ (hstage0_0 _) _ (hstage0_1 _) _ (hstage0_2 _) _ (hstage0_3 _) _ (hstage0_4 _)
        (zAt A c t) (eAt A c t) ((dat (Ix := Ix) (U := U) (Lvl := Lvl) A c Φ0 ow).before 2 t d2)
        ((dat (Ix := Ix) (U := U) (Lvl := Lvl) A c Φ0 ow).before 3 t d3) ((dat (Ix := Ix) (U := U) (Lvl := Lvl) A c Φ0 ow).before 4 t d4) Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [HO]; · iexact HO
      isplitl [H0]; · iexact H0
      isplitl [H1]; · iexact H1
      isplitl [H2]; · iexact H2
      rw [e3 d3, e4, e5]
      isplitl [H3]; · iexact H3
      iexact H4

end Cert.Proof.CodesIdealBody

end
-- ==== Proof.CodesIdealRun.lean ====
/- The distance call's run: it ends with every counter at zero, its arrays at what the proof data says. -/
module

public import proofs.«01_k».proof.Proof.CodesIdealBody
public import proofs.«01_k».proof.Proof.Gen.CodesIdeal.Launch
public import proofs.«01_k».proof.Proof.Gen.CodesIdeal.Points

@[expose] public section

set_option maxRecDepth 16384

noncomputable section

namespace Cert.Proof.CodesIdealRun

open Cert.CodesIdeal Cert.CodesIdeal.Gen Cert.Proof.CodesIdealBody

open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- Core `c`'s buffers as launched. -/
abbrev A0 (b : Ref sig .tc) (c : Dev nD) : Buf (Elt F) ((c : Thread nD τ).loc b) := m ((c : Thread nD τ).loc b)

/-- The proof data of the program's one call. -/
abbrev dats : (p : Fin 1) → (c : Dev nD) → Pipeline.Dat τ (Elt F) Unit ℕ (UR sig nD τ) ℕ (cfgs p) c :=
  fun _ c => dat (Ix := Unit) (U := UR sig nD τ) (Lvl := ℕ) (A0 m) c (Pipeline.ΦA spec0 c) 0

/-- The run, its post the arrays' contents and the counters at zero. -/
theorem run_main : θ_run (defs (F := F)) (onTc (τ := τ) (main (F := F))) (s₀ m ρ)
    (fun r => Pipeline.FramePost cfgs (dats m) 0 (V m) r ∧ r.2.sem = fun _ => 0) :=
  Pipeline.θ_run_frame cfgs (dats m) 0 launch0 defs₀ Variants.none m ρ main
    (hbody := fun c => (body_obligation c _ 0 Variants.none ()).loose)
    (hshare := fun c => (dats m 0 c).share_full fun _ => rfl)
    (howed := fun _ _ => rfl)
    (V := V m)
    (hmain := hmain m Variants.none)
    (hA := fun _ _ => rfl)
    (hΦ := fun _ _ => rfl)
    (Q' := fun r => Pipeline.FramePost cfgs (dats m) 0 (V m) r ∧ r.2.sem = fun _ => 0)

/-- The frame: the arguments are left alone and every counter is back at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
      ⟨((h.1 c).1 0).trans ((dats m 0 c).arrAt_in 0 rfl _), ((h.1 c).1 1).trans ((dats m 0 c).arrAt_in 1 rfl _)⟩, h.2⟩) (run_main m ρ)

end Cert.Proof.CodesIdealRun

end
-- ==== Proof.CodesIdealBlock.lean ====
/- The distance call's block read at an index: the distances, the minima, the one-hot products and the codes. -/
module

public import proofs.«01_k».proof.Proof.CodesIdealBody
public import proofs.«01_k».proof.Proof.Nearest
public import Idealize.ShloMosaic.Lib.IdealHost
public import Idealize.ShloMosaic.Lib.MatmulPlain
public import Idealize.ShloMosaic.Lib.ValueLayout
public import Idealize.ShloMosaic.Lib.ValueLayoutCasts
public import Idealize.ShloMosaic.Lib.Pipeline.Value
public import Idealize.ShloMosaic.Lib.Pointwise.ShapeOpsCore

@[expose] public section

set_option maxRecDepth 16384

noncomputable section

namespace Cert.Proof.CodesIdealBlock

open Cert.CodesIdeal Cert.CodesIdeal.Gen Cert.Proof.CodesIdealBody Cert.Proof.Nearest
open Idealize.ShloMosaic hiding ix0 ix1 ix2 ix3 eq_ix1 eq_ix2 eq_ix3 sum_idx2
open Idealize.ShloMosaic.ValueIdx
open scoped BigOperators

section Casts

variable {α : Type}

/-- A column as a vector. -/
theorem cast_a1_a {a : ℕ} (x : (⟨2, ![a, 1]⟩ : Shape).Idx → α) (h : (⟨2, ![a, 1]⟩ : Shape).ShapeCasts ⟨1, ![a]⟩) (i : Fin a) :
    shapeCast ⟨1, ![a]⟩ x h (ix1 i) = x (ix2 i 0) :=
  shapeCast_apply x h _ _ (by
    rw [Shape.rowMajor_val_two, Shape.rowMajor_val_one]
    show i.val * 1 + 0 = i.val
    omega)

/-- A vector of 2048 as sixteen rows of 128. -/
theorem cast_rows (x : (⟨1, ![2048]⟩ : Shape).Idx → α) (h : (⟨1, ![2048]⟩ : Shape).ShapeCasts ⟨2, ![16, 128]⟩) (a : Fin 16) (l : Fin 128) :
    shapeCast ⟨2, ![16, 128]⟩ x h (ix2 a l) = x (ix1 (⟨a.val * 128 + l.val, by omega⟩ : Fin 2048)) :=
  shapeCast_apply x h _ _ (by
    rw [Shape.rowMajor_val_two, Shape.rowMajor_val_one]
    rfl)

/-- A column spread over a row. -/
theorem spread_a1_ab {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p 0) := by
  refine broadcastTo_apply v h (ix2 p c) (ix2 p (0 : Fin 1)) fun ax => ?_
  match ax with
  | ⟨0, _⟩ =>
    show p.val = if a = 1 then 0 else p.val
    split <;> omega
  | ⟨1, _⟩ => rfl

end Casts

theorem two_f32 : Ideal.ofBits .f32 0x40000000#32 = 2 := by
  rw [show (2 : EReal) = ((2 : ℝ) : EReal) from rfl]
  simp [Ideal.ofBits, Ideal.ieee, -EReal.coe_mul]; norm_num

theorem thirtytwo_f32 : Ideal.ofBits .f32 0x42000000#32 = ((32 : ℝ) : EReal) := by
  simp [Ideal.ofBits, Ideal.ieee, -EReal.coe_mul]; norm_num

theorem ties_f32 : Ideal.ofBits .f32 0x45000800#32 = ((2048.5 : ℝ) : EReal) := by
  simp [Ideal.ofBits, Ideal.ieee, -EReal.coe_mul]; norm_num

theorem top_f32 : Ideal.ofBits .f32 0x7F800000#32 = ⊤ := by
  simp [Ideal.ofBits, Ideal.ieee]

/-- Row `r`'s distances to the rows of the table. -/
def D (z : Vec Ideal S2048x64 .f32) (e : Vec Ideal S1024x64 .f32) (r : Fin 2048) : Fin 1024 → EReal :=
  dist2 (fun k => z (ix2 r k)) fun c k => e (ix2 c k)

theorem pay7_apply (z : Vec Ideal S2048x64 .f32) (e : Vec Ideal S1024x64 .f32) (r : Fin 2048) (c : Fin 1024) :
    k0_pay7 (F := Ideal) z e (ix2 r c) = D z e r c := by
  unfold k0_pay7 D dist2
  dsimp only
  rw [addf_apply, subf_apply, mulf_apply]
  refine congrArg₂ (· + ·) (congrArg₂ (· - ·) ?_ (congrArg₂ (· * ·) two_f32 ?_)) ?_
  · refine (spread_a1_ab _ _ r c).trans ((shapeCast_a_a1_apply _ _ r 0).trans ?_)
    refine (Ideal.multiReduction_add_single _ _ _ _ _ _).trans ?_
    exact Finset.sum_congr rfl fun k _ => congrArg (fun i => z i * z i) (lift_row _ _ _)
  · refine (Ideal.matmul_transposedRhs_apply (M := 2048) (K := 64) (N := 1024) none z e _ r c).trans ?_
    rw [constant_apply]
    refine (congrArg (· + _) Ideal.ofBits_zero_f32).trans (zero_add _)
  · refine (broadcastTo_1b_ab_apply _ _ r c).trans ((shapeCast_a_1a_apply _ _ 0 c).trans ?_)
    refine (Ideal.multiReduction_add_single _ _ _ _ _ _).trans ?_
    exact Finset.sum_congr rfl fun k _ => congrArg (fun i => e i * e i) (lift_row _ _ _)

theorem pay8_apply (z : Vec Ideal S2048x64 .f32) (e : Vec Ideal S1024x64 .f32) (r : Fin 2048) (u : Fin 1) :
    k0_pay8 (F := Ideal) z e (ix2 r u) = D z e r (first (D z e r)) := by
  unfold k0_pay8
  dsimp only
  refine (shapeCast_a_a1_apply _ _ r u).trans ?_
  refine (multiReduction_minimumf_eq_fold _ _ _ _ _ _).trans ?_
  refine (Shape.Reduces.fold_filter_drop_single _ _ _ _ _).trans ?_
  refine Eq.trans ?_ (fold_min (D z e r))
  refine congrArg₂ (Finset.fold min · · Finset.univ) top_f32 (funext fun k => ?_)
  exact (congrArg (k0_pay7 (F := Ideal) z e) (lift_row _ _ k)).trans (pay7_apply z e r k)

/-- A selection on whether two values are equal. -/
theorem hot_bit {α : Type} (x y : EReal) (u v : α) {x' y' : EReal} (hx : x = x') (hy : y = y') :
    Scalar.select (FloatOps.cmpf (F := Ideal) (φ := .f32) .oeq x y) u v = if x' = y' then u else v := by
  subst hx hy
  by_cases h : x = y
  · rw [if_pos h]
    have : FloatOps.cmpf (F := Ideal) (φ := .f32) .oeq x y = 1#1 := by
      show Ideal.cmp .oeq x y = 1#1
      simp [Ideal.cmp, h]
    rw [this]; rfl
  · rw [if_neg h]
    have : FloatOps.cmpf (F := Ideal) (φ := .f32) .oeq x y = 0#1 := by
      show Ideal.cmp .oeq x y = 0#1
      simp [Ideal.cmp, h]
    rw [this]; rfl

/-- The weights of the three columns that the one-hot rows are multiplied with. -/
def wt (c : Fin 3) (k : Fin 1024) : ℝ := if c = 0 then ((k.val / 32 : ℕ) : ℝ) else if c = 1 then ((k.val % 32 : ℕ) : ℝ) else 1

/-- The word from which a column's weight is converted. -/
def wtWord (c : Fin 3) (k : Fin 1024) : BitVec 32 :=
  Scalar.select (IntOp.cmpi .eq (BitVec.ofNat 32 c.val) 0#32) (IntOp.shrsi .vector (BitVec.ofNat 32 k.val) 5#32)
    (Scalar.select (IntOp.cmpi .eq (BitVec.ofNat 32 c.val) 1#32) (IntOp.andi (BitVec.ofNat 32 k.val) 31#32) 1#32)

theorem wtWord_toInt : ∀ (c : Fin 3) (k : Fin 1024),
    (wtWord c k).toInt = ((if c = 0 then k.val / 32 else if c = 1 then k.val % 32 else 1 : ℕ) : ℤ) := by
  decide +kernel

theorem wtWord_real (c : Fin 3) (k : Fin 1024) : (((wtWord c k).toInt : ℝ)) = wt c k := by
  rw [wtWord_toInt, wt, Int.cast_natCast]
  split
  · rfl
  · split
    · rfl
    · exact Nat.cast_one

theorem pay9_apply (z : Vec Ideal S2048x64 .f32) (e : Vec Ideal S1024x64 .f32) (r : Fin 2048) (c : Fin 3) :
    k0_pay9 (F := Ideal) z e (ix2 r c) = ((∑ k ∈ ties (D z e r), wt c k : ℝ) : EReal) := by
  unfold k0_pay9
  dsimp only
  refine (Ideal.matmul_plain_apply (M := 2048) (K := 1024) (N := 3) none _ _ _ r c).trans ?_
  rw [constant_apply]
  refine (congrArg (· + _) Ideal.ofBits_zero_f32).trans ((zero_add _).trans ?_)
  refine Eq.trans ?_ (sum_hot (D z e r) (wt c))
  refine Finset.sum_congr rfl fun k _ => congrArg₂ (· * ·) ?_ ?_
  · rw [truncf_apply, select_apply, cmpf_apply]
    refine (hot_bit _ _ _ _ (pay7_apply z e r k) ((spread_a1_ab _ _ r k).trans (pay8_apply z e r 0))).trans ?_
    exact if_congr Iff.rfl Ideal.ofBits_one_f32 Ideal.ofBits_zero_f32
  · have e1 : iota .tc S1024x3 32 [1] iota_S1024x3_d1_w32 (ix2 k c) = BitVec.ofNat 32 c.val := iota_single_apply _ _ _ _ _ _
    have e0 : iota .tc S1024x3 32 [0] iota_S1024x3_d0_w32 (ix2 k c) = BitVec.ofNat 32 k.val := iota_single_apply _ _ _ _ _ _
    rw [sitofp_apply, ← wtWord_real]
    refine congrArg (fun b : BitVec 32 => ((b.toInt : ℝ) : EReal)) ?_
    show Scalar.select (IntOp.cmpi .eq (iota .tc S1024x3 32 [1] iota_S1024x3_d1_w32 (ix2 k c)) 0#32)
      (IntOp.shrsi .vector (iota .tc S1024x3 32 [0] iota_S1024x3_d0_w32 (ix2 k c)) 5#32)
      (Scalar.select (IntOp.cmpi .eq (iota .tc S1024x3 32 [1] iota_S1024x3_d1_w32 (ix2 k c)) 1#32)
        (IntOp.andi (iota .tc S1024x3 32 [0] iota_S1024x3_d0_w32 (ix2 k c)) 31#32) 1#32) = wtWord c k
    rw [e1, e0, wtWord]

theorem pay10_apply (z : Vec Ideal S2048x64 .f32) (e : Vec Ideal S1024x64 .f32) (r : Fin 2048) :
    k0_pay10 (F := Ideal) z e (ix1 r) = k0_pay9 (F := Ideal) z e (ix2 r 0) := by
  unfold k0_pay10
  exact (cast_a1_a _ _ r).trans (slice2_axis1_apply 0 _ _ r 0 0 rfl)

theorem pay2_apply (v : FVec Ideal S2048x3 .f32) : k0_pay2 (F := Ideal) v = ∑ r : Fin 2048, v (ix2 r 2) := by
  unfold k0_pay2
  dsimp only
  rw [extractAt_eq]
  refine (shapeCast_apply _ _ _ (ix1 0) (by decide)).trans ?_
  refine (Ideal.multiReduction_add_single _ _ _ _ _ _).trans ?_
  refine Finset.sum_congr rfl fun r _ => (congrArg _ (lift_row _ _ r)).trans ?_
  refine (shapeCast_a_1a_apply _ _ 0 r).trans ((cast_a1_a _ _ r).trans ?_)
  exact slice2_axis1_apply 2 _ _ r 0 2 rfl

theorem pay1_apply (v : FVec Ideal S2048x3 .f32) (h l : FVec Ideal S2048 .f32) (a : Fin 16) (b : Fin 128) :
    k0_pay1 (F := Ideal) v h l (ix2 a b)
      = Ideal.fptosi 32 (h (ix1 (⟨a.val * 128 + b.val, by omega⟩ : Fin 2048)) * l (ix1 (⟨a.val * 128 + b.val, by omega⟩ : Fin 2048))
          + v (ix2 (⟨a.val * 128 + b.val, by omega⟩ : Fin 2048) 1)) := by
  unfold k0_pay1
  refine (cast_rows _ _ a b).trans ?_
  refine congrArg (Ideal.fptosi 32) ?_
  rw [addf_apply, mulf_apply]
  exact congrArg (_ + ·) ((cast_a1_a _ _ _).trans (slice2_axis1_apply 1 _ _ _ 0 1 rfl))

theorem pay3_apply (z : Vec Ideal S2048x64 .f32) (e : Vec Ideal S1024x64 .f32) (a : Fin 16) (b : Fin 128) :
    k0_pay3 (F := Ideal) (k0_pay7 z e) (k0_pay8 z e) (ix2 a b)
      = BitVec.ofNat 32 (first (D z e (⟨a.val * 128 + b.val, by omega⟩ : Fin 2048))).val := by
  unfold k0_pay3
  dsimp only
  refine (cast_rows _ _ a b).trans ?_
  refine (multiReductionI_eq_fold _ _ _ _ _ _).trans ?_
  refine (Shape.Reduces.fold_filter_drop_single _ _ _ _ _).trans ?_
  refine fold_lanes _ _ fun k => ?_
  refine (congrArg (select (cmpf .oeq (k0_pay7 (F := Ideal) z e) (broadcastTo S2048x1024 (k0_pay8 z e) broadcasts_S2048x1_S2048x1024))
    (iota .tc S2048x1024 32 [1] iota_S2048x1024_d1_w32) (broadcast S2048x1024 1024#32)) (lift_row _ _ k)).trans ?_
  let r : Fin 2048 := ⟨a.val * 128 + b.val, by omega⟩
  refine (hot_bit (k0_pay7 (F := Ideal) z e (ix2 r k)) (broadcastTo S2048x1024 (k0_pay8 (F := Ideal) z e) broadcasts_S2048x1_S2048x1024 (ix2 r k))
    _ _ (pay7_apply z e r k) ((spread_a1_ab _ _ r k).trans (pay8_apply z e r 0))).trans ?_
  exact if_congr Iff.rfl (iota_single_apply _ _ _ _ _ _) rfl

theorem one_idx (i : S1x1.Idx) : i = ix2 0 0 := by
  funext a
  match a with
  | ⟨0, _⟩ => exact Subsingleton.elim (α := Fin 1) _ _
  | ⟨1, _⟩ => exact Subsingleton.elim (α := Fin 1) _ _

theorem pay6_apply (v : FVec Ideal S2048x1 .f32) (x : Vec Ideal S1x1 .f32) (i : S1x1.Idx) :
    k0_pay6 (F := Ideal) v x i = x (ix2 0 0) + ∑ r : Fin 2048, v (ix2 r 0) := by
  unfold k0_pay6
  rw [addf_apply, shapeCast_self]
  refine congrArg₂ (· + ·) (congrArg x (one_idx i)) ?_
  refine (extractAt_eq _ _ _).trans ((shapeCast_apply _ _ _ (ix1 0) (by decide)).trans ?_)
  refine (Ideal.multiReduction_add_total _ _ _ (by decide) _ _ _).trans ?_
  refine (Equiv.sum_comp (Shape.reshapeEquiv shapeCasts_S2048x1_S1x2048x1) v).trans ?_
  rw [sum_idx2]
  exact Finset.sum_congr rfl fun r _ => Fin.sum_univ_one _

/-- The padded table: the embedding's rows, then zeros. -/
theorem pay5_apply (e : Vec Ideal S1024x64 .f32) (r : Fin 1024) (k : Fin 128) :
    k0_pay5 (F := Ideal) e (ix2 r k) = if h : k.val < 64 then e (ix2 r ⟨k.val, h⟩) else 0 := by
  unfold k0_pay5
  by_cases h : k.val < 64
  · rw [dif_pos h]
    exact concatenate_pair_apply_left (t := S1024x128) (s₁ := S1024x64) (s₂ := S1024x64) 1 _ _ _ _ rfl (ix2 r ⟨k.val, h⟩) fun b => by
      match b with
      | ⟨0, _⟩ => rfl
      | ⟨1, _⟩ => rfl
  · rw [dif_neg h]
    refine (concatenate_pair_apply_right (t := S1024x128) (s₁ := S1024x64) (s₂ := S1024x64) 1 _ _ _ _ rfl rfl (ix2 r ⟨k.val - 64, by omega⟩) (fun b hb => ?_) ?_).trans Ideal.ofBits_zero_f32
    · match b with
      | ⟨0, _⟩ => rfl
      | ⟨1, _⟩ => exact absurd rfl hb
    · show k.val - 64 + 64 = k.val
      omega

/-- The branch not taken means that every row of the block has one least distance. -/
theorem ties_single (z : Vec Ideal S2048x64 .f32) (e : Vec Ideal S1024x64 .f32) (h : ¬ tieBit (F := Ideal) z e = 1#1) (r : Fin 2048) :
    ties (D z e r) = {first (D z e r)} := by
  refine ties_eq (D z e) (fun hlt => h ?_) r
  have e2 : k0_pay2 (F := Ideal) (k0_pay9 z e) = ∑ r, ((∑ _k ∈ ties (D z e r), (1 : ℝ) : ℝ) : EReal) :=
    (pay2_apply _).trans (Finset.sum_congr rfl fun r _ => pay9_apply z e r 2)
  unfold tieBit
  have hb : Scalar.cmpf .ogt (k0_pay2 (F := Ideal) (k0_pay9 z e)) (Scalar.ofBits (F := Ideal) .f32 0x45000800#32) = 1#1 := by
    show Ideal.cmp .ogt (k0_pay2 (F := Ideal) (k0_pay9 z e)) (Ideal.ofBits .f32 0x45000800#32) = 1#1
    rw [e2, ties_f32]
    simp only [Ideal.cmp]
    rw [decide_eq_true hlt]
    rfl
  rw [hb]
  decide

/-- Every code of a block is the first index at which the row's distance is least. -/
theorem codeBlk_apply (z : Vec Ideal S2048x64 .f32) (e : Vec Ideal S1024x64 .f32) (a : Fin 16) (b : Fin 128) :
    codeBlk (F := Ideal) z e (ix2 a b) = BitVec.ofNat 32 (first (D z e (⟨a.val * 128 + b.val, by omega⟩ : Fin 2048))).val := by
  unfold codeBlk
  split
  · exact pay3_apply z e a b
  · rename_i h
    have ht := ties_single z e h (⟨a.val * 128 + b.val, by omega⟩ : Fin 2048)
    rw [pay1_apply, pay10_apply, pay9_apply, pay9_apply, ht, Finset.sum_singleton, Finset.sum_singleton]
    generalize first (D z e (⟨a.val * 128 + b.val, by omega⟩ : Fin 2048)) = k
    have e11 : k0_pay11 (F := Ideal) (ix1 (⟨a.val * 128 + b.val, by omega⟩ : Fin 2048)) = ((32 : ℝ) : EReal) := thirtytwo_f32
    rw [e11, ← EReal.coe_mul, ← EReal.coe_add, ← fptosi_nat k.val k.isLt]
    refine congrArg (fun x : ℝ => Ideal.fptosi 32 (x : EReal)) ?_
    have := Nat.div_add_mod k.val 32
    simp only [wt, if_true, one_ne_zero, if_false]
    have h2 : (((k.val / 32) * 32 + k.val % 32 : ℕ) : ℝ) = ((k.val : ℕ) : ℝ) := congrArg _ (by omega)
    rw [← h2, Nat.cast_add, Nat.cast_mul, Nat.cast_ofNat]

end Cert.Proof.CodesIdealBlock

end
-- ==== Proof.CodesIdealArrays.lean ====
/- What the distance call leaves in its three result arrays: the codes, the sum of the minima and the padded table. -/
module

public import proofs.«01_k».proof.Proof.CodesIdealBody
public import proofs.«01_k».proof.Proof.Gen.CodesIdeal.Points
public import proofs.«01_k».proof.Proof.CodesIdealBlock
public import Idealize.ShloMosaic.Lib.Pipeline.ValueKit

@[expose] public section

set_option maxRecDepth 16384

noncomputable section

namespace Cert.Proof.CodesIdealArrays

open Cert.CodesIdeal Cert.CodesIdeal.Gen Cert.Proof.CodesIdealBody Cert.Proof.Nearest
open Cert.Proof.CodesIdealBlock
open Idealize.ShloMosaic hiding ix0 ix1 ix2 ix3 eq_ix1 eq_ix2 eq_ix3 sum_idx2
open Idealize.ShloMosaic.TcCoe Idealize.ShloMosaic.ValueIdx
open Idealize.SL Idealize.SL.RA Idealize.SL.BI Idealize.SL.Sem
open scoped BigOperators

variable {Ix : Type} [DecidableEq Ix] {U : Type} [URA U] {Lvl : Type} [Preorder Lvl]

local notation "𝕄" => MT nD τ sig Ix (Elt Ideal) ℕ U Lvl

variable (A : (b : Ref sig .tc) → (c : Dev nD) → Buf (Elt Ideal) ((c : Thread nD τ).loc b))

/-- The tokens and the code book as the call finds them. -/
abbrev Z (c : Dev nD) : Vec Ideal S32768x64 .f32 := A (Pipeline.arrRef spec0 0) c
abbrev E (c : Dev nD) : Vec Ideal S1024x64 .f32 := A (Pipeline.arrRef spec0 1) c

/-- Token `t`'s distances to the rows of the code book. -/
def DT (c : Dev nD) (t : Fin 32768) : Fin 1024 → EReal := dist2 (fun k => Z A c (ix2 t k)) fun r k => E A c (ix2 r k)

theorem idx_0 : ∀ t : Fin grid0.N, win0_0.index t = ![t.val, 0] := by decide +kernel
theorem idx_1 : ∀ t : Fin grid0.N, win0_1.index t = ![0, 0] := by decide +kernel
theorem idx_2 : ∀ t : Fin grid0.N, win0_2.index t = ![t.val, 0] := by decide +kernel

theorem t_lt (t : Fin cfg0.N) : t.val < 16 := lt_of_lt_of_eq t.isLt N_0

/-- Row `r` of block `t` as a token. -/
def tok (t : ℕ) (ht : t < 16) (r : Fin 2048) : Fin 32768 := ⟨t * 2048 + r.val, by omega⟩

theorem zAt_apply (c : Dev nD) (t : Fin cfg0.N) (r : Fin 2048) (k : Fin 64) :
    zAt A c t (ix2 r k) = Z A c (ix2 (tok t.val (t_lt t) r) k) := by
  unfold zAt
  show (A (Pipeline.arrRef spec0 0) c) (((cfg0.win 0).blk t).view.emb (ix2 r k)) = _
  refine congrArg (A (Pipeline.arrRef spec0 0) c) (funext fun a => Fin.ext ?_)
  match a with
  | ⟨0, _⟩ => blk_simp [idx_0]; rfl
  | ⟨1, _⟩ => blk_simp [idx_0]

theorem eAt_eq (c : Dev nD) (t : Fin cfg0.N) : eAt A c t = E A c := by
  unfold eAt
  funext i
  show (A (Pipeline.arrRef spec0 1) c) (((cfg0.win 1).blk t).view.emb i) = _
  refine congrArg (A (Pipeline.arrRef spec0 1) c) (funext fun a => Fin.ext ?_)
  match a with
  | ⟨0, _⟩ => blk_simp [idx_1]
  | ⟨1, _⟩ => blk_simp [idx_1]

theorem D_at (c : Dev nD) (t : Fin cfg0.N) (r : Fin 2048) : D (zAt A c t) (eAt A c t) r = DT A c (tok t.val (t_lt t) r) := by
  unfold D DT
  rw [eAt_eq]
  exact congrArg (fun f => dist2 f fun r k => E A c (ix2 r k)) (funext fun k => zAt_apply A c t r k)

/-- The codes: each token's nearest row. -/
def codes (c : Dev nD) : IVec S256x128 32 := fun i =>
  BitVec.ofNat 32 (first (DT A c (⟨(i 0).val * 128 + (i 1).val, by have h0 : (i 0).val < 256 := (i 0).isLt; have h1 : (i 1).val < 128 := (i 1).isLt; omega⟩ : Fin 32768))).val

/-- The sum of every token's least distance. -/
def total (c : Dev nD) : EReal := ∑ t : Fin 32768, DT A c t (first (DT A c t))

/-- The padded table. -/
def table (c : Dev nD) : FVec Ideal S1024x128 .f32 := k0_pay5 (F := Ideal) (E A c)

/-- The call leaves the codes in its result array. -/
theorem arr_codes (c : Dev nD) (Φ0 : sProp 𝕄) (ow : CellTallies nD τ sig Ix) :
    (dat (Ix := Ix) (U := U) (Lvl := Lvl) A c Φ0 ow).arrAt 2 cfg0.N = codes A c := by
  refine (dat (Ix := Ix) (U := U) (Lvl := Lvl) A c Φ0 ow).arrAt_eq_of_covers 2 _ (by decide +kernel) fun t hf y => ?_
  blk_simp
  have e : (dat (Ix := Ix) (U := U) (Lvl := Lvl) A c Φ0 ow).after 2 t = codeBlk (zAt A c t) (eAt A c t) := rfl
  rw [e]
  let a : Fin 16 := y 0
  let b : Fin 128 := y 1
  have hy : y = ix2 a b := funext fun x => by
    match x with
    | ⟨0, _⟩ => rfl
    | ⟨1, _⟩ => rfl
  have h0 : (((cfg0.win 2).blk t).view.emb y 0).val = t.val * 16 + a.val := by blk_simp [idx_2]; rfl
  have h1 : (((cfg0.win 2).blk t).view.emb y 1).val = b.val := by blk_simp [idx_2]; rfl
  refine (congrArg (codeBlk (F := Ideal) (zAt A c t) (eAt A c t)) hy).trans ((codeBlk_apply _ _ a b).trans ?_)
  rw [D_at]
  refine congrArg (fun k => BitVec.ofNat 32 (first (DT A c k)).val) (Fin.ext ?_)
  show t.val * 2048 + (a.val * 128 + b.val) = (((cfg0.win 2).blk t).view.emb y 0).val * 128 + (((cfg0.win 2).blk t).view.emb y 1).val
  rw [h0, h1]
  omega

/-- The call leaves the table in its result array. -/
theorem arr_table (c : Dev nD) (Φ0 : sProp 𝕄) (ow : CellTallies nD τ sig Ix) :
    (dat (Ix := Ix) (U := U) (Lvl := Lvl) A c Φ0 ow).arrAt 4 cfg0.N = table A c := by
  refine (dat (Ix := Ix) (U := U) (Lvl := Lvl) A c Φ0 ow).arrAt_eq_of_after_last 4 t0_15 (by decide +kernel) _ fun j => ?_
  blk_simp
  exact congrFun (congrArg (k0_pay5 (F := Ideal)) (eAt_eq A c t0_0)) j

/-- Block `t`'s sum of least distances. -/
def blockSum (c : Dev nD) (t : ℕ) : EReal :=
  if h : t < 16 then ∑ r : Fin 2048, DT A c (tok t h r) (first (DT A c (tok t h r))) else 0

theorem pay8_sum (c : Dev nD) (t : Fin cfg0.N) :
    ∑ r : Fin 2048, k0_pay8 (F := Ideal) (zAt A c t) (eAt A c t) (ix2 r 0) = blockSum A c t.val := by
  unfold blockSum
  rw [dif_pos (t_lt t)]
  exact Finset.sum_congr rfl fun r _ => by rw [pay8_apply, D_at]

theorem accAt_apply (c : Dev nD) (n : ℕ) (h : n < cfg0.N) (i : S1x1.Idx) :
    accAt A c n h i = ∑ t ∈ Finset.range (n + 1), blockSum A c t := by
  induction n generalizing i with
  | zero =>
    rw [accAt, pay6_apply, pay8_sum, Finset.sum_range_one]
    refine (congrArg (· + _) ?_).trans (zero_add _)
    exact Ideal.ofBits_zero_f32
  | succ n ih =>
    rw [accAt, pay6_apply, pay8_sum, Finset.sum_range_succ, ih]

theorem total_eq (c : Dev nD) : ∑ t ∈ Finset.range 16, blockSum A c t = total A c := by
  unfold total
  rw [Finset.sum_range, ← Equiv.sum_comp (finProdFinEquiv (m := 16) (n := 2048)), Fintype.sum_prod_type]
  refine Finset.sum_congr rfl fun t _ => ?_
  unfold blockSum
  rw [dif_pos t.isLt]
  refine Finset.sum_congr rfl fun r _ => ?_
  have e : finProdFinEquiv (t, r) = tok t.val t.isLt r := Fin.ext (by
    show r.val + 2048 * t.val = t.val * 2048 + r.val
    omega)
  rw [← e]

/-- The call leaves the total in its result array. -/
theorem arr_total (c : Dev nD) (Φ0 : sProp 𝕄) (ow : CellTallies nD τ sig Ix) :
    (dat (Ix := Ix) (U := U) (Lvl := Lvl) A c Φ0 ow).arrAt 3 cfg0.N = fun _ => total A c := by
  obtain ⟨t₀, ht₀⟩ : ∃ t : Fin cfg0.N, t = t0_15 := ⟨_, rfl⟩
  have hv : t₀.val = 15 := by rw [ht₀]; rfl
  have hw : (cfg0.win 3).WholeAt t₀ := by
    rw [ht₀]
    exact (by decide +kernel : (cfg0.win 3).WholeAt t0_15)
  clear ht₀
  refine (dat (Ix := Ix) (U := U) (Lvl := Lvl) A c Φ0 ow).arrAt_eq_of_after_last 3 t₀ hw _ fun j => ?_
  have e : ∀ j : S1x1.Idx, accAt A c t₀.val t₀.isLt j = total A c := fun j => by
    rw [accAt_apply, hv, total_eq]
  exact e _

end Cert.Proof.CodesIdealArrays

end
-- ==== Proof.CodesReferenceRun.lean ====
/-
  The reference's run: its host operations in four stretches (the distances, the nearest row of each token, the rows
  taken, the results), what each stretch leaves, and so what the whole leaves.
-/
module

public import proofs.«01_k».proof.Proof.Gen.CodesReferenceIdeal
public import Idealize.ShloMosaic.Lib.StableHlo.Run
public import Idealize.ShloMosaic.Lib.Quiescent

@[expose] public section

noncomputable section

namespace Cert.Proof.CodesReferenceRun

open Cert.CodesReferenceIdeal Cert.CodesReferenceIdeal.Gen Idealize.ShloMosaic Idealize.ShloMosaic.TcCoe Idealize.SL.Sem Idealize.ShloMosaic.StableHlo

variable {F : FTy → Type} [FloatOps F]

/-- The distances. -/
abbrev opsA : List (HloOp τ sig (Elt F)) :=
  [ StableHlo.binary main_arg0 main_arg0 main_v0 (mulf : (⟨S32768x64, .f32⟩ : BufTy).Contents (Elt F) → (⟨S32768x64, .f32⟩ : BufTy).Contents (Elt F) → (⟨S32768x64, .f32⟩ : BufTy).Contents (Elt F)),
    StableHlo.nullary main_cst (constant S_ .f32 0x00000000#32),
    StableHlo.binary main_v0 main_cst main_v1 ((fun x v => Host.reduceAdd x v reducesTo_S32768x64_S32768_d1 h_S_) : (⟨S32768x64, .f32⟩ : BufTy).Contents (Elt F) → (⟨S_, .f32⟩ : BufTy).Contents (Elt F) → (⟨S32768, .f32⟩ : BufTy).Contents (Elt F)),
    StableHlo.unary main_v1 main_v2 (broadcastInDim S32768x1 ![0] bcast_S32768_S32768x1_0 : (⟨S32768, .f32⟩ : BufTy).Contents (Elt F) → (⟨S32768x1, .f32⟩ : BufTy).Contents (Elt F)),
    StableHlo.nullary main_cst_0 (constant S_ .f32 0x40000000#32),
    StableHlo.unary main_cst_0 main_v3 (broadcastInDim S32768x64 ![] bcast_S_S32768x64 : (⟨S_, .f32⟩ : BufTy).Contents (Elt F) → (⟨S32768x64, .f32⟩ : BufTy).Contents (Elt F)),
    StableHlo.binary main_v3 main_arg0 main_v4 (mulf : (⟨S32768x64, .f32⟩ : BufTy).Contents (Elt F) → (⟨S32768x64, .f32⟩ : BufTy).Contents (Elt F) → (⟨S32768x64, .f32⟩ : BufTy).Contents (Elt F)),
    StableHlo.unary main_arg1 main_v5 ((transpose S64x1024 [1, 0] · transposes_S1024x64_S64x1024_1_0) : (⟨S1024x64, .f32⟩ : BufTy).Contents (Elt F) → (⟨S64x1024, .f32⟩ : BufTy).Contents (Elt F)),
    StableHlo.binary main_v4 main_v5 main_v6 ((fun l r => Host.dotGeneral dot_S32768x64_S64x1024_S32768x1024_1_0_0_1_n_n none l r) : (⟨S32768x64, .f32⟩ : BufTy).Contents (Elt F) → (⟨S64x1024, .f32⟩ : BufTy).Contents (Elt F) → (⟨S32768x1024, .f32⟩ : BufTy).Contents (Elt F)),
    StableHlo.unary main_v2 main_v7 (broadcastInDim S32768x1024 ![0, 1] bcast_S32768x1_S32768x1024_0_1 : (⟨S32768x1, .f32⟩ : BufTy).Contents (Elt F) → (⟨S32768x1024, .f32⟩ : BufTy).Contents (Elt F)),
    StableHlo.binary main_v7 main_v6 main_v8 (subf : (⟨S32768x1024, .f32⟩ : BufTy).Contents (Elt F) → (⟨S32768x1024, .f32⟩ : BufTy).Contents (Elt F) → (⟨S32768x1024, .f32⟩ : BufTy).Contents (Elt F)),
    StableHlo.binary main_arg1 main_arg1 main_v9 (mulf : (⟨S1024x64, .f32⟩ : BufTy).Contents (Elt F) → (⟨S1024x64, .f32⟩ : BufTy).Contents (Elt F) → (⟨S1024x64, .f32⟩ : BufTy).Contents (Elt F)),
    StableHlo.nullary main_cst_1 (constant S_ .f32 0x00000000#32),
    StableHlo.binary main_v9 main_cst_1 main_v10 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    StableHlo.unary main_v10 main_v11 (broadcastInDim S1x1024 ![1] bcast_S1024_S1x1024_1 : (⟨S1024, .f32⟩ : BufTy).Contents (Elt F) → (⟨S1x1024, .f32⟩ : BufTy).Contents (Elt F)),
    StableHlo.unary main_v11 main_v12 (broadcastInDim S32768x1024 ![0, 1] bcast_S1x1024_S32768x1024_0_1 : (⟨S1x1024, .f32⟩ : BufTy).Contents (Elt F) → (⟨S32768x1024, .f32⟩ : BufTy).Contents (Elt F)),
    StableHlo.binary main_v8 main_v12 main_v13 (addf : (⟨S32768x1024, .f32⟩ : BufTy).Contents (Elt F) → (⟨S32768x1024, .f32⟩ : BufTy).Contents (Elt F) → (⟨S32768x1024, .f32⟩ : BufTy).Contents (Elt F)) ]

/-- The nearest row of each token. -/
abbrev opsB : List (HloOp τ sig (Elt F)) :=
  [ TRef.nullary (TRef.of (T := ⟨S32768x1024, .i32⟩) main_call0_v0) (iotaInDim S32768x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S32768x1024, .f32⟩) main_v13) (TRef.of (T := ⟨S32768x1024, .i32⟩) main_call0_v0) (TRef.of (T := ⟨S_, .f32⟩) main_call0_cst) (TRef.of (T := ⟨S_, .i32⟩) main_call0_c) (TRef.of (T := ⟨S32768, .f32⟩) main_call0_v1_0) (fun x y u v j => (Host.argReduce reducer_argmin_f32_i32 x y u v reducesTo_S32768x1024_S32768_d1 h_S_ j).1),
    TRef.quaternary (TRef.of (T := ⟨S32768x1024, .f32⟩) main_v13) (TRef.of (T := ⟨S32768x1024, .i32⟩) main_call0_v0) (TRef.of (T := ⟨S_, .f32⟩) main_call0_cst) (TRef.of (T := ⟨S_, .i32⟩) main_call0_c) (TRef.of (T := ⟨S32768, .i32⟩) main_v14) (fun x y u v j => (Host.argReduce reducer_argmin_f32_i32 x y u v reducesTo_S32768x1024_S32768_d1 h_S_ j).2) ]

/-- The rows taken. -/
abbrev opsC : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S32768, .i32⟩) main_call1_v0) (broadcastInDim S32768 ![] bcast_S_S32768),
    TRef.binary (TRef.of (T := ⟨S32768, .i32⟩) main_v14) (TRef.of (T := ⟨S32768, .i32⟩) main_call1_v0) (TRef.of (T := ⟨S32768, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S32768, .i32⟩) main_call1_v2) (broadcastInDim S32768 ![] bcast_S_S32768),
    TRef.binary (TRef.of (T := ⟨S32768, .i32⟩) main_v14) (TRef.of (T := ⟨S32768, .i32⟩) main_call1_v2) (TRef.of (T := ⟨S32768, .i32⟩) main_call1_v3) addi,
    TRef.ternary (TRef.of (T := ⟨S32768, .i1⟩) main_call1_v1) (TRef.of (T := ⟨S32768, .i32⟩) main_call1_v3) (TRef.of (T := ⟨S32768, .i32⟩) main_v14) (TRef.of (T := ⟨S32768, .i32⟩) main_call1_v4) select,
    TRef.unary (TRef.of (T := ⟨S32768, .i32⟩) main_call1_v4) (TRef.of (T := ⟨S32768x1, .i32⟩) main_call1_v5) (broadcastInDim S32768x1 ![0] bcast_S32768_S32768x1_0),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S32768x1, .i32⟩) main_call1_v6) (broadcastInDim S32768x1 ![] bcast_S_S32768x1),
    TRef.binary (TRef.of (T := ⟨S32768x1, .i32⟩) main_call1_v5) (TRef.of (T := ⟨S32768x1, .i32⟩) main_call1_v6) (TRef.of (T := ⟨S32768x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S32768x1, .i32⟩) main_call1_v9) (broadcastInDim S32768x1 ![0, 1] bcast_S1x1_S32768x1_0_1),
    TRef.binary (TRef.of (T := ⟨S32768x1, .i32⟩) main_call1_v5) (TRef.of (T := ⟨S32768x1, .i32⟩) main_call1_v9) (TRef.of (T := ⟨S32768x1, .i1⟩) main_call1_v10) (cmpi .sle),
    TRef.binary (TRef.of (T := ⟨S32768x1, .i1⟩) main_call1_v7) (TRef.of (T := ⟨S32768x1, .i1⟩) main_call1_v10) (TRef.of (T := ⟨S32768x1, .i1⟩) main_call1_v11) andi,
    TRef.nullary (TRef.of (T := ⟨S_, .i1⟩) main_call1_c_3) (constantI S_ 1 1#1),
    TRef.binary (TRef.of (T := ⟨S32768x1, .i1⟩) main_call1_v11) (TRef.of (T := ⟨S_, .i1⟩) main_call1_c_3) (TRef.of (T := ⟨S32768, .i1⟩) main_call1_v12) (fun x v => Host.reduce IntOp.andi x v reducesTo_S32768x1_S32768_d1 h_S_),
    TRef.binary (TRef.of (T := ⟨S1024x64, .f32⟩) main_arg1) (TRef.of (T := ⟨S32768x1, .i32⟩) main_call1_v5) (TRef.of (T := ⟨S32768x64, .f32⟩) main_call1_v13) (fun x i => Host.gather gather_S1024x64_S32768x1_S32768x64_1_0_n_n_0_1_164 x i),
    TRef.unary (TRef.of (T := ⟨S32768, .i1⟩) main_call1_v12) (TRef.of (T := ⟨S32768x64, .i1⟩) main_call1_v14) (broadcastInDim S32768x64 ![0] bcast_S32768_S32768x64_0),
    TRef.nullary (TRef.of (T := ⟨S_, .f32⟩) main_call1_cst) (constant S_ .f32 0x7FC00000#32),
    TRef.unary (TRef.of (T := ⟨S_, .f32⟩) main_call1_cst) (TRef.of (T := ⟨S32768x64, .f32⟩) main_call1_v15) (broadcastInDim S32768x64 ![] bcast_S_S32768x64),
    TRef.ternary (TRef.of (T := ⟨S32768x64, .i1⟩) main_call1_v14) (TRef.of (T := ⟨S32768x64, .f32⟩) main_call1_v13) (TRef.of (T := ⟨S32768x64, .f32⟩) main_call1_v15) (TRef.of (T := ⟨S32768x64, .f32⟩) main_v15) select ]

/-- The results. -/
abbrev opsD : List (HloOp τ sig (Elt F)) :=
  [ StableHlo.binary main_v15 main_arg0 main_v16 (subf : (⟨S32768x64, .f32⟩ : BufTy).Contents (Elt F) → (⟨S32768x64, .f32⟩ : BufTy).Contents (Elt F) → (⟨S32768x64, .f32⟩ : BufTy).Contents (Elt F)),
    StableHlo.binary main_v16 main_v16 main_v17 (mulf : (⟨S32768x64, .f32⟩ : BufTy).Contents (Elt F) → (⟨S32768x64, .f32⟩ : BufTy).Contents (Elt F) → (⟨S32768x64, .f32⟩ : BufTy).Contents (Elt F)),
    StableHlo.nullary main_cst_2 (constant S_ .f32 0x00000000#32),
    StableHlo.binary main_v17 main_cst_2 main_v18 ((fun x v => Host.reduceAdd x v reducesTo_S32768x64_S_d0_1 h_S_) : (⟨S32768x64, .f32⟩ : BufTy).Contents (Elt F) → (⟨S_, .f32⟩ : BufTy).Contents (Elt F) → (⟨S_, .f32⟩ : BufTy).Contents (Elt F)),
    StableHlo.nullary main_c (constantI S_ 32 0#32),
    TRef.unary (TRef.of (T := ⟨S_, .i32⟩) main_c) (TRef.of (T := ⟨S_, .f32⟩) main_call2_v0) (sitofp .f32),
    TRef.binary (TRef.of (T := ⟨S1024x64, .f32⟩) main_arg1) (TRef.of (T := ⟨S_, .f32⟩) main_call2_v0) (TRef.of (T := ⟨S1024x128, .f32⟩) main_v19) (fun x v => pad S1024x128 ![0, 0] ![0, 64] ![0, 0] x v pads_S1024x64_S1024x128_000_0640 h_S_),
    StableHlo.reshape main_v14 main_v20 (rfl : (.i32 : EltTy) = .i32) shapeCasts_S32768_S256x128,
    StableHlo.reshape main_v18 main_v21 (rfl : (.f32 : EltTy) = .f32) shapeCasts_S_S1x1 ]

theorem subA : (opsA : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub ..⟩

theorem subB : (opsB : List (HloOp τ sig (Elt F))).Forall fun op => op.bufs ⊆ tcRefs τ sig :=
  ⟨nullary_bufs_sub .., nullary_bufs_sub .., nullary_bufs_sub .., quaternary_bufs_sub .., quaternary_bufs_sub ..⟩

theorem subC : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem subD : (opsD : List (HloOp τ sig (Elt F))).Forall fun op => op.bufs ⊆ tcRefs τ sig :=
  ⟨binary_bufs_sub .., binary_bufs_sub .., nullary_bufs_sub .., binary_bufs_sub .., nullary_bufs_sub .., unary_bufs_sub .., binary_bufs_sub .., reshape_bufs_sub .., reshape_bufs_sub ..⟩

/-- All the operations. -/
abbrev ops : List (HloOp τ sig (Elt F)) := opsA ++ (opsB ++ (opsC ++ opsD))

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨subA, List.forall_append.2 ⟨subB, List.forall_append.2 ⟨subC, subD⟩⟩⟩

theorem after_app (l₁ l₂ : List (HloOp τ sig (Elt F))) (V : Valuation τ sig (Elt F)) : after (l₁ ++ l₂) V = after l₂ (after l₁ V) := by
  induction l₁ generalizing V with
  | nil => rfl
  | cons op l ih => exact ih _

/-- Every token's distance to every row. -/
def dists (x : FVec F S32768x64 .f32) (e : FVec F S1024x64 .f32) : FVec F S32768x1024 .f32 :=
  addf (subf (broadcastInDim S32768x1024 ![0, 1] bcast_S32768x1_S32768x1024_0_1 (broadcastInDim S32768x1 ![0] bcast_S32768_S32768x1_0
      (Host.reduceAdd (mulf x x) (constant S_ .f32 0x00000000#32) reducesTo_S32768x64_S32768_d1 h_S_)))
    (Host.dotGeneral dot_S32768x64_S64x1024_S32768x1024_1_0_0_1_n_n none
      (mulf (broadcastInDim S32768x64 ![] bcast_S_S32768x64 (constant S_ .f32 0x40000000#32)) x)
      (transpose S64x1024 [1, 0] e transposes_S1024x64_S64x1024_1_0)))
    (broadcastInDim S32768x1024 ![0, 1] bcast_S1x1024_S32768x1024_0_1 (broadcastInDim S1x1024 ![1] bcast_S1024_S1x1024_1
      (Host.reduceAdd (mulf e e) (constant S_ .f32 0x00000000#32) reducesTo_S1024x64_S1024_d1 h_S_)))

/-- The place of each token's smallest distance. -/
def near (x : FVec F S32768x1024 .f32) : IVec S32768 32 := fun j =>
  (Host.argReduce reducer_argmin_f32_i32 x (iotaInDim S32768x1024 32 1) (constant S_ .f32 0x7F800000#32) (constantI S_ 32 0#32)
    reducesTo_S32768x1024_S32768_d1 h_S_ j).2

/-- A place moved up by the table's height where negative. -/
def moved (i : IVec S32768 32) : IVec S32768x1 32 :=
  broadcastInDim S32768x1 ![0] bcast_S32768_S32768x1_0 (select (cmpi .slt i (broadcastInDim S32768 ![] bcast_S_S32768 (constantI S_ 32 0#32)))
    (addi i (broadcastInDim S32768 ![] bcast_S_S32768 (constantI S_ 32 1024#32))) i)

/-- The rows at those places. -/
def rows (e : FVec F S1024x64 .f32) (i : IVec S32768 32) : FVec F S32768x64 .f32 :=
  select (broadcastInDim S32768x64 ![0] bcast_S32768_S32768x64_0 (Host.reduce IntOp.andi
      (andi (cmpi .sge (moved i) (broadcastInDim S32768x1 ![] bcast_S_S32768x1 (constantI S_ 32 0#32)))
        (cmpi .sle (moved i) (broadcastInDim S32768x1 ![0, 1] bcast_S1x1_S32768x1_0_1 (broadcastInDim S1x1 ![1] bcast_S1_S1x1_1 (constantI S1 32 1023#32)))))
      (constantI S_ 1 1#1) reducesTo_S32768x1_S32768_d1 h_S_))
    (Host.gather gather_S1024x64_S32768x1_S32768x64_1_0_n_n_0_1_164 e (moved i))
    (broadcastInDim S32768x64 ![] bcast_S_S32768x64 (constant S_ .f32 0x7FC00000#32))

variable (V : Valuation τ sig (Elt F))

set_option maxHeartbeats 2000000 in
/-- The first stretch leaves the distances, -/
theorem afterA : after opsA V (Proc.devRef .tc main_v13) = dists (V (Proc.devRef .tc main_arg0)) (V (Proc.devRef .tc main_arg1)) := by
  simp only [opsA]; after_results <;> rfl

set_option maxHeartbeats 2000000 in
/-- the second the nearest places, -/
theorem afterB : after opsB V (Proc.devRef .tc main_v14) = near (V (Proc.devRef .tc main_v13)) := by
  simp only [opsB, TRef.binary, TRef.nullary, TRef.ternary, TRef.unary, TRef.quaternary, TRef.toBuf, TRef.ofBuf, cast_eq]; after_results <;> rfl

set_option maxHeartbeats 2000000 in
/-- the third the rows at them. -/
theorem afterC : after opsC V (Proc.devRef .tc main_v15) = rows (V (Proc.devRef .tc main_arg1)) (V (Proc.devRef .tc main_v14)) := by
  simp only [opsC, TRef.binary, TRef.nullary, TRef.ternary, TRef.unary, TRef.quaternary, TRef.toBuf, TRef.ofBuf, cast_eq]; after_results <;> rfl

set_option maxHeartbeats 2000000 in
theorem keepA_main_arg0 : after opsA V (Proc.devRef .tc main_arg0) = V (Proc.devRef .tc main_arg0) := by
  simp only [opsA, TRef.binary, TRef.nullary, TRef.ternary, TRef.unary, TRef.quaternary, TRef.toBuf, TRef.ofBuf, cast_eq]; after_results <;> rfl

set_option maxHeartbeats 2000000 in
theorem keepA_main_arg1 : after opsA V (Proc.devRef .tc main_arg1) = V (Proc.devRef .tc main_arg1) := by
  simp only [opsA, TRef.binary, TRef.nullary, TRef.ternary, TRef.unary, TRef.quaternary, TRef.toBuf, TRef.ofBuf, cast_eq]; after_results <;> rfl

set_option maxHeartbeats 2000000 in
theorem keepB_main_arg0 : after opsB V (Proc.devRef .tc main_arg0) = V (Proc.devRef .tc main_arg0) := by
  simp only [opsB, TRef.binary, TRef.nullary, TRef.ternary, TRef.unary, TRef.quaternary, TRef.toBuf, TRef.ofBuf, cast_eq]; after_results <;> rfl

set_option maxHeartbeats 2000000 in
theorem keepB_main_arg1 : after opsB V (Proc.devRef .tc main_arg1) = V (Proc.devRef .tc main_arg1) := by
  simp only [opsB, TRef.binary, TRef.nullary, TRef.ternary, TRef.unary, TRef.quaternary, TRef.toBuf, TRef.ofBuf, cast_eq]; after_results <;> rfl

set_option maxHeartbeats 2000000 in
theorem keepC_main_arg0 : after opsC V (Proc.devRef .tc main_arg0) = V (Proc.devRef .tc main_arg0) := by
  simp only [opsC, TRef.binary, TRef.nullary, TRef.ternary, TRef.unary, TRef.quaternary, TRef.toBuf, TRef.ofBuf, cast_eq]; after_results <;> rfl

set_option maxHeartbeats 2000000 in
theorem keepC_main_arg1 : after opsC V (Proc.devRef .tc main_arg1) = V (Proc.devRef .tc main_arg1) := by
  simp only [opsC, TRef.binary, TRef.nullary, TRef.ternary, TRef.unary, TRef.quaternary, TRef.toBuf, TRef.ofBuf, cast_eq]; after_results <;> rfl

set_option maxHeartbeats 2000000 in
theorem keepD_main_arg0 : after opsD V (Proc.devRef .tc main_arg0) = V (Proc.devRef .tc main_arg0) := by
  simp only [opsD, TRef.binary, TRef.nullary, TRef.ternary, TRef.unary, TRef.quaternary, TRef.toBuf, TRef.ofBuf, cast_eq]; after_results <;> rfl

set_option maxHeartbeats 2000000 in
theorem keepD_main_arg1 : after opsD V (Proc.devRef .tc main_arg1) = V (Proc.devRef .tc main_arg1) := by
  simp only [opsD, TRef.binary, TRef.nullary, TRef.ternary, TRef.unary, TRef.quaternary, TRef.toBuf, TRef.ofBuf, cast_eq]; after_results <;> rfl

set_option maxHeartbeats 2000000 in
theorem keepC_main_v14 : after opsC V (Proc.devRef .tc main_v14) = V (Proc.devRef .tc main_v14) := by
  simp only [opsC, TRef.binary, TRef.nullary, TRef.ternary, TRef.unary, TRef.quaternary, TRef.toBuf, TRef.ofBuf, cast_eq]; after_results <;> rfl

/-- The summed squares of the differences between the rows taken and the tokens. -/
def sqsum (q x : FVec F S32768x64 .f32) : FVec F S_ .f32 :=
  Host.reduceAdd (mulf (subf q x) (subf q x)) (constant S_ .f32 0x00000000#32) reducesTo_S32768x64_S_d0_1 h_S_

/-- The table with 64 columns of zeros after its own. -/
def padded (e : FVec F S1024x64 .f32) : FVec F S1024x128 .f32 :=
  pad S1024x128 ![0, 0] ![0, 64] ![0, 0] e (sitofp .f32 (constantI S_ 32 0#32)) pads_S1024x64_S1024x128_000_0640 h_S_

set_option maxHeartbeats 2000000 in
/-- The last stretch leaves the codes, -/
theorem afterD_codes : after opsD V (Proc.devRef .tc main_v20) = shapeCast S256x128 (V (Proc.devRef .tc main_v14)) shapeCasts_S32768_S256x128 := by
  simp only [opsD, TRef.binary, TRef.unary, TRef.toBuf, TRef.ofBuf, cast_eq]; after_results <;> rfl

set_option maxHeartbeats 2000000 in
/-- the sum -/
theorem afterD_sum : after opsD V (Proc.devRef .tc main_v21) = shapeCast S1x1 (sqsum (V (Proc.devRef .tc main_v15)) (V (Proc.devRef .tc main_arg0))) shapeCasts_S_S1x1 := by
  simp only [opsD, TRef.binary, TRef.unary, TRef.toBuf, TRef.ofBuf, cast_eq]; after_results <;> rfl

set_option maxHeartbeats 2000000 in
/-- and the padded table. -/
theorem afterD_table : after opsD V (Proc.devRef .tc main_v19) = padded (V (Proc.devRef .tc main_arg1)) := by
  simp only [opsD, TRef.binary, TRef.unary, TRef.toBuf, TRef.ofBuf, cast_eq]; after_results <;> rfl

/-- THE RUN: the codes, the sum and the padded table, of the arguments as launched; the arguments as they were. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v20) = shapeCast S256x128 (near (dists (m ((c.tc : Thread nD τ).loc main_arg0)) (m ((c.tc : Thread nD τ).loc main_arg1)))) shapeCasts_S32768_S256x128
      ∧ r.2.mem ((c.tc : Thread nD τ).loc main_v21) = shapeCast S1x1 (sqsum (rows (m ((c.tc : Thread nD τ).loc main_arg1)) (near (dists (m ((c.tc : Thread nD τ).loc main_arg0)) (m ((c.tc : Thread nD τ).loc main_arg1))))) (m ((c.tc : Thread nD τ).loc main_arg0))) shapeCasts_S_S1x1
      ∧ r.2.mem ((c.tc : Thread nD τ).loc main_v19) = padded (m ((c.tc : Thread nD τ).loc main_arg1))) ∧ r.2.sem = fun _ => 0 := by
  refine (θ_run defs _ _).mono (fun r h => ⟨fun c => ⟨(h c main_arg0).trans ?_, (h c main_arg1).trans ?_, (h c main_v20).trans ?_, (h c main_v21).trans ?_,
      (h c main_v19).trans ?_⟩, sem_eq_zero_of_no_sems (by decide) r.2⟩)
    (run_seq scopedRefs_eq scopedSems_eq defs main (fun _ => ops) main_eq (fun _ => ops_sub) m ρ)
  · rw [after_app, after_app, after_app, keepD_main_arg0, keepC_main_arg0, keepB_main_arg0, keepA_main_arg0]
  · rw [after_app, after_app, after_app, keepD_main_arg1, keepC_main_arg1, keepB_main_arg1, keepA_main_arg1]
  · rw [after_app, after_app, after_app, afterD_codes, keepC_main_v14, afterB, afterA]
  · rw [after_app, after_app, after_app, afterD_sum, afterC, keepC_main_arg0, keepB_main_arg0, keepB_main_arg1, keepA_main_arg0, keepA_main_arg1, afterB, afterA]
  · rw [after_app, after_app, after_app, afterD_table, keepC_main_arg1, keepB_main_arg1, keepA_main_arg1]

end Cert.Proof.CodesReferenceRun

end
-- ==== Proof.CodesValue.lean ====
/-
  The distance call against its reference: the same codes, the same sum and the same padded table, for finite tokens and
  a finite table. And the reference's own frame.
-/
module

public import proofs.«01_k».proof.Proof.CodesIdealRun
public import proofs.«01_k».proof.Proof.CodesIdealArrays
public import proofs.«01_k».proof.Proof.CodesReferenceRun
public import proofs.«01_k».proof.Proof.ReferenceMath
public import proofs.«01_k».proof.Proof.Take
public import proofs.«01_k».proof.Proof.Gen.Pre_finite_tokens
public import proofs.«01_k».proof.Defs
public import Idealize.ShloMosaic.Lib.KernelVsHost

@[expose] public section

set_option maxRecDepth 16384

noncomputable section

namespace Cert.Proof.CodesClaims

open Idealize.ShloMosaic hiding ix0 ix1 ix2 ix3 eq_ix1 eq_ix2 eq_ix3 sum_idx2
open Idealize.ShloMosaic.ValueIdx Idealize.ShloMosaic.Routing Idealize.ShloMosaic.TcCoe Idealize.SL.Sem
open Cert.Proof.Nearest Cert.Proof.ReferenceMath
open scoped BigOperators

theorem red_tokens : (shape2 32768 64).Reduces [1] (shape1 32768) := by decide
theorem red_rows : (shape2 1024 64).Reduces [1] (shape1 1024) := by decide
theorem red_dists : (shape2 32768 1024).Reduces [1] (shape1 32768) := by decide

/-- The reference's code of one token, as the pair reduction's second half, -/
theorem near_fun (D : FVec Ideal Cert.CodesReferenceIdeal.S32768x1024 .f32) :
    CodesReferenceRun.near (F := Ideal) D = fun j => (Host.argReduce (F := Ideal) (φ := .f32) Cert.CodesReferenceIdeal.reducer_argmin_f32_i32 D (iotaInDim Cert.CodesReferenceIdeal.S32768x1024 32 1)
      (constant (F := Ideal) Cert.CodesReferenceIdeal.S_ .f32 0x7F800000#32) (constantI Cert.CodesReferenceIdeal.S_ 32 0#32) Cert.CodesReferenceIdeal.Gen.reducesTo_S32768x1024_S32768_d1 Cert.CodesReferenceIdeal.Gen.h_S_ j).2 := rfl

theorem keeps_ref : Keeps (Cert.CodesReferenceIdeal.reducer_argmin_f32_i32 (F := Ideal)) := keeps_argmin

theorem places (i : (shape2 32768 1024).Idx) : iotaInDim Cert.CodesReferenceIdeal.S32768x1024 32 1 i = BitVec.ofNat 32 (i 1).val := rfl

/-- which is the first place of the smallest entry. -/
theorem near_first (D : FVec Ideal (shape2 32768 1024) .f32) (j : (shape1 32768).Idx) :
    CodesReferenceRun.near (F := Ideal) D j = BitVec.ofNat 32 (first fun k => D (ix2 (j 0) k)).val :=
  (congrFun (near_fun D) j).trans (argReduce_first keeps_ref D (iotaInDim Cert.CodesReferenceIdeal.S32768x1024 32 1)
    (constant (F := Ideal) Cert.CodesReferenceIdeal.S_ .f32 0x7F800000#32) (constantI Cert.CodesReferenceIdeal.S_ 32 0#32) Cert.CodesReferenceIdeal.Gen.reducesTo_S32768x1024_S32768_d1 Cert.CodesReferenceIdeal.Gen.h_S_
    red_dists places (fun _ => top_word) (fun _ => rfl) j)

section Reference
variable (x : FVec Ideal (shape2 32768 64) .f32) (e : FVec Ideal (shape2 1024 64) .f32) (hx : RealArr x) (he : RealArr e)
include hx he

/-- The reference's distances are the squared distances, -/
theorem ref_dists (t : Fin 32768) (k : Fin 1024) : CodesReferenceRun.dists (F := Ideal) x e (ix2 t k) = DD x e t k := by
  unfold CodesReferenceRun.dists
  exact dists_apply x e hx he _ _ _ _ _ _ _ red_tokens red_rows _ _ t k

/-- its codes the first nearest rows, -/
theorem ref_near (j : (shape1 32768).Idx) : CodesReferenceRun.near (F := Ideal) (CodesReferenceRun.dists (F := Ideal) x e) j = BitVec.ofNat 32 (first (DD x e (j 0))).val :=
  (near_first _ j).trans (congrArg (fun f => BitVec.ofNat 32 (first f).val) (funext fun k => ref_dists x e hx he (j 0) k))

theorem near_toNat (j : (shape1 32768).Idx) :
    (CodesReferenceRun.near (F := Ideal) (CodesReferenceRun.dists (F := Ideal) x e) j).toNat = (first (DD x e (j 0))).val := by
  rw [ref_near x e hx he j, BitVec.toNat_ofNat]
  exact Nat.mod_eq_of_lt (lt_trans (first (DD x e (j 0))).isLt (by norm_num))

/-- and its rows those. -/
theorem ref_rows (t : Fin 32768) (k : Fin 64) :
    CodesReferenceRun.rows (F := Ideal) e (CodesReferenceRun.near (F := Ideal) (CodesReferenceRun.dists (F := Ideal) x e)) (ix2 t k) = e (ix2 (first (DD x e t)) k) := by
  unfold CodesReferenceRun.rows CodesReferenceRun.moved
  exact Take.take_rows (CodesReferenceRun.near (F := Ideal) (CodesReferenceRun.dists (F := Ideal) x e)) e _ _ rfl rfl rfl rfl rfl _ _ _ _ _ _ _ _ _ _ rfl rfl t k _
    (fun j => lt_of_eq_of_lt (near_toNat x e hx he j) (Fin.isLt _)) (near_toNat x e hx he (ix1 t))

end Reference

/-- The printed precondition makes every entry a real number. -/
theorem real_args (x : FVec Ideal Cert.Pre_finite_tokens.S32768x64 .f32) (e : FVec Ideal Cert.Pre_finite_tokens.S1024x64 .f32)
    (h : Cert.Pre_finite_tokens.fn (F := Ideal) x e = fun _ => 1#1) : RealArr x ∧ RealArr e := by
  dsimp only [Cert.Pre_finite_tokens.fn] at h
  haveI : Subsingleton Cert.Pre_finite_tokens.S_.Idx := ⟨fun a b => funext fun i => i.elim0⟩
  obtain ⟨h1, h2⟩ := bits_and (congrFun h ix0)
  exact ⟨fun j => real_of_bit _ _ ((broadcastInDim_scalar_apply _ _ _).trans top_word) (Host.reduce_andi_all _ _ _ _ (fun a => a.elim0) h1 j),
    fun j => real_of_bit _ _ ((broadcastInDim_scalar_apply _ _ _).trans top_word) (Host.reduce_andi_all _ _ _ _ (fun a => a.elim0) h2 j)⟩

/-- THE VALUE CLAIM: the codes, the sum of the smallest distances and the padded table. -/
theorem value : Cert.algebraic_CodesIdeal_CodesReferenceIdeal_pre_finite_tokens := fun m g m' g' hpre hargs => by
  refine ⟨fun c => CodesIdealArrays.codes (CodesIdealRun.A0 m) c, fun c => fun _ => CodesIdealArrays.total (CodesIdealRun.A0 m) c,
    fun c => CodesIdealArrays.table (CodesIdealRun.A0 m) c,
    (θ_run Cert.CodesIdeal.defs _ _).mono (fun r h c => ⟨((h.1 c).1 2).trans (CodesIdealArrays.arr_codes (CodesIdealRun.A0 m) c _ _),
      ((h.1 c).1 3).trans (CodesIdealArrays.arr_total (CodesIdealRun.A0 m) c _ _), ((h.1 c).1 4).trans (CodesIdealArrays.arr_table (CodesIdealRun.A0 m) c _ _),
      ((h.1 c).1 0).trans ((CodesIdealRun.dats m 0 c).arrAt_in 0 rfl _), ((h.1 c).1 1).trans ((CodesIdealRun.dats m 0 c).arrAt_in 1 rfl _)⟩)
      (CodesIdealRun.run_main m g),
    (θ_run Cert.CodesReferenceIdeal.defs _ _).mono (fun r h c => ⟨(h.1 c).2.2.1.trans ?_, (h.1 c).2.2.2.1.trans ?_, (h.1 c).2.2.2.2.trans ?_,
      (h.1 c).1, (h.1 c).2.1⟩) (CodesReferenceRun.run m' g')⟩
  · rw [(hargs c).1, (hargs c).2]
    obtain ⟨hx, he⟩ := real_args _ _ (hpre c)
    funext (i : (shape2 256 128).Idx)
    have h0 : (i 0).val < 256 := (i 0).isLt
    have h1 : (i 1).val < 128 := (i 1).isLt
    refine (shapeCast_apply _ _ i (ix1 (⟨(i 0).val * 128 + (i 1).val, by omega⟩ : Fin 32768)) ?_).trans ?_
    · rw [Shape.rowMajor_val_one, Shape.rowMajor_val_two]; rfl
    · exact ref_near _ _ hx he _
  · rw [(hargs c).1, (hargs c).2]
    obtain ⟨hx, he⟩ := real_args _ _ (hpre c)
    funext (i : (shape2 1 1).Idx)
    refine (shapeCast_apply _ _ i ix0 ?_).trans ?_
    · have h0 : (i 0).val < 1 := (i 0).isLt
      have h1 : (i 1).val < 1 := (i 1).isLt
      rw [Shape.rowMajor_val_two]
      exact (Nat.lt_one_iff.mp (lt_of_lt_of_eq (shape0.rowMajor ix0).isLt (by decide))).trans
        (show 0 = (i 0).val * 1 + (i 1).val by omega)
    · refine (allSum _ _ _ (fun b => b.elim0) _).trans ?_
      exact sum_sq _ _ hx he _ fun t k => ref_rows _ _ hx he t k
  · rw [(hargs c).2]
    funext (i : (shape2 1024 128).Idx)
    have hi := eq_ix2 i
    generalize i 0 = r at hi
    generalize i 1 = k at hi
    subst hi
    refine Eq.trans ?_ (CodesIdealBlock.pay5_apply _ r k).symm
    by_cases hk : k.val < 64
    · rw [dif_pos hk]
      exact pad_apply_of_inside _ _ _ _ _ _ _ _ (ix2 r (⟨k.val, hk⟩ : Fin 64)) fun a => by
        match a with
        | ⟨0, _⟩ => show r.val = 0 + r.val * (0 + 1); omega
        | ⟨1, _⟩ => show k.val = 0 + k.val * (0 + 1); omega
    · rw [dif_neg hk]
      refine (pad_apply_of_not_inside _ _ _ _ _ _ _ _ (1 : Fin 2) fun h => ?_).trans ?_
      · have h2 : (k.val - 0) / (0 + 1) < 64 := h.2.2
        omega
      · show (((0#32 : BitVec 32).toInt : ℝ) : EReal) = 0
        simp

/-- The reference runs and leaves its arguments and every counter as they were. -/
theorem frame_reference : Cert.quiescent_CodesReferenceIdeal := fun m g _ =>
  (θ_run Cert.CodesReferenceIdeal.defs _ _).mono (fun r h => ⟨fun c => ⟨(h.1 c).1, (h.1 c).2.1⟩, h.2⟩) (CodesReferenceRun.run m g)

theorem frame_reference_pre : Cert.quiescent_CodesReferenceIdeal_pre_finite_tokens := fun m g _ => frame_reference m g trivial

/-- The call runs, at either instance, from any memory. -/
theorem frame_ideal : Cert.quiescent_CodesIdeal := fun m g _ => CodesIdealRun.frame m g
theorem frame_ideal_pre : Cert.quiescent_CodesIdeal_pre_finite_tokens := fun m g _ => CodesIdealRun.frame m g

end Cert.Proof.CodesClaims

end
-- ==== Proof.LookupIdealTile.lean ====
/-
  The SparseCore lookup, one tile's task. Tile `(c, s)` serves the 1024 codes from `2048 s + 1024 c` on, in two
  chunks of 512: it copies the chunk's codes into its index scratch, gathers the table's rows they name into its row
  scratch, and copies those rows out to the same 512 rows of the result. The codes and the table are read by every
  tile, so each goes out as a thirty-second share; the result's rows go out chunk by chunk, each chunk to one tile.
  The values are carried throughout: a tile brings back its chunks of ONE array, `want` — row `t` is the table's row
  named by code `t`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.LookupIdeal
public import proofs.«01_k».proof.Proof.Gen.LookupIdeal.Skeleton

@[expose] public section

noncomputable section

namespace Cert.Proof.LookupIdealRun

open Cert.LookupIdeal Cert.LookupIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' cells are what the launch theorem takes them for. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Ghost state: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev tLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

local notation "tV" => (Memref.whole Cert.LookupIdeal.main_arg0_scv : Memref Cert.LookupIdeal.sig Kind.scVector Space.hbm Cert.LookupIdeal.S1024x128 EltTy.f32)
local notation "iV" => (Memref.whole Cert.LookupIdeal.main_arg1_scv : Memref Cert.LookupIdeal.sig Kind.scVector Space.hbm Cert.LookupIdeal.S32768 EltTy.i32)
local notation "oV" => (Memref.whole Cert.LookupIdeal.main_v0_scv : Memref Cert.LookupIdeal.sig Kind.scVector Space.hbm Cert.LookupIdeal.S32768x128 EltTy.f32)
local notation "sV" => (Memref.whole Cert.LookupIdeal.cc0_scratch0 : Memref Cert.LookupIdeal.sig Kind.scVector Space.vmem Cert.LookupIdeal.S512 EltTy.i32)
local notation "rV" => (Memref.whole Cert.LookupIdeal.cc0_scratch1 : Memref Cert.LookupIdeal.sig Kind.scVector Space.vmem Cert.LookupIdeal.S512x128 EltTy.f32)

/-! ## The result's chunks -/

theorem odiv : 64 ∣ S32768x128.size 0 := ⟨512, rfl⟩

/-- Chunk `k` of tile `(c, s)`, among the result's 64. -/
def chunk (c : Fin 2) (s : Fin 16) (k : Fin 2) : Fin 64 := ⟨4 * s.val + 2 * c.val + k.val, by omega⟩

theorem chunk_inj {c c' : Fin 2} {s s' : Fin 16} {k k' : Fin 2} (h : chunk c s k = chunk c' s' k') : c = c' ∧ s = s' ∧ k = k' := by
  have := congrArg Fin.val h
  simp only [chunk] at this
  refine ⟨Fin.ext ?_, Fin.ext ?_, Fin.ext ?_⟩ <;> omega

theorem chunk_surj (i : Fin 64) : ∃ c s k, chunk c s k = i :=
  ⟨⟨i.val / 2 % 2, by omega⟩, ⟨i.val / 4, by omega⟩, ⟨i.val % 2, by omega⟩, Fin.ext (by simp only [chunk]; omega)⟩

abbrev orow (i : Fin 64) : Rect S32768x128 := Rect.part (s := S32768x128) (a₀ := 0) odiv i
abbrev oSet (i : Fin 64) : Finset S32768x128.Idx := ((oV).view.slice (orow i)).set

theorem oSet_eq (i : Fin 64) : oSet i = (orow i).set := by
  show ((View.whole (main_v0_scv : Ref sig .scVector)).slice (orow i)).set = _
  rw [View.set_slice]; exact Finset.map_refl

theorem oSet_disjoint {i j : Fin 64} (h : i ≠ j) : Disjoint (oSet i) (oSet j) := by
  rw [oSet_eq, oSet_eq]; exact Rect.part_disjoint odiv h

theorem oSet_cover : (Finset.univ : Finset (Fin 64)).biUnion oSet = Finset.univ :=
  (Finset.biUnion_congr rfl fun i _ => oSet_eq i).trans (Rect.biUnion_part odiv)

/-! ## Shares of the table and of the codes -/

/-- SparseCore `c`'s half, and tile `(c, s)`'s sixteenth of that. -/
abbrev qC (c : Fin 2) : PosShare TreeShare := pieceOf fullShare 2 (by decide) c
abbrev qT (c : Fin 2) (s : Fin 16) : PosShare TreeShare := pieceOf (qC c) 16 (by decide) s

/-! ## What the handshakes carry

The call's contents: the table `tab`, the codes `idx`, and what the result's array held before, `o₀`. -/

variable (tab : (d : Dev nD) → Buf (Elt F) (tLoc d)) (idx : (d : Dev nD) → Buf (Elt F) (iLoc d)) (o₀ : (d : Dev nD) → Buf (Elt F) (oLoc d))

/-- The table's row that a word names (the row its residue names, should it name none). -/
def rowOf (v : BitVec 32) : Fin 1024 := ⟨v.toNat % 1024, Nat.mod_lt _ (by decide)⟩

/-- The array the tiles leave: row `t` is the table's row named by code `t`. -/
def want (d : Dev nD) : Buf (Elt F) (oLoc d) := fun (j : S32768x128.Idx) =>
  tab d ((fun | 0 => rowOf (idx d ((fun | 0 => j 0) : S32768.Idx)) | 1 => j 1) : S1024x128.Idx)

/-- Every code names a row of the table. -/
def CodesOK : Prop := ∀ (d : Dev nD) (j : S32768.Idx), (idx d j).toNat < 1024

abbrev oPts (d : Dev nD) (c : Fin 2) (s : Fin 16) (f : Buf (Elt F) (oLoc d)) : sProp 𝕄 :=
  iprop((oLoc d ↦[oSet (chunk c s 0)]{fullShare} f) ∗ (oLoc d ↦[oSet (chunk c s 1)]{fullShare} f))

/-- What SparseCore `c` is handed: its share of table and codes, its tiles' chunks of the result, at `f`. -/
abbrev corePts (d : Dev nD) (c : Fin 2) (f : Buf (Elt F) (oLoc d)) : sProp 𝕄 :=
  iprop((tLoc d ↦{qC c} tab d) ∗ (iLoc d ↦{qC c} idx d) ∗ bigSep Finset.univ fun s : Fin 16 => oPts d c s f)

/-- What tile `(c, s)` is handed. -/
abbrev tilePts (d : Dev nD) (c : Fin 2) (s : Fin 16) (f : Buf (Elt F) (oLoc d)) : sProp 𝕄 :=
  iprop((tLoc d ↦{qT c s} tab d) ∗ (iLoc d ↦{qT c s} idx d) ∗ oPts d c s f)

def P : (K (F := F)).Pay (nD := nD) (Val := Elt F) (Name := ℕ) (U := UU) where
  st := fun q d c => match q with | 0 => corePts tab idx d (Fin.cast nCore_zero c) (o₀ d)
  dn := fun q d c => match q with | 0 => corePts tab idx d (Fin.cast nCore_zero c) (want tab idx d)
  go := fun q d c i => match q with | 0 => tilePts tab idx d (Fin.cast nCore_zero c) (Fin.cast nSub_zero i) (o₀ d)
  td := fun q d c i => match q with | 0 => tilePts tab idx d (Fin.cast nCore_zero c) (Fin.cast nSub_zero i) (want tab idx d)
  x := fun _ _ => iprop(emp)

instance P_storable : (P (F := F) tab idx o₀).IsStorable where
  st q d c := match q with
    | 0 => (inferInstance : BI.Storable (upEmb : UEmb _ 𝕄) (corePts tab idx d (Fin.cast nCore_zero c) (o₀ d)))
  dn q d c := match q with
    | 0 => (inferInstance : BI.Storable (upEmb : UEmb _ 𝕄) (corePts tab idx d (Fin.cast nCore_zero c) (want tab idx d)))
  go q d c i := match q with
    | 0 => (inferInstance : BI.Storable (upEmb : UEmb _ 𝕄) (tilePts tab idx d (Fin.cast nCore_zero c) (Fin.cast nSub_zero i) (o₀ d)))
  td q d c i := match q with
    | 0 => (inferInstance : BI.Storable (upEmb : UEmb _ 𝕄) (tilePts tab idx d (Fin.cast nCore_zero c) (Fin.cast nSub_zero i) (want tab idx d)))

variable [FloatOps F]

/-! ## The task -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

abbrev cw (k : Fin 2) : BitVec 32 := BitVec.ofNat 32 (512 * k.val)

/-- Chunk `k` of the codes and of the result, and all of the table, as the task addresses them. -/
abbrev iCh (L : grid0.Coords) (k : Fin 2) : Memref sig .scVector .hbm S512 .i32 :=
  (iV).slice (Rect.unit (s := S32768) (k0_off1 L (cw k)) S512.size (k0_off1_inb L k)) (fun _ => rfl)
abbrev oCh (L : grid0.Coords) (k : Fin 2) : Memref sig .scVector .hbm S512x128 .f32 :=
  (oV).slice (Rect.unit (s := S32768x128) (k0_off2 L (cw k)) S512x128.size (k0_off2_inb L k)) (fun _ => rfl)
abbrev tAll : Memref sig .scVector .hbm S1024x128 .f32 :=
  (tV).slice (Rect.unit (s := S1024x128) ![0, 0] S1024x128.size inb_S1024x128_S1024x128_0_0) (fun _ => rfl)

theorem orowK_eq (k : Fin 2) :
    Rect.unit (s := S32768x128) (k0_off2 L (cw k)) S512x128.size (k0_off2_inb L k) = orow (chunk (cL L) (jL L) k) := by
  unfold orow Rect.part Rect.block
  congr 1 <;> funext a
  · rw [k0_off2_eq]
    match a with
    | 0 => simp [Shape.partIx, Shape.partSize, chunk]; omega
    | 1 => simp [Shape.partIx, Shape.partSize]
  · match a with
    | 0 => simp [Shape.partSize]
    | 1 => simp [Shape.partSize]

theorem set_oCh (k : Fin 2) : (oCh L k).view.set = oSet (chunk (cL L) (jL L) k) := by
  show ((oV).view.slice (Rect.unit (s := S32768x128) (k0_off2 L (cw k)) S512x128.size (k0_off2_inb L k))).set
    = ((oV).view.slice (orow (chunk (cL L) (jL L) k))).set
  exact orowK_eq L k ▸ rfl

/-- A chunk's element, by its coordinates in the whole array. -/
theorem emb_oCh (k : Fin 2) (x : S512x128.Idx) :
    (((oCh L k).view.emb x 0).val = 2048 * (L 1).val + 1024 * (L 0).val + 512 * k.val + (x 0).val) ∧ ((oCh L k).view.emb x 1).val = (x 1).val := by
  have h (a : Fin 2) : ((oCh L k).view.emb x a).val = k0_off2 L (cw k) a + 1 * (x a).val := rfl
  constructor
  · rw [h, k0_off2_eq]; simp
  · rw [h, k0_off2_eq]; simp

theorem emb_iCh (k : Fin 2) (x : S512.Idx) :
    ((iCh L k).view.emb x 0).val = 2048 * (L 1).val + 1024 * (L 0).val + 512 * k.val + (x 0).val := by
  have h : ((iCh L k).view.emb x 0).val = k0_off1 L (cw k) 0 + 1 * (x 0).val := rfl
  rw [h, k0_off1_eq]; simp

omit [FloatOps F] in
theorem pts_oCh (k : Fin 2) (f : Buf (Elt F) (oLoc d)) :
    ((oCh L k).view.loc (V d (cV L) (jV L)) ↦[(oCh L k).view.set]{fullShare} f : sProp 𝕄) = oLoc d ↦[oSet (chunk (cL L) (jL L) k)]{fullShare} f := by
  rw [set_oCh]
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_iV (q : PosShare TreeShare) (f : Buf (Elt F) (iLoc d)) :
    ((iV).view.loc (V d (cV L) (jV L)) ↦{q} f : sProp 𝕄) = iLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-! ### The tile's own cells and buffers, taken out of their families -/

abbrev dcell (d : Dev nD) (c : Fin τ.nSC) (i : Fin τ.nSub) (s : DmaSem sig) : GSem nD τ sig := (V d c i, .dma s)

omit [FloatOps F] in
theorem dcell_ne {c : Fin τ.nSC} {i : Fin τ.nSub} {s s' : DmaSem sig} (h : s ≠ s') : dcell d c i s ≠ dcell d c i s' :=
  fun e => h (SemLoc.dma.inj (Prod.mk.inj e).2)

omit [FloatOps F] in
theorem dcell_mem {s : DmaSem sig} (h : (SemLoc.dma s : SemLoc sig).isScoped .scVector = true) :
    dcell d (cV L) (jV L) s ∈ ownCells (V d (cV L) (jV L)) := (mem_ownCells (g := dcell d (cV L) (jV L) s)).mpr ⟨rfl, h⟩

/-- What is left of the tile's cells beside the five it uses. -/
abbrev restCells (d : Dev nD) (L : grid0.Coords) : Finset (GSem nD τ sig) :=
  (((((ownCells (V d (cV L) (jV L))).erase (dcell d (cV L) (jV L) cc0_scoped0.sem)).erase (dcell d (cV L) (jV L) cc0_scoped1.sem)).erase
    (dcell d (cV L) (jV L) cc0_scoped2.sem)).erase (dcell d (cV L) (jV L) cc0_scoped3.sem)).erase (dcell d (cV L) (jV L) cc0_scratch2.sem)

omit [FloatOps F] in
theorem ownSems0_V :
    (ownSems0 (V d (cV L) (jV L)) : sProp 𝕄)
      = iprop(semVal (dcell d (cV L) (jV L) cc0_scoped0.sem) 0 ∗ semVal (dcell d (cV L) (jV L) cc0_scoped1.sem) 0
          ∗ semVal (dcell d (cV L) (jV L) cc0_scoped2.sem) 0 ∗ semVal (dcell d (cV L) (jV L) cc0_scoped3.sem) 0
          ∗ semVal (dcell d (cV L) (jV L) cc0_scratch2.sem) 0 ∗ bigSep (restCells d L) fun g => semVal g 0) := by
  unfold SparseCore.Cfg.ownSems0
  rw [SparseCore.bigSep_erase' (dcell_mem d L (s := cc0_scoped0.sem) (by decide)),
    SparseCore.bigSep_erase' (Finset.mem_erase.mpr ⟨dcell_ne d (by decide), dcell_mem d L (s := cc0_scoped1.sem) (by decide)⟩),
    SparseCore.bigSep_erase' (Finset.mem_erase.mpr ⟨dcell_ne d (by decide), Finset.mem_erase.mpr ⟨dcell_ne d (by decide),
      dcell_mem d L (s := cc0_scoped2.sem) (by decide)⟩⟩),
    SparseCore.bigSep_erase' (Finset.mem_erase.mpr ⟨dcell_ne d (by decide), Finset.mem_erase.mpr ⟨dcell_ne d (by decide),
      Finset.mem_erase.mpr ⟨dcell_ne d (by decide), dcell_mem d L (s := cc0_scoped3.sem) (by decide)⟩⟩⟩),
    SparseCore.bigSep_erase' (Finset.mem_erase.mpr ⟨dcell_ne d (by decide), Finset.mem_erase.mpr ⟨dcell_ne d (by decide),
      Finset.mem_erase.mpr ⟨dcell_ne d (by decide), Finset.mem_erase.mpr ⟨dcell_ne d (by decide), dcell_mem d L (s := cc0_scratch2.sem) (by decide)⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ### What a chunk's copies hold -/

omit [FloatOps F] in
/-- What the copy in of a chunk's codes leaves in the index scratch, read as the gather reads it. -/
theorem list_read (k : Fin 2) (fs : Buf (Elt F) ((V d (cV L) (jV L)).loc cc0_scratch0)) (pay : S512.Idx → Elt F .i32)
    (hpay : pay = (iCh L k).view.read (Elt F) (idx d)) (x : S512.Idx) :
    (sV).view.read (Elt F) (View.write (Elt F) (sV).view fs pay Finset.univ) x = idx d ((iCh L k).view.emb x) := by
  subst hpay
  rw [View.write_whole_univ]
  simp only [Memref.view_whole, View.read_whole]
  exact (View.read_apply _ _).trans (cast_eq _ _)

omit [FloatOps F] in
theorem list_inb (h : CodesOK idx) (k : Fin 2) (fs : Buf (Elt F) ((V d (cV L) (jV L)).loc cc0_scratch0)) (pay : S512.Idx → Elt F .i32)
    (hpay : pay = (iCh L k).view.read (Elt F) (idx d)) :
    ∀ x, ((sV).view.read (Elt F) (View.write (Elt F) (sV).view fs pay Finset.univ) x).toNat < S1024x128.size gathers_S1024x128_S512x128.axis := by
  intro x; rw [list_read idx d L k fs pay hpay]; exact h d _

omit [FloatOps F] in
/-- The gathered rows are the chunk's rows of `want`. -/
theorem gathered (h : CodesOK idx) (k : Fin 2) (fs : Buf (Elt F) ((V d (cV L) (jV L)).loc cc0_scratch0)) (pay : S512.Idx → Elt F .i32)
    (hpay : pay = (iCh L k).view.read (Elt F) (idx d)) (hn : S512.numel = S512x128.size (gathers_S1024x128_S512x128).axis')
    (x : S512x128.Idx) :
    SparseCore.gatherPayload gathers_S1024x128_S512x128 ((tAll).view.read (Elt F) (tab d))
        (SparseCore.rows ((sV).view.read (Elt F) (View.write (Elt F) (sV).view fs pay Finset.univ)) hn (list_inb idx d L h k fs pay hpay)) x
      = want tab idx d ((oCh L k).view.emb x) := by
  unfold SparseCore.gatherPayload
  refine (View.read_apply _ _).trans ((cast_eq _ _).trans ?_)
  unfold want
  congr 1
  have hi : (iCh L k).view.emb (S512.rowMajor.symm ((x (gathers_S1024x128_S512x128).axis').cast hn.symm)) = (fun | 0 => (oCh L k).view.emb x 0 : S32768.Idx) := by
    funext a
    match a with
    | 0 =>
      apply Fin.ext
      rw [emb_iCh]
      show _ = ((oCh L k).view.emb x 0).val
      rw [(emb_oCh L k x).1]
      refine congrArg _ ?_
      refine (Shape.rowMajor_val_one _).symm.trans ?_
      show (S512.rowMajor (S512.rowMajor.symm _)).val = _
      rw [Equiv.apply_symm_apply]; rfl
  funext a
  match a with
  | 0 =>
    apply Fin.ext
    show 0 + 1 * ((gathers_S1024x128_S512x128).idx _ x (gathers_S1024x128_S512x128).axis).val = (rowOf _).val
    rw [Shape.Gathers.idx_axis, Nat.zero_add, Nat.one_mul]
    show (View.read (Elt F) (sV).view _ _).toNat = (idx d _).toNat % 1024
    refine (congrArg BitVec.toNat (list_read idx d L k fs pay hpay _)).trans ?_
    refine (congrArg (fun j => (idx d j).toNat) hi).trans ?_
    exact (Nat.mod_eq_of_lt (h d _)).symm
  | 1 =>
    apply Fin.ext
    show 0 + 1 * ((gathers_S1024x128_S512x128).idx _ x 1).val = ((oCh L k).view.emb x 1).val
    rw [(emb_oCh L k x).2, Shape.Gathers.idx_of_ne _ _ _ _ (by decide), Nat.zero_add, Nat.one_mul]; rfl

omit [FloatOps F] in
/-- A chunk of the result with its rows of `want` copied in holds `want`. -/
theorem pts_done (k : Fin 2) (pay : S512x128.Idx → Elt F .f32) (hpay : ∀ x, pay x = want tab idx d ((oCh L k).view.emb x)) :
    ((oCh L k).view.loc (V d (cV L) (jV L)) ↦[(oCh L k).view.set]{fullShare} (oCh L k).view.writes (Elt F) (o₀ d) [⟨Rect.whole S512x128, pay⟩] : sProp 𝕄)
      = oLoc d ↦[oSet (chunk (cL L) (jL L) k)]{fullShare} want tab idx d := by
  rw [← pts_oCh]
  refine pointsTo_congr fun i hi => ?_
  obtain ⟨x, -, rfl⟩ := Finset.mem_map.mp hi
  have e := View.read_writes_cons_emb (oCh L k).view (o₀ d) (Rect.whole S512x128) pay [] x
  rw [Rect.emb_whole_apply, View.read_apply] at e
  exact (cast_eq _ _).symm.trans (e.trans (hpay x))

omit [FloatOps F] in
theorem pts_rV_set (f : Buf (Elt F) ((V d (cV L) (jV L)).loc cc0_scratch1)) :
    ((rV).view.loc (V d (cV L) (jV L)) ↦{fullShare} f : sProp 𝕄) = (rV).view.loc (V d (cV L) (jV L)) ↦[(rV).view.set]{fullShare} f := by
  rw [show (rV).view.set = Finset.univ from View.set_whole _]
omit [FloatOps F] in
theorem pts_sV_set (f : Buf (Elt F) ((V d (cV L) (jV L)).loc cc0_scratch0)) :
    ((sV).view.loc (V d (cV L) (jV L)) ↦{fullShare} f : sProp 𝕄) = (sV).view.loc (V d (cV L) (jV L)) ↦[(sV).view.set]{fullShare} f := by
  rw [show (sV).view.set = Finset.univ from View.set_whole _]
/-- The gathered rows' credits together are the row scratch's. -/
theorem row_credit : ∀ h : S1024x128.Gathers 0 S512x128, ∑ j, ((rV).slice (S512x128.rowRect h.axis' j) (S512x128.stride_rowRect h.axis' j)).view.dmaCredit
      = (rV).view.dmaCredit := by decide +kernel

set_option maxHeartbeats 4000000 in
/-- The task on vector subcore `(L 0, L 1)`: chunk by chunk the codes in, the gather, the rows out, each copy waited
    for before the next; it brings back its chunks of `want`. -/
theorem tile_body (hF : (K (F := F)).Facts) (hok : CodesOK idx) (O : CellTallies nD τ sig (HIx 1)) (W : Waits sig (HIx 1)) (hO : ∀ g, O g none = 0) :
    iprop(levAts (K (F := F)).L (K (F := F)).lev ∗ emp
        ∗ tilePts tab idx d (cL L) (jL L) (o₀ d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L tV (Memref.isWhole_whole _) iV (Memref.isWhole_whole _) oV (Memref.isWhole_whole _)
            sV (Memref.isWhole_whole _) rV (Memref.isWhole_whole _) cc0_scratch2 cc0_scoped0 cc0_scoped1 cc0_scoped2 cc0_scoped3)
          fun _ => iprop(tilePts tab idx d (cL L) (jL L) (want tab idx d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Ht, Hi, ⟨Ho0, Ho1⟩⟩, ⟨⟨%fs, Hs⟩, ⟨%fr, Hr⟩, Hbufs⟩, ⟨Hq0, Hq1, Hq2, Hq3, Hq4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho0' := (Entails.of_eq (pts_oCh (F := F) d L 0 _).symm) $$ Ho0
  ihave Ho1' := (Entails.of_eq (pts_oCh (F := F) d L 1 _).symm) $$ Ho1
  ihave Ht' := (Entails.of_eq (pts_tV (F := F) d L _ _).symm) $$ Ht
  ihave Hi' := (Entails.of_eq (pts_iV (F := F) d L _ _).symm) $$ Hi
  ihave Hs' := (Entails.of_eq (pts_sV (F := F) d L _).symm) $$ Hs
  ihave Hr' := (Entails.of_eq (pts_rV (F := F) d L _).symm) $$ Hr
  sl_exec
  ihave Hxs := (pointsTo_split_subset (q := qT (cL L) (jL L)) (f := tab d) (S := Finset.univ) (Finset.subset_univ (tAll).view.set)).1 $$ Ht'
  icases Hxs with ⟨Hxs, Hxr⟩
  ihave Hr'' := (Entails.of_eq (pts_rV_set (F := F) d L _)) $$ Hr'
  ihave Hs'' := (Entails.of_eq (pts_sV_set (F := F) d L _)) $$ Hs'
  iapply (SparseCore.wp_indirectGatherLocal countersEmb 𝒱₀ (V d (cV L) (jV L)) none (hg := gathers_S1024x128_S512x128) (default : HIx 1)
      (rV).view.dmaCredit (row_credit _) (by decide) (list_inb idx d L hok 0 _ _ rfl)) $$ [Hxs Hr'' Hs'' Hq4]
  · isplitl [Hxs]; · iexact Hxs
    isplitl [Hr'']; · iexact Hr''
    isplitl [Hs'']; · iexact Hs''
    iexact Hq4
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, Hq4, HO⟩
  ihave Ht' := (pointsTo_split_subset (q := qT (cL L) (jL L)) (f := tab d) (S := Finset.univ) (Finset.subset_univ (tAll).view.set)).2 $$ [Hxs Hxr]; · isplitl [Hxs] <;> iassumption
  ihave Hr' := (Entails.of_eq (pts_rV_set (F := F) d L _).symm) $$ Hr'
  ihave Hs' := (Entails.of_eq (pts_sV_set (F := F) d L _).symm) $$ Hs'
  sl_exec
  ihave Hxs := (pointsTo_split_subset (q := qT (cL L) (jL L)) (f := tab d) (S := Finset.univ) (Finset.subset_univ (tAll).view.set)).1 $$ Ht'
  icases Hxs with ⟨Hxs, Hxr⟩
  ihave Hr'' := (Entails.of_eq (pts_rV_set (F := F) d L _)) $$ Hr'
  ihave Hs'' := (Entails.of_eq (pts_sV_set (F := F) d L _)) $$ Hs'
  iapply (SparseCore.wp_indirectGatherLocal countersEmb 𝒱₀ (V d (cV L) (jV L)) none (hg := gathers_S1024x128_S512x128) (default : HIx 1)
      (rV).view.dmaCredit (row_credit _) (by decide) (list_inb idx d L hok 1 _ _ rfl)) $$ [Hxs Hr'' Hs'' Hq4]
  · isplitl [Hxs]; · iexact Hxs
    isplitl [Hr'']; · iexact Hr''
    isplitl [Hs'']; · iexact Hs''
    iexact Hq4
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, Hq4, HO⟩
  ihave Ht' := (pointsTo_split_subset (q := qT (cL L) (jL L)) (f := tab d) (S := Finset.univ) (Finset.subset_univ (tAll).view.set)).2 $$ [Hxs Hxr]; · isplitl [Hxs] <;> iassumption
  ihave Hr' := (Entails.of_eq (pts_rV_set (F := F) d L _).symm) $$ Hr'
  ihave Hs' := (Entails.of_eq (pts_sV_set (F := F) d L _).symm) $$ Hs'
  sl_exec
  sl_step
  have h0 : ∀ x, tile_body.sl.dma0_1 tab idx d L hok fs fr x = want tab idx d ((oCh L 0).view.emb x) := fun x => by
    unfold tile_body.sl.dma0_1
    rw [View.write_whole_univ]
    exact gathered tab idx d L hok 0 fs _ rfl _ x
  have h1 : ∀ x, tile_body.sl.dma0_3 tab idx d L hok fs fr x = want tab idx d ((oCh L 1).view.emb x) := fun x => by
    unfold tile_body.sl.dma0_3
    rw [View.write_whole_univ]
    exact gathered tab idx d L hok 1 _ _ rfl _ x
  isplitl [Hi' Ht' Ho0' Ho1']
  · isplitl [Ht']; · iexact Ht'
    isplitl [Hi']; · iexact Hi'
    isplitl [Ho0']
    · iapply (Entails.of_eq (pts_done tab idx o₀ d L 0 (tile_body.sl.dma0_1 tab idx d L hok fs fr) h0)); iexact Ho0'
    · iapply (Entails.of_eq (pts_done tab idx o₀ d L 1 (tile_body.sl.dma0_3 tab idx d L hok fs fr) h1)); iexact Ho1'
  isplitl [Hs' Hr' Hbufs]
  · isplitl [Hs']; · iexists _; iexact Hs'
    isplitl [Hr']; · iexists _; iexact Hr'
    iexact Hbufs
  isplitl [Hq0 Hq1 Hq2 Hq3 Hq4 Hsems]
  · isplitl [Hq0]; · iexact Hq0
    isplitl [Hq1]; · iexact Hq1
    isplitl [Hq2]; · iexact Hq2
    isplitl [Hq3]; · iexact Hq3
    isplitl [Hq4]; · iexact Hq4
    iexact Hsems
  iexists _; isplitr
  swap; · iexact HO
  ipureintro; intro p hp
  simp only [Finset.mem_insert] at hp
  rcases hp with rfl | rfl | rfl | rfl | rfl | rfl | hp
  all_goals first | exact .inr rfl | exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          tV (Memref.isWhole_whole _) iV (Memref.isWhole_whole _) oV (Memref.isWhole_whole _)
          sV (Memref.isWhole_whole _) rV (Memref.isWhole_whole _) cc0_scratch2 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile runs its task from what it is handed to what it brings back. -/
theorem tileObl (hF : (K (F := F)).Facts) (hok : CodesOK idx) : (K (F := F)).TileObl (D (F := F)) 𝒱 (P tab idx o₀) v₀ 0 := by
  intro d c i O W hO _ _
  simp only [show (P tab idx o₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tab idx o₀ d (coordsV ⟨_, hci.1⟩ ⟨_, hci.2⟩) hF hok O W hO).trans (wp_mono frame _ _ fun _ => obl_post)

end Tile

/-! ## The operands split and join -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- A SparseCore's operands are its tiles' together. -/
theorem corePts_tiles (d : Dev nD) (c : Fin 2) (f : Buf (Elt F) (oLoc d)) :
    (corePts tab idx d c f : sProp 𝕄) = bigSep Finset.univ fun s : Fin 16 => tilePts tab idx d c s f := by
  rw [bigSep_sep', bigSep_sep', ← pointsTo_piecesOf, ← pointsTo_piecesOf]

omit [FloatOps F] in
/-- The result's array is its chunks, SparseCore by SparseCore and tile by tile. -/
theorem oPts_chunks (d : Dev nD) (f : Buf (Elt F) (oLoc d)) :
    (oLoc d ↦{fullShare} f : sProp 𝕄) = bigSep Finset.univ fun c : Fin 2 => bigSep Finset.univ fun s : Fin 16 => oPts d c s f := by
  have h := pointsTo_biUnion (Ix := HIx 1) (Name := ℕ) (U := UU) (Lvl := ℕ) (ℓ := oLoc d) (q := fullShare) (f := f) (Finset.univ : Finset (Fin 2 × Fin 16 × Fin 2))
    (fun t => oSet (chunk t.1 t.2.1 t.2.2)) (fun t _ t' _ hne => oSet_disjoint fun e => hne (by
      obtain ⟨h1, h2, h3⟩ := chunk_inj e
      exact Prod.ext h1 (Prod.ext h2 h3)))
  have hc : (Finset.univ : Finset (Fin 2 × Fin 16 × Fin 2)).biUnion (fun t => oSet (chunk t.1 t.2.1 t.2.2)) = Finset.univ := by
    refine Finset.eq_univ_iff_forall.mpr fun j => ?_
    obtain ⟨i, -, hi⟩ := Finset.mem_biUnion.mp (oSet_cover ▸ Finset.mem_univ j)
    obtain ⟨c, s, k, rfl⟩ := chunk_surj i
    exact Finset.mem_biUnion.mpr ⟨(c, s, k), Finset.mem_univ _, hi⟩
  rw [hc] at h
  rw [h, bigSep_univ_prod]
  refine bigSep_congr fun c _ => ?_
  rw [bigSep_univ_prod]
  refine bigSep_congr fun s _ => ?_
  rw [show (Finset.univ : Finset (Fin 2)) = {0, 1} by decide, SparseCore.bigSep_insert' (by decide), bigSep_singleton]

omit [FloatOps F] in
/-- The call's operands are the two SparseCores' together. -/
theorem all_cores (d : Dev nD) (f : Buf (Elt F) (oLoc d)) :
    (iprop((tLoc d ↦{fullShare} tab d) ∗ (iLoc d ↦{fullShare} idx d) ∗ (oLoc d ↦{fullShare} f)) : sProp 𝕄)
      = bigSep Finset.univ fun c : Fin 2 => corePts tab idx d c f := by
  rw [bigSep_sep', bigSep_sep', ← pointsTo_piecesOf, ← pointsTo_piecesOf, ← oPts_chunks]

theorem vecSplit : (K (F := F)).VecSplit' (P tab idx o₀) 0 := by
  intro d c
  show corePts tab idx d (Fin.cast nCore_zero c) (o₀ d) ⊢ |={Set.univ}=> iprop(
      (bigSep Finset.univ fun i : Fin ((K (F := F)).nSub 0) => tilePts tab idx d (Fin.cast nCore_zero c) (Fin.cast nSub_zero i) (o₀ d))
      ∗ ((bigSep Finset.univ fun i : Fin ((K (F := F)).nSub 0) => tilePts tab idx d (Fin.cast nCore_zero c) (Fin.cast nSub_zero i) (want tab idx d))
          -∗ corePts tab idx d (Fin.cast nCore_zero c) (want tab idx d)))
  rw [bigSep_tasks (F := F) (fun i => tilePts tab idx d (Fin.cast nCore_zero c) i (o₀ d)),
    bigSep_tasks (F := F) (fun i => tilePts tab idx d (Fin.cast nCore_zero c) i (want tab idx d)), ← corePts_tiles, ← corePts_tiles]
  iintro H; imodintro
  isplitl [H]; · iexact H
  iintro H; iexact H

theorem st_eq (d : Dev nD) : (bigSep Finset.univ fun c : Fin ((K (F := F)).nCore 0) => (P tab idx o₀).st 0 d c)
    = iprop((tLoc d ↦{fullShare} tab d) ∗ (iLoc d ↦{fullShare} idx d) ∗ (oLoc d ↦{fullShare} o₀ d)) :=
  (bigSep_cores (F := F) (fun c => corePts tab idx d c (o₀ d))).trans (all_cores tab idx d _).symm
theorem dn_eq (d : Dev nD) : (bigSep Finset.univ fun c : Fin ((K (F := F)).nCore 0) => (P tab idx o₀).dn 0 d c)
    = iprop((tLoc d ↦{fullShare} tab d) ∗ (iLoc d ↦{fullShare} idx d) ∗ (oLoc d ↦{fullShare} want tab idx d)) :=
  (bigSep_cores (F := F) (fun c => corePts tab idx d c (want tab idx d))).trans (all_cores tab idx d _).symm

end Cert.Proof.LookupIdealRun

end
-- ==== Proof.LookupIdealLaunch.lean ====
/-
  The lookup's run: from any memory whose codes all name rows, every execution ends with the result `want` of the table
  and the codes, with the two arguments as they were and with every semaphore at zero.
-/
module

public import proofs.«01_k».proof.Proof.LookupIdealTile
public import proofs.«01_k».proof.Proof.Gen.Pre_in_rows
public import Idealize.ShloMosaic.Lib.ReduceAll
public import Idealize.ShloMosaic.Lib.Affine

@[expose] public section

noncomputable section

namespace Cert.Proof.LookupIdealRun

open Cert.LookupIdeal Cert.LookupIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A word that is non-negative as a signed word and below 1024 is its own value below 1024. -/
theorem word_lt {v : BitVec 32} (e : IntOp.andi (IntOp.cmpi .sge v 0#32) (IntOp.cmpi .slt v 1024#32) = 1#1) : v.toNat < 1024 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The printed precondition bounds every code. -/
theorem codes_lt (x : FVec F Cert.Pre_in_rows.S1024x128 .f32) (v : IVec Cert.Pre_in_rows.S32768 32)
    (h : Cert.Pre_in_rows.fn (F := F) x v = fun _ => 1#1) (j : Cert.Pre_in_rows.S32768.Idx) : (v j).toNat < 1024 := by
  dsimp only [Cert.Pre_in_rows.fn] at h
  haveI : Subsingleton Cert.Pre_in_rows.S_.Idx := ⟨fun a b => funext fun i => i.elim0⟩
  exact word_lt (Host.reduce_andi_all _ _ _ _ (fun a => a.elim0) (congrFun h _) j)

variable (m : (ℓ : Loc nD τ sig) → Buf (Elt F) ℓ) (ρ : Dev nD → PrngReg)

/-- What the call reads and writes, per device, from the launch memory. -/
abbrev tab0 (d : Dev nD) : Buf (Elt F) (tLoc d) := m (tLoc d)
abbrev idx0 (d : Dev nD) : Buf (Elt F) (iLoc d) := m (iLoc d)
abbrev out0 (d : Dev nD) : Buf (Elt F) (oLoc d) := m (oLoc d)

abbrev P0 := P (tab0 m) (idx0 m) (out0 m)

omit [FloatOps F] in
theorem bigSep_nothing {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P0 m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P0 m).x q thr) = bigSep Finset.univ fun _ => iprop(emp) from
    bigSep_congr fun _ _ => bigSep_univ_of_subsingleton (0 : Fin 1), bigSep_nothing]
  iempintro

omit [FloatOps F] in
theorem unscopedBufs_eq (d : Dev nD) (W : (b : Ref sig .tc) → Buf (Elt F) ((d.tc : Thread nD τ).loc b)) :
    (unscopedBufs d W : sProp 𝕄) = iprop((tLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the program ends with. -/
abbrev FIN (d : Dev nD) : sProp 𝕄 :=
  iprop((tLoc d ↦{fullShare} tab0 m d) ∗ (iLoc d ↦{fullShare} idx0 m d) ∗ (oLoc d ↦{fullShare} want (tab0 m) (idx0 m) d))

/-- @main: the one call, from the three arrays, back to them with the result written. -/
theorem hmain (κ : GSem nD τ sig → ℕ) (d : Dev nD) :
    iprop((K (F := F)).ctx EH (P0 m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hall, Hts, -⟩, -⟩
  iapply ((K (F := F)).wp_run (D (F := F)) 𝒱 (EH := EH) (P := P0 m) κ d 0) $$ [Hst Hall Hb Hts]
  isplitr; · iexact Hctx
  isplitl [Hst]; · iexact Hst
  isplitl [Hall]
  · rw [st_eq]; iexact Hall
  iintro ⟨Hst, Hdn⟩
  ihave Hdn' := (Entails.of_eq (dn_eq (tab0 m) (idx0 m) (out0 m) d)) $$ Hdn
  imodintro
  isplitl [Hst]; · iexact Hst
  isplitl [Hdn']; · iexact Hdn'
  isplitl [Hb] <;> iassumption

def fq (d : Dev nD) (s' : Phys nD τ sig (Elt F)) : Prop :=
  s'.mem.mem (tLoc d) = m (tLoc d) ∧ s'.mem.mem (iLoc d) = m (iLoc d) ∧ s'.mem.mem (oLoc d) = want (tab0 m) (idx0 m) d

set_option maxRecDepth 16384 in
theorem hfin (d : Dev nD) (s' : Phys nD τ sig (Elt F)) : iprop(FIN m d ∗ SI s') ⊢ (⌜fq m d s'⌝ : sProp 𝕄) := by
  iintro ⟨⟨Ht, Hi, Ho⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := want (tab0 m) (idx0 m) d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

def QC : PUnit × MemSt nD τ sig (Elt F) → Prop := fun r =>
  (∀ d : Dev nD, r.2.mem (tLoc d) = m (tLoc d) ∧ r.2.mem (iLoc d) = m (iLoc d) ∧ r.2.mem (oLoc d) = want (tab0 m) (idx0 m) d) ∧ r.2.sem = fun _ => 0

/-- THE RUN: the result is the table's rows the codes name. -/
theorem run_main [∀ e, Nonempty (Elt F e)] (hok : CodesOK (idx0 m)) :
    θ_run (Cert.LookupIdeal.defs (F := F)) (Cert.LookupIdeal.threads (F := F)) ⟨m, fun _ => 0, ρ⟩ (QC m) :=
  SparseCore.Cfg.θ_run_sc_quiescent (K := K (F := F)) (D := D (F := F)) (𝒱 := 𝒱) (EH := EH) (P := P0 m) (A := ∅) facts v₀
    (fun q hq => match q with | 0 => nomatch hq)
    (fun q _ => match q with | 0 => tileObl (tab0 m) (idx0 m) (out0 m) facts hok)
    (fun q _ => match q with | 0 => SparseCore.Cfg.VecSplit.of_plain (vecSplit (tab0 m) (idx0 m) (out0 m)))
    m ρ main (fun _ => iprop(emp)) (FIN m) (u₀ (F := F)) (sep_elim_left.trans (hu₀ m)) (hmain m ρ) (fq m) (hfin m) (QC m) (fun _ h hz => ⟨h, hz⟩)

end Cert.Proof.LookupIdealRun

end
-- ==== Proof.LookupValue.lean ====
/-
  The lookup's claims: its frames at both instances, its reference's run, and their agreement on the result.
-/
module

public import proofs.«01_k».proof.Proof.LookupLaunch
public import proofs.«01_k».proof.Proof.LookupIdealLaunch
public import proofs.«01_k».proof.Proof.Take
public import proofs.«01_k».proof.Proof.Gen.LookupReferenceIdeal.Run

@[expose] public section

noncomputable section

namespace Cert.Proof.LookupClaims

open Idealize.ShloMosaic Idealize.ShloMosaic.ValueIdx Idealize.ShloMosaic.Routing Idealize.SL.Sem

/-- The lookup runs from every memory whose codes name rows, and leaves its arguments alone. -/
theorem frame : Cert.quiescent_Lookup := fun m ρ hpre =>
  (θ_run Cert.Lookup.defs _ _).mono (fun _ h => ⟨fun c => ⟨(h.1 c).1, (h.1 c).2.1⟩, h.2⟩)
    (LookupRun.run_main (F := Bits) m ρ (fun d j => LookupRun.codes_lt _ _ (hpre d) j))

/-- The same of the idealized lookup. -/
theorem frame_ideal : Cert.quiescent_LookupIdeal := fun m ρ hpre =>
  (θ_run Cert.LookupIdeal.defs _ _).mono (fun _ h => ⟨fun c => ⟨(h.1 c).1, (h.1 c).2.1⟩, h.2⟩)
    (LookupIdealRun.run_main (F := Ideal) m ρ (fun d j => LookupRun.codes_lt _ _ (hpre d) j))

/-- `jnp.take` runs and leaves its arguments alone; it declares no semaphore. -/
theorem frame_reference : Cert.quiescent_LookupReferenceIdeal := fun m ρ _ =>
  (θ_run Cert.LookupReferenceIdeal.defs _ _).mono (fun r h => ⟨fun c => (h c).2, sem_eq_zero_of_no_sems (by decide) r.2⟩)
    (Cert.LookupReferenceIdeal.Value.run m ρ)

/-- The same under the precondition, which it does not need. -/
theorem frame_reference_pre : Cert.quiescent_LookupReferenceIdeal_pre_in_rows := fun m ρ _ => frame_reference m ρ trivial

/-- The idealized lookup and `jnp.take` leave the same array. -/
theorem value : Cert.algebraic_LookupIdeal_LookupReferenceIdeal := fun m g m' g' hpre hargs => by
  have hok : ∀ (d : Dev Cert.LookupIdeal.nD) (j : Cert.LookupIdeal.S32768.Idx), (m ((d.tc : Thread Cert.LookupIdeal.nD Cert.LookupIdeal.τ).loc Cert.LookupIdeal.main_arg1) j).toNat < 1024 :=
    fun d j => LookupRun.codes_lt _ _ (hpre d) j
  refine ⟨fun d => LookupIdealRun.want (LookupIdealRun.tab0 m) (LookupIdealRun.idx0 m) d,
    (θ_run Cert.LookupIdeal.defs _ _).mono (fun _ h c => ⟨(h.1 c).2.2, (h.1 c).1, (h.1 c).2.1⟩) (LookupIdealRun.run_main (F := Ideal) m g hok),
    (θ_run Cert.LookupReferenceIdeal.defs _ _).mono (fun _ h c => ⟨(h c).1.trans ?_, (h c).2⟩) (Cert.LookupReferenceIdeal.Value.run m' g')⟩
  rw [(hargs c).1, (hargs c).2]
  funext (j : (shape2 32768 128).Idx)
  have hj := eq_ix2 j
  generalize j 0 = t at hj
  generalize j 1 = y at hj
  subst hj
  refine (Take.take_rows (m ((c.tc : Thread Cert.LookupIdeal.nD Cert.LookupIdeal.τ).loc Cert.LookupIdeal.main_arg1))
    (m ((c.tc : Thread Cert.LookupIdeal.nD Cert.LookupIdeal.τ).loc Cert.LookupIdeal.main_arg0)) _ _ rfl rfl rfl rfl rfl _ _ _ _ _ _ _ _ _ _ rfl rfl
    t y (LookupIdealRun.rowOf _) (hok c) (Nat.mod_eq_of_lt (hok c _)).symm).trans ?_
  refine congrArg _ (funext fun a => ?_)
  match a with
  | 0 => exact congrArg (fun k => LookupIdealRun.rowOf (LookupIdealRun.idx0 m c k)) (funext fun b => match b with | 0 => rfl)
  | 1 => rfl

end Cert.Proof.LookupClaims

end
-- ==== Proof.lean ====
module

public import proofs.«01_k».proof.Defs
public import proofs.«01_k».proof.Proof.KernelIdealValue
public import proofs.«01_k».proof.Proof.CodesRun
public import proofs.«01_k».proof.Proof.CodesValue
public import proofs.«01_k».proof.Proof.LookupValue
public import proofs.«01_k».proof.Proof.Gen.KernelIdeal
public import proofs.«01_k».proof.Proof.Gen.ReferenceIdeal
public import proofs.«01_k».proof.Proof.Gen.Codes
public import proofs.«01_k».proof.Proof.Gen.CodesIdeal
public import proofs.«01_k».proof.Proof.Gen.CodesReferenceIdeal
public import proofs.«01_k».proof.Proof.Gen.Lookup
public import proofs.«01_k».proof.Proof.Gen.LookupIdeal
public import proofs.«01_k».proof.Proof.Gen.LookupReferenceIdeal
public import proofs.«01_k».proof.Proof.Gen.Pre_finite
public import proofs.«01_k».proof.Proof.Gen.Pre_finite_tokens
public import proofs.«01_k».proof.Proof.Gen.Pre_in_rows

@[expose] public section

namespace Cert.Proof

/-- Everything the certificate states. -/
theorem claim : Cert.Claim :=
  ⟨Cert.KernelIdeal.Gen.facts, Cert.ReferenceIdeal.Gen.facts, Cert.Codes.Gen.facts, Cert.CodesIdeal.Gen.facts,
    Cert.CodesReferenceIdeal.Gen.facts, Cert.Lookup.Gen.facts, Cert.LookupIdeal.Gen.facts, Cert.LookupReferenceIdeal.Gen.facts,
    Cert.Pre_finite.Gen.facts, Cert.Pre_finite_tokens.Gen.facts, Cert.Pre_in_rows.Gen.facts,
    KernelClaims.frame_ideal, KernelClaims.frame_ideal_pre, KernelClaims.frame_reference, KernelClaims.frame_reference_pre,
    fun m g _ => CodesRun.frame m g, CodesClaims.frame_ideal, CodesClaims.frame_ideal_pre, CodesClaims.frame_reference, CodesClaims.frame_reference_pre,
    LookupClaims.frame, LookupClaims.frame_ideal, LookupClaims.frame_reference, LookupClaims.frame_reference_pre,
    KernelClaims.value, trivial, CodesClaims.value, trivial, LookupClaims.value⟩

end Cert.Proof

end
